-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4)
      ∧ r.2.mem ((c.tc : Thread Cert.OutKernel.nD Cert.OutKernel.τ).loc Cert.OutKernel.main_arg5) = m ((c.tc : Thread Cert.OutKernel.nD Cert.OutKernel.τ).loc Cert.OutKernel.main_arg5)
      ∧ r.2.mem ((c.tc : Thread Cert.OutKernel.nD Cert.OutKernel.τ).loc Cert.OutKernel.main_arg6) = m ((c.tc : Thread Cert.OutKernel.nD Cert.OutKernel.τ).loc Cert.OutKernel.main_arg6)
      ∧ r.2.mem ((c.tc : Thread Cert.OutKernel.nD Cert.OutKernel.τ).loc Cert.OutKernel.main_arg7) = m ((c.tc : Thread Cert.OutKernel.nD Cert.OutKernel.τ).loc Cert.OutKernel.main_arg7))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
      ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
      ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4)
      ∧ r.2.mem ((c.tc : Thread Cert.InKernel.nD Cert.InKernel.τ).loc Cert.InKernel.main_arg5) = m ((c.tc : Thread Cert.InKernel.nD Cert.InKernel.τ).loc Cert.InKernel.main_arg5)
      ∧ r.2.mem ((c.tc : Thread Cert.InKernel.nD Cert.InKernel.τ).loc Cert.InKernel.main_arg6) = m ((c.tc : Thread Cert.InKernel.nD Cert.InKernel.τ).loc Cert.InKernel.main_arg6))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
      ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
      ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4)
      ∧ r.2.mem ((c.tc : Thread Cert.InReferenceIdeal.nD Cert.InReferenceIdeal.τ).loc Cert.InReferenceIdeal.main_arg5) = m ((c.tc : Thread Cert.InReferenceIdeal.nD Cert.InReferenceIdeal.τ).loc Cert.InReferenceIdeal.main_arg5)
      ∧ r.2.mem ((c.tc : Thread Cert.InReferenceIdeal.nD Cert.InReferenceIdeal.τ).loc Cert.InReferenceIdeal.main_arg6) = m ((c.tc : Thread Cert.InReferenceIdeal.nD Cert.InReferenceIdeal.τ).loc Cert.InReferenceIdeal.main_arg6))
      ∧ r.2.sem = fun _ => 0)

def preserves_Kernel_KernelIdeal : Prop :=
  True

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)
      ∧ m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5)
      ∧ m' ((c.tc : Thread Cert.OutReferenceIdeal.nD Cert.OutReferenceIdeal.τ).loc Cert.OutReferenceIdeal.main_arg6) = m ((c.tc : Thread Cert.OutKernelIdeal.nD Cert.OutKernelIdeal.τ).loc Cert.OutKernelIdeal.main_arg6)
      ∧ m' ((c.tc : Thread Cert.OutReferenceIdeal.nD Cert.OutReferenceIdeal.τ).loc Cert.OutReferenceIdeal.main_arg7) = m ((c.tc : Thread Cert.OutKernelIdeal.nD Cert.OutKernelIdeal.τ).loc Cert.OutKernelIdeal.main_arg7)) →
    ∃ (v0 : (c : Dev Cert.OutKernelIdeal.nD) → Buf (Elt Ideal) ((c.tc : Thread Cert.OutKernelIdeal.nD Cert.OutKernelIdeal.τ).loc Cert.OutKernelIdeal.main_v3)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v3) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
          ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
          ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
          ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v48) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6)
          ∧ r.2.mem ((c.tc : Thread Cert.OutReferenceIdeal.nD Cert.OutReferenceIdeal.τ).loc Cert.OutReferenceIdeal.main_arg7) = m' ((c.tc : Thread Cert.OutReferenceIdeal.nD Cert.OutReferenceIdeal.τ).loc Cert.OutReferenceIdeal.main_arg7))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)
      ∧ m' ((c.tc : Thread Cert.InReferenceIdeal.nD Cert.InReferenceIdeal.τ).loc Cert.InReferenceIdeal.main_arg5) = m ((c.tc : Thread Cert.InKernelIdeal.nD Cert.InKernelIdeal.τ).loc Cert.InKernelIdeal.main_arg5)
      ∧ m' ((c.tc : Thread Cert.InReferenceIdeal.nD Cert.InReferenceIdeal.τ).loc Cert.InReferenceIdeal.main_arg6) = m ((c.tc : Thread Cert.InKernelIdeal.nD Cert.InKernelIdeal.τ).loc Cert.InKernelIdeal.main_arg6)) →
    ∃ (v0 : (c : Dev Cert.InKernelIdeal.nD) → Buf (Elt Ideal) ((c.tc : Thread Cert.InKernelIdeal.nD Cert.InKernelIdeal.τ).loc Cert.InKernelIdeal.main_v4_0)) (v1 : (c : Dev Cert.InKernelIdeal.nD) → Buf (Elt Ideal) ((c.tc : Thread Cert.InKernelIdeal.nD Cert.InKernelIdeal.τ).loc Cert.InKernelIdeal.main_v4_2)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v4_0) = v0 c
          ∧ r.2.mem ((c.tc : Thread Cert.InKernelIdeal.nD Cert.InKernelIdeal.τ).loc Cert.InKernelIdeal.main_v4_2) = v1 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
          ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
          ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v64) = v0 c
          ∧ r.2.mem ((c.tc : Thread Cert.InReferenceIdeal.nD Cert.InReferenceIdeal.τ).loc Cert.InReferenceIdeal.main_v66) = v1 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4)
          ∧ r.2.mem ((c.tc : Thread Cert.InReferenceIdeal.nD Cert.InReferenceIdeal.τ).loc Cert.InReferenceIdeal.main_arg5) = m' ((c.tc : Thread Cert.InReferenceIdeal.nD Cert.InReferenceIdeal.τ).loc Cert.InReferenceIdeal.main_arg5)
          ∧ r.2.mem ((c.tc : Thread Cert.InReferenceIdeal.nD Cert.InReferenceIdeal.τ).loc Cert.InReferenceIdeal.main_arg6) = m' ((c.tc : Thread Cert.InReferenceIdeal.nD Cert.InReferenceIdeal.τ).loc Cert.InReferenceIdeal.main_arg6))

def Claim : Prop :=
  ∃ (hKernel : Cert.Kernel.Facts) (hKernelIdeal : Cert.KernelIdeal.Facts) (hOutKernel : Cert.OutKernel.Facts) (hOutKernelIdeal : Cert.OutKernelIdeal.Facts) (hOutReferenceIdeal : Cert.OutReferenceIdeal.Facts) (hInKernel : Cert.InKernel.Facts) (hInKernelIdeal : Cert.InKernelIdeal.Facts) (hInReferenceIdeal : Cert.InReferenceIdeal.Facts),
    quiescent_Kernel (hKernel := hKernel)
    ∧ quiescent_KernelIdeal (hKernelIdeal := hKernelIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ preserves_Kernel_KernelIdeal
    ∧ preserves_OutKernel_OutKernelIdeal
    ∧ algebraic_OutKernelIdeal_OutReferenceIdeal (hOutKernelIdeal := hOutKernelIdeal) (hOutReferenceIdeal := hOutReferenceIdeal)
    ∧ preserves_InKernel_InKernelIdeal
    ∧ algebraic_InKernelIdeal_InReferenceIdeal (hInKernelIdeal := hInKernelIdeal) (hInReferenceIdeal := hInReferenceIdeal)
-- ==== Kernel.lean ====
abbrev S64x1024x128 : Shape := ⟨3, ![64, 1024, 128]⟩
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S1024 : Shape := ⟨1, ![1024]⟩
abbrev S64x16 : Shape := ⟨2, ![64, 16]⟩
abbrev S64x1 : Shape := ⟨2, ![64, 1]⟩
abbrev S_ : Shape := ⟨0, ![]⟩
abbrev S64x111 : Shape := ⟨2, ![64, 111]⟩
abbrev S64x128 : Shape := ⟨2, ![64, 128]⟩
abbrev S64x1x128 : Shape := ⟨3, ![64, 1, 128]⟩
abbrev S64x16x128 : Shape := ⟨3, ![64, 16, 128]⟩
abbrev S64x16x256 : Shape := ⟨3, ![64, 16, 256]⟩
abbrev S64x1x64 : Shape := ⟨3, ![64, 1, 64]⟩
abbrev S8x1024x128 : Shape := ⟨3, ![8, 1024, 128]⟩
abbrev S8x16x256 : Shape := ⟨3, ![8, 16, 256]⟩
abbrev S8x16x64 : Shape := ⟨3, ![8, 16, 64]⟩
abbrev S8x256x128 : Shape := ⟨3, ![8, 256, 128]⟩
abbrev S8x1x128 : Shape := ⟨3, ![8, 1, 128]⟩
abbrev S8x256x256 : Shape := ⟨3, ![8, 256, 256]⟩
abbrev S8x512x256 : Shape := ⟨3, ![8, 512, 256]⟩
abbrev S6144x128 : Shape := ⟨2, ![6144, 128]⟩
abbrev S1x128 : Shape := ⟨2, ![1, 128]⟩
abbrev S24x1 : Shape := ⟨2, ![24, 1]⟩
abbrev S16x256 : Shape := ⟨2, ![16, 256]⟩
abbrev S1x1x64 : Shape := ⟨3, ![1, 1, 64]⟩
abbrev S1x64 : Shape := ⟨2, ![1, 64]⟩
abbrev S1x1x1 : Shape := ⟨3, ![1, 1, 1]⟩
abbrev S1x1 : Shape := ⟨2, ![1, 1]⟩
abbrev S1x1x16 : Shape := ⟨3, ![1, 1, 16]⟩
abbrev S1x16 : Shape := ⟨2, ![1, 16]⟩
abbrev S1x240 : Shape := ⟨2, ![1, 240]⟩
abbrev S1x256 : Shape := ⟨2, ![1, 256]⟩
abbrev S1x16x64 : Shape := ⟨3, ![1, 16, 64]⟩
abbrev S16x64 : Shape := ⟨2, ![16, 64]⟩
abbrev S1x16x128 : Shape := ⟨3, ![1, 16, 128]⟩
abbrev S16x128 : Shape := ⟨2, ![16, 128]⟩
abbrev S24x128 : Shape := ⟨2, ![24, 128]⟩
abbrev S24x1x128 : Shape := ⟨3, ![24, 1, 128]⟩
abbrev S24x16x128 : Shape := ⟨3, ![24, 16, 128]⟩
abbrev S384x128 : Shape := ⟨2, ![384, 128]⟩
abbrev S256x128 : Shape := ⟨2, ![256, 128]⟩
abbrev S1x16x256 : Shape := ⟨3, ![1, 16, 256]⟩
abbrev S1x256x128 : Shape := ⟨3, ![1, 256, 128]⟩
abbrev S16x1x128 : Shape := ⟨3, ![16, 1, 128]⟩
abbrev S16x16x128 : Shape := ⟨3, ![16, 16, 128]⟩
abbrev S1x1x128 : Shape := ⟨3, ![1, 1, 128]⟩
abbrev S1x512x128 : Shape := ⟨3, ![1, 512, 128]⟩
abbrev S512x128 : Shape := ⟨2, ![512, 128]⟩
abbrev S512x256 : Shape := ⟨2, ![512, 256]⟩
abbrev S1x512x256 : Shape := ⟨3, ![1, 512, 256]⟩
abbrev S16x512 : Shape := ⟨2, ![16, 512]⟩
abbrev S1x256x256 : Shape := ⟨3, ![1, 256, 256]⟩
abbrev S256x256 : Shape := ⟨2, ![256, 256]⟩

abbrev nBuf : Space → Nat
  | .hbm => 22
  | .vmem => 23
  | .smem => 0
  | _ => 0

abbrev bufTy : (tb : Table) → Fin (tcTables nBuf tb) → BufTy
  | .hbm, ⟨0, _⟩ => ⟨S64x1024x128, .f32⟩
  | .hbm, ⟨1, _⟩ => ⟨S64x64, .f32⟩
  | .hbm, ⟨2, _⟩ => ⟨S64x64, .f32⟩
  | .hbm, ⟨3, _⟩ => ⟨S64, .f32⟩
  | .hbm, ⟨4, _⟩ => ⟨S64x64x16, .f32⟩
  | .hbm, ⟨5, _⟩ => ⟨S64x64x16, .f32⟩
  | .hbm, ⟨6, _⟩ => ⟨S64x16x64, .f32⟩
  | .hbm, ⟨7, _⟩ => ⟨S64x16x64, .f32⟩
  | .hbm, ⟨8, _⟩ => ⟨S1024, .f32⟩
  | .hbm, ⟨9, _⟩ => ⟨S64x16, .f32⟩
  | .hbm, ⟨10, _⟩ => ⟨S64x1, .f32⟩
  | .hbm, ⟨11, _⟩ => ⟨S_, .f32⟩
  | .hbm, ⟨12, _⟩ => ⟨S64x111, .f32⟩
  | .hbm, ⟨13, _⟩ => ⟨S64x128, .f32⟩
  | .hbm, ⟨14, _⟩ => ⟨S64x16x64, .f32⟩
  | .hbm, ⟨15, _⟩ => ⟨S64x16x64, .f32⟩
  | .hbm, ⟨16, _⟩ => ⟨S64x1x128, .f32⟩
  | .hbm, ⟨17, _⟩ => ⟨S64x16x128, .f32⟩
  | .hbm, ⟨18, _⟩ => ⟨S64x16x256, .f32⟩
  | .hbm, ⟨19, _⟩ => ⟨S64x1x64, .f32⟩
  | .hbm, ⟨20, _⟩ => ⟨S64x1x64, .f32⟩
  | .hbm, ⟨21, _⟩ => ⟨S64x1024x128, .f32⟩
  | .local _ .vmem, ⟨0, _⟩ => ⟨S8x1024x128, .f32⟩
  | .local _ .vmem, ⟨1, _⟩ => ⟨S8x1024x128, .f32⟩
  | .local _ .vmem, ⟨2, _⟩ => ⟨S64x1x64, .f32⟩
  | .local _ .vmem, ⟨3, _⟩ => ⟨S64x1x64, .f32⟩
  | .local _ .vmem, ⟨4, _⟩ => ⟨S8x16x256, .f32⟩
  | .local _ .vmem, ⟨5, _⟩ => ⟨S8x16x256, .f32⟩
  | .local _ .vmem, ⟨6, _⟩ => ⟨S8x16x64, .f32⟩
  | .local _ .vmem, ⟨7, _⟩ => ⟨S8x16x64, .f32⟩
  | .local _ .vmem, ⟨8, _⟩ => ⟨S8x16x64, .f32⟩
  | .local _ .vmem, ⟨9, _⟩ => ⟨S8x16x64, .f32⟩
  | .local _ .vmem, ⟨10, _⟩ => ⟨S8x1024x128, .f32⟩
  | .local _ .vmem, ⟨11, _⟩ => ⟨S8x1024x128, .f32⟩
  | .local _ .vmem, ⟨12, _⟩ => ⟨S8x16x256, .f32⟩
  | .local _ .vmem, ⟨13, _⟩ => ⟨S8x256x128, .bf16⟩
  | .local _ .vmem, ⟨14, _⟩ => ⟨S8x256x128, .bf16⟩
  | .local _ .vmem, ⟨15, _⟩ => ⟨S8x1x128, .f32⟩
  | .local _ .vmem, ⟨16, _⟩ => ⟨S8x1x128, .f32⟩
  | .local _ .vmem, ⟨17, _⟩ => ⟨S8x256x256, .bf16⟩
  | .local _ .vmem, ⟨18, _⟩ => ⟨S8x512x256, .bf16⟩
  | .local _ .vmem, ⟨19, _⟩ => ⟨S8x512x256, .f32⟩
  | .local _ .vmem, ⟨20, _⟩ => ⟨S6144x128, .f32⟩
  | .local _ .vmem, ⟨21, _⟩ => ⟨S6144x128, .f32⟩
  | .local _ .vmem, ⟨22, _⟩ => ⟨S6144x128, .f32⟩
  | _, _ => ⟨S64x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_scratch9 : Ref sig .tc := ⟨.vmem, 21, rfl⟩
abbrev cc0_scratch10 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def k0_off1 (i : grid0.Coords) (c0_i32 : BitVec 32) : Fin 3 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v12 : Index := Scalar.indexCast v1
  let c0 : Index := 0#32
  let c0_1 : Index := 0#32
  ![v12.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x16x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x16x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutKernel.lean ====
abbrev S8192x1024 : Shape := ⟨2, ![8192, 1024]⟩
abbrev S64x1024x128 : Shape := ⟨3, ![64, 1024, 128]⟩
abbrev S2x4096x2048 : Shape := ⟨3, ![2, 4096, 2048]⟩
abbrev S1024x1024 : Shape := ⟨2, ![1024, 1024]⟩
abbrev S1024 : Shape := ⟨1, ![1024]⟩
abbrev S2048x2048 : Shape := ⟨2, ![2048, 2048]⟩
abbrev S2048 : Shape := ⟨1, ![2048]⟩
abbrev S8192x2048 : Shape := ⟨2, ![8192, 2048]⟩
abbrev S1x1024 : Shape := ⟨2, ![1, 1024]⟩
abbrev S1x2048 : Shape := ⟨2, ![1, 2048]⟩
abbrev S512x1024 : Shape := ⟨2, ![512, 1024]⟩
abbrev S64x64x128 : Shape := ⟨3, ![64, 64, 128]⟩
abbrev S512x2048 : Shape := ⟨2, ![512, 2048]⟩
abbrev S8x512x128 : Shape := ⟨3, ![8, 512, 128]⟩
abbrev S2x256x1024 : Shape := ⟨3, ![2, 256, 1024]⟩
abbrev S256x1024 : Shape := ⟨2, ![256, 1024]⟩
abbrev S1024x512 : Shape := ⟨2, ![1024, 512]⟩
abbrev S256x512 : Shape := ⟨2, ![256, 512]⟩
abbrev S1x32x128 : Shape := ⟨3, ![1, 32, 128]⟩
abbrev S32x128 : Shape := ⟨2, ![32, 128]⟩
abbrev S1x128 : Shape := ⟨2, ![1, 128]⟩
abbrev S1x256x128 : Shape := ⟨3, ![1, 256, 128]⟩
abbrev S256x128 : Shape := ⟨2, ![256, 128]⟩
abbrev S256x256 : Shape := ⟨2, ![256, 256]⟩
abbrev S1x256x1024 : Shape := ⟨3, ![1, 256, 1024]⟩
abbrev S256x2048 : Shape := ⟨2, ![256, 2048]⟩
abbrev S256 : Shape := ⟨1, ![256]⟩
abbrev S256x1 : Shape := ⟨2, ![256, 1]⟩

abbrev nBuf : Space → Nat
  | .hbm => 12
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S64x1024x128, .f32⟩
  | .hbm, ⟨2, _⟩ => ⟨S8192x1024, .bf16⟩
  | .hbm, ⟨3, _⟩ => ⟨S2x4096x2048, .f32⟩
  | .hbm, ⟨4, _⟩ => ⟨S1024x1024, .bf16⟩
  | .hbm, ⟨5, _⟩ => ⟨S1024, .f32⟩
  | .hbm, ⟨6, _⟩ => ⟨S2048x2048, .bf16⟩
  | .hbm, ⟨7, _⟩ => ⟨S2048, .f32⟩
  | .hbm, ⟨8, _⟩ => ⟨S8192x2048, .f32⟩
  | .hbm, ⟨9, _⟩ => ⟨S1x1024, .f32⟩
  | .hbm, ⟨10, _⟩ => ⟨S1x2048, .f32⟩
  | .hbm, ⟨11, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S64x64x128, .f32⟩
  | .local _ .vmem, ⟨3, _⟩ => ⟨S64x64x128, .f32⟩
  | .local _ .vmem, ⟨4, _⟩ => ⟨S512x1024, .bf16⟩
  | .local _ .vmem, ⟨5, _⟩ => ⟨S512x1024, .bf16⟩
  | .local _ .vmem, ⟨6, _⟩ => ⟨S512x2048, .f32⟩
  | .local _ .vmem, ⟨7, _⟩ => ⟨S512x2048, .f32⟩
  | .local _ .vmem, ⟨8, _⟩ => ⟨S1024x1024, .bf16⟩
  | .local _ .vmem, ⟨9, _⟩ => ⟨S1x1024, .f32⟩
  | .local _ .vmem, ⟨10, _⟩ => ⟨S2048x2048, .bf16⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | .local _ .vmem, ⟨14, _⟩ => ⟨S8x512x128, .f32⟩
  | .local _ .vmem, ⟨15, _⟩ => ⟨S2x256x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutReferenceIdeal.lean ====
abbrev S8192x1024 : Shape := ⟨2, ![8192, 1024]⟩
abbrev S64x1024x128 : Shape := ⟨3, ![64, 1024, 128]⟩
abbrev S2x4096x2048 : Shape := ⟨3, ![2, 4096, 2048]⟩
abbrev S1024x1024 : Shape := ⟨2, ![1024, 1024]⟩
abbrev S1024 : Shape := ⟨1, ![1024]⟩
abbrev S2048x2048 : Shape := ⟨2, ![2048, 2048]⟩
abbrev S2048 : Shape := ⟨1, ![2048]⟩
abbrev S64x1024x8x16 : Shape := ⟨4, ![64, 1024, 8, 16]⟩
abbrev S1024x8x64x16 : Shape := ⟨4, ![1024, 8, 64, 16]⟩
abbrev S_ : Shape := ⟨0, ![]⟩
abbrev S1x1024 : Shape := ⟨2, ![1, 1024]⟩
abbrev S8192x2048 : Shape := ⟨2, ![8192, 2048]⟩
abbrev S8192 : Shape := ⟨1, ![8192]⟩
abbrev S8192x1 : Shape := ⟨2, ![8192, 1]⟩
abbrev S1x2048 : Shape := ⟨2, ![1, 2048]⟩

abbrev nBuf : Space → Nat
  | .hbm => 66
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S64x1024x128, .f32⟩
  | .hbm, ⟨2, _⟩ => ⟨S8192x1024, .bf16⟩
  | .hbm, ⟨3, _⟩ => ⟨S2x4096x2048, .f32⟩
  | .hbm, ⟨4, _⟩ => ⟨S1024x1024, .bf16⟩
  | .hbm, ⟨5, _⟩ => ⟨S1024, .f32⟩
  | .hbm, ⟨6, _⟩ => ⟨S2048x2048, .bf16⟩
  | .hbm, ⟨7, _⟩ => ⟨S2048, .f32⟩
  | .hbm, ⟨8, _⟩ => ⟨S64x1024x8x16, .f32⟩
  | .hbm, ⟨9, _⟩ => ⟨S1024x8x64x16, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S1024x1024, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x2048, .f32⟩
  | .hbm, ⟨46, _⟩ => ⟨S2048x2048, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x1, .f32⟩
  | .hbm, ⟨59, _⟩ => ⟨S8192x2048, .f32⟩
  | .hbm, ⟨60, _⟩ => ⟨S8192x2048, .f32⟩
  | .hbm, ⟨61, _⟩ => ⟨S8192x2048, .f32⟩
  | .hbm, ⟨62, _⟩ => ⟨S1x2048, .f32⟩
  | .hbm, ⟨63, _⟩ => ⟨S8192x2048, .f32⟩
  | .hbm, ⟨64, _⟩ => ⟨S8192x2048, .f32⟩
  | .hbm, ⟨65, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== InKernel.lean ====
abbrev S2x4096x2048 : Shape := ⟨3, ![2, 4096, 2048]⟩
abbrev S2048 : Shape := ⟨1, ![2048]⟩
abbrev S2048x6144 : Shape := ⟨2, ![2048, 6144]⟩
abbrev S3x1024 : Shape := ⟨2, ![3, 1024]⟩
abbrev S1024 : Shape := ⟨1, ![1024]⟩
abbrev S1024x1024 : Shape := ⟨2, ![1024, 1024]⟩
abbrev S2048x2048 : Shape := ⟨2, ![2048, 2048]⟩
abbrev S8192x2048 : Shape := ⟨2, ![8192, 2048]⟩
abbrev S1x2048 : Shape := ⟨2, ![1, 2048]⟩
abbrev S1x1024 : Shape := ⟨2, ![1, 1024]⟩
abbrev S4x512x6144 : Shape := ⟨3, ![4, 512, 6144]⟩
abbrev S8192x1024 : Shape := ⟨2, ![8192, 1024]⟩
abbrev S64x1024x128 : Shape := ⟨3, ![64, 1024, 128]⟩
abbrev S512x2048 : Shape := ⟨2, ![512, 2048]⟩
abbrev S64x1024 : Shape := ⟨2, ![64, 1024]⟩
abbrev S128x2048 : Shape := ⟨2, ![128, 2048]⟩
abbrev S512x1024 : Shape := ⟨2, ![512, 1024]⟩
abbrev S64x64x128 : Shape := ⟨3, ![64, 64, 128]⟩
abbrev S8x1024 : Shape := ⟨2, ![8, 1024]⟩
abbrev S8x512x128 : Shape := ⟨3, ![8, 512, 128]⟩
abbrev S2x5x512x256 : Shape := ⟨4, ![2, 5, 512, 256]⟩
abbrev S6 : Shape := ⟨1, ![6]⟩
abbrev S1 : Shape := ⟨1, ![1]⟩
abbrev S_ : Shape := ⟨0, ![]⟩
abbrev S1x4x512x128 : Shape := ⟨4, ![1, 4, 512, 128]⟩
abbrev S4x512x128 : Shape := ⟨3, ![4, 512, 128]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S2048x256 : Shape := ⟨2, ![2048, 256]⟩
abbrev S512x256 : Shape := ⟨2, ![512, 256]⟩
abbrev S1x1x512x256 : Shape := ⟨4, ![1, 1, 512, 256]⟩
abbrev S1x64x128 : Shape := ⟨3, ![1, 64, 128]⟩
abbrev S64x128 : Shape := ⟨2, ![64, 128]⟩
abbrev S1x128 : Shape := ⟨2, ![1, 128]⟩
abbrev S1x1x512x128 : Shape := ⟨4, ![1, 1, 512, 128]⟩
abbrev S8x128 : Shape := ⟨2, ![8, 128]⟩
abbrev S520x128 : Shape := ⟨2, ![520, 128]⟩

abbrev nBuf : Space → Nat
  | .hbm => 16
  | .vmem => 23
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x6144, .f32⟩
  | .hbm, ⟨3, _⟩ => ⟨S3x1024, .f32⟩
  | .hbm, ⟨4, _⟩ => ⟨S1024, .f32⟩
  | .hbm, ⟨5, _⟩ => ⟨S1024x1024, .f32⟩
  | .hbm, ⟨6, _⟩ => ⟨S2048x2048, .f32⟩
  | .hbm, ⟨7, _⟩ => ⟨S8192x2048, .f32⟩
  | .hbm, ⟨8, _⟩ => ⟨S1x2048, .f32⟩
  | .hbm, ⟨9, _⟩ => ⟨S1x1024, .f32⟩
  | .hbm, ⟨10, _⟩ => ⟨S4x512x6144, .f32⟩
  | .hbm, ⟨11, _⟩ => ⟨S8192x1024, .bf16⟩
  | .hbm, ⟨12, _⟩ => ⟨S64x1024x128, .f32⟩
  | .hbm, ⟨13, _⟩ => ⟨S8192x1024, .bf16⟩
  | .hbm, ⟨14, _⟩ => ⟨S1024x1024, .bf16⟩
  | .hbm, ⟨15, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S3x1024, .f32⟩
  | .local _ .vmem, ⟨4, _⟩ => ⟨S1x1024, .f32⟩
  | .local _ .vmem, ⟨5, _⟩ => ⟨S64x1024, .f32⟩
  | .local _ .vmem, ⟨6, _⟩ => ⟨S64x1024, .f32⟩
  | .local _ .vmem, ⟨7, _⟩ => ⟨S128x2048, .f32⟩
  | .local _ .vmem, ⟨8, _⟩ => ⟨S128x2048, .f32⟩
  | .local _ .vmem, ⟨9, _⟩ => ⟨S512x1024, .bf16⟩
  | .local _ .vmem, ⟨10, _⟩ => ⟨S512x1024, .bf16⟩
  | .local _ .vmem, ⟨11, _⟩ => ⟨S64x64x128, .f32⟩
  | .local _ .vmem, ⟨12, _⟩ => ⟨S64x64x128, .f32⟩
  | .local _ .vmem, ⟨13, _⟩ => ⟨S512x1024, .bf16⟩
  | .local _ .vmem, ⟨14, _⟩ => ⟨S512x1024, .bf16⟩
  | .local _ .vmem, ⟨15, _⟩ => ⟨S64x1024, .bf16⟩
  | .local _ .vmem, ⟨16, _⟩ => ⟨S64x1024, .bf16⟩
  | .local _ .vmem, ⟨17, _⟩ => ⟨S128x2048, .bf16⟩
  | .local _ .vmem, ⟨18, _⟩ => ⟨S128x2048, .bf16⟩
  | .local _ .vmem, ⟨19, _⟩ => ⟨S8x1024, .f32⟩
  | .local _ .vmem, ⟨20, _⟩ => ⟨S8x512x128, .f32⟩
  | .local _ .vmem, ⟨21, _⟩ => ⟨S2x5x512x256, .f32⟩
  | .local _ .vmem, ⟨22, _⟩ => ⟨S2048x6144, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InReferenceIdeal.lean ====
abbrev S2x4096x2048 : Shape := ⟨3, ![2, 4096, 2048]⟩
abbrev S2048 : Shape := ⟨1, ![2048]⟩
abbrev S2048x6144 : Shape := ⟨2, ![2048, 6144]⟩
abbrev S3x1024 : Shape := ⟨2, ![3, 1024]⟩
abbrev S1024 : Shape := ⟨1, ![1024]⟩
abbrev S1024x1024 : Shape := ⟨2, ![1024, 1024]⟩
abbrev S2048x2048 : Shape := ⟨2, ![2048, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x6144 : Shape := ⟨3, ![2, 4096, 6144]⟩
abbrev S2x4096x4096 : Shape := ⟨3, ![2, 4096, 4096]⟩
abbrev S2x4096x1024 : Shape := ⟨3, ![2, 4096, 1024]⟩
abbrev S2x4098x1024 : Shape := ⟨3, ![2, 4098, 1024]⟩
abbrev S1x1x1024 : Shape := ⟨3, ![1, 1, 1024]⟩
abbrev S1x1024 : Shape := ⟨2, ![1, 1024]⟩
abbrev S8192x1024 : Shape := ⟨2, ![8192, 1024]⟩

abbrev nBuf : Space → Nat
  | .hbm => 82
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x6144, .f32⟩
  | .hbm, ⟨3, _⟩ => ⟨S3x1024, .f32⟩
  | .hbm, ⟨4, _⟩ => ⟨S1024, .f32⟩
  | .hbm, ⟨5, _⟩ => ⟨S1024x1024, .f32⟩
  | .hbm, ⟨6, _⟩ => ⟨S2048x2048, .f32⟩
  | .hbm, ⟨7, _⟩ => ⟨S2x4096x2048, .f32⟩
  | .hbm, ⟨8, _⟩ => ⟨S_, .f32⟩
  | .hbm, ⟨9, _⟩ => ⟨S2x4096, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x1, .f32⟩
  | .hbm, ⟨18, _⟩ => ⟨S2x4096x2048, .f32⟩
  | .hbm, ⟨19, _⟩ => ⟨S2x4096x2048, .f32⟩
  | .hbm, ⟨20, _⟩ => ⟨S1x1x2048, .f32⟩
  | .hbm, ⟨21, _⟩ => ⟨S2x4096x2048, .f32⟩
  | .hbm, ⟨22, _⟩ => ⟨S2x4096x2048, .f32⟩
  | .hbm, ⟨23, _⟩ => ⟨S2x4096x6144, .f32⟩
  | .hbm, ⟨24, _⟩ => ⟨S2x4096x4096, .f32⟩
  | .hbm, ⟨25, _⟩ => ⟨S2x4096x1024, .f32⟩
  | .hbm, ⟨26, _⟩ => ⟨S2x4096x1024, .f32⟩
  | .hbm, ⟨27, _⟩ => ⟨S2x4096x1024, .f32⟩
  | .hbm, ⟨28, _⟩ => ⟨S2x4096x1024, .f32⟩
  | .hbm, ⟨29, _⟩ => ⟨S2x4096x2048, .f32⟩
  | .hbm, ⟨30, _⟩ => ⟨S2x4096x1024, .f32⟩
  | .hbm, ⟨31, _⟩ => ⟨S2x4096x1024, .f32⟩
  | .hbm, ⟨32, _⟩ => ⟨S2x4096x1024, .f32⟩
  | .hbm, ⟨33, _⟩ => ⟨S_, .f32⟩
  | .hbm, ⟨34, _⟩ => ⟨S2x4098x1024, .f32⟩
  | .hbm, ⟨35, _⟩ => ⟨S1x1x1024, .f32⟩
  | .hbm, ⟨36, _⟩ => ⟨S1x1024, .f32⟩
  | .hbm, ⟨37, _⟩ => ⟨S1024, .f32⟩
  | .hbm, ⟨38, _⟩ => ⟨S1x1x1024, .f32⟩
  | .hbm, ⟨39, _⟩ => ⟨S2x4096x1024, .f32⟩
  | .hbm, ⟨40, _⟩ => ⟨S2x4096x1024, .f32⟩
  | .hbm, ⟨41, _⟩ => ⟨S2x4096x1024, .f32⟩
  | .hbm, ⟨42, _⟩ => ⟨S2x4096x1024, .f32⟩
  | .hbm, ⟨43, _⟩ => ⟨S2x4096x1024, .f32⟩
  | .hbm, ⟨44, _⟩ => ⟨S1x1024, .f32⟩
  | .hbm, ⟨45, _⟩ => ⟨S1024, .f32⟩
  | .hbm, ⟨46, _⟩ => ⟨S1x1x1024, .f32⟩
  | .hbm, ⟨47, _⟩ => ⟨S2x4096x1024, .f32⟩
  | .hbm, ⟨48, _⟩ => ⟨S2x4096x1024, .f32⟩
  | .hbm, ⟨49, _⟩ => ⟨S2x4096x1024, .f32⟩
  | .hbm, ⟨50, _⟩ => ⟨S2x4096x1024, .f32⟩
  | .hbm, ⟨51, _⟩ => ⟨S1x1024, .f32⟩
  | .hbm, ⟨52, _⟩ => ⟨S1024, .f32⟩
  | .hbm, ⟨53, _⟩ => ⟨S1x1x1024, .f32⟩
  | .hbm, ⟨54, _⟩ => ⟨S2x4096x1024, .f32⟩
  | .hbm, ⟨55, _⟩ => ⟨S2x4096x1024, .f32⟩
  | .hbm, ⟨56, _⟩ => ⟨S2x4096x1024, .f32⟩
  | .hbm, ⟨57, _⟩ => ⟨S2x4096x1024, .f32⟩
  | .hbm, ⟨58, _⟩ => ⟨S2x4096x1024, .f32⟩
  | .hbm, ⟨59, _⟩ => ⟨S2x4096x1024, .f32⟩
  | .hbm, ⟨60, _⟩ => ⟨S2x4096x1024, .f32⟩
  | .hbm, ⟨61, _⟩ => ⟨S_, .f32⟩
  | .hbm, ⟨62, _⟩ => ⟨S2x4096x1024, .f32⟩
  | .hbm, ⟨63, _⟩ => ⟨S2x4096x1024, .f32⟩
  | .hbm, ⟨64, _⟩ => ⟨S_, .f32⟩
  | .hbm, ⟨65, _⟩ => ⟨S2x4096x1024, .f32⟩
  | .hbm, ⟨66, _⟩ => ⟨S2x4096x1024, .f32⟩
  | .hbm, ⟨67, _⟩ => ⟨S2x4096x1024, .f32⟩
  | .hbm, ⟨68, _⟩ => ⟨S2x4096x1024, .f32⟩
  | .hbm, ⟨69, _⟩ => ⟨S2x4096x1024, .f32⟩
  | .hbm, ⟨70, _⟩ => ⟨S2x4096x1024, .f32⟩
  | .hbm, ⟨71, _⟩ => ⟨S_, .f32⟩
  | .hbm, ⟨72, _⟩ => ⟨S2x4096x1024, .f32⟩
  | .hbm, ⟨73, _⟩ => ⟨S2x4096x1024, .f32⟩
  | .hbm, ⟨74, _⟩ => ⟨S_, .f32⟩
  | .hbm, ⟨75, _⟩ => ⟨S2x4096x1024, .f32⟩
  | .hbm, ⟨76, _⟩ => ⟨S2x4096x1024, .f32⟩
  | .hbm, ⟨77, _⟩ => ⟨S2x4096x1024, .f32⟩
  | .hbm, ⟨78, _⟩ => ⟨S8192x1024, .f32⟩
  | .hbm, ⟨79, _⟩ => ⟨S8192x1024, .bf16⟩
  | .hbm, ⟨80, _⟩ => ⟨S8192x1024, .f32⟩
  | .hbm, ⟨81, _⟩ => ⟨S8192x1024, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_3 : Ref sig .tc := ⟨.hbm, 61, rfl⟩
abbrev main_v50 : Ref sig .tc := ⟨.hbm, 62, rfl⟩
abbrev main_v51 : Ref sig .tc := ⟨.hbm, 63, rfl⟩
abbrev main_cst_4 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_5 : Ref sig .tc := ⟨.hbm, 71, rfl⟩
abbrev main_v58 : Ref sig .tc := ⟨.hbm, 72, rfl⟩
abbrev main_v59 : Ref sig .tc := ⟨.hbm, 73, rfl⟩
abbrev main_cst_6 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩

abbrev nD : Nat := 1
abbrev τ : Topo := Topo.v7x

variable {F : FTy → Type} [FloatOps F]
-- ==== Proof.ScanRunIdeal.lean ====
/-
  The scan kernel's body, run once at symbolic operands: from its six input blocks held at given contents and the
  output block and the eleven scratch buffers at anything, the body ends with the inputs as they were.
-/
module

public import proofs.«01_k».proof.Proof.Gen.KernelIdeal.Frame
public import proofs.«01_k».proof.Proof.Gen.KernelIdeal.Skeleton

@[expose] public section

set_option maxRecDepth 16384

noncomputable section

namespace Cert.KernelIdeal.Scan

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option sl_exec.stridedRows true in
set_option maxHeartbeats 8000000 in
/-- The body's run: every load and store of it is in range of what it holds, and it gives all it was given back —
    the inputs unchanged, the output block and the scratch buffers at some contents. -/
theorem scan_run (c : Dev nD) (i : grid0.Coords) (arg1 : Memref sig .tc .vmem S8x1024x128 .f32) (harg1 : arg1.IsWhole) (arg2 : Memref sig .tc .vmem S64x1x64 .f32) (harg2 : arg2.IsWhole) (arg3 : Memref sig .tc .vmem S64x1x64 .f32) (harg3 : arg3.IsWhole) (arg4 : Memref sig .tc .vmem S8x16x256 .f32) (harg4 : arg4.IsWhole) (arg5 : Memref sig .tc .vmem S8x16x64 .f32) (harg5 : arg5.IsWhole) (arg6 : Memref sig .tc .vmem S8x16x64 .f32) (harg6 : arg6.IsWhole) (arg7 : Memref sig .tc .vmem S8x1024x128 .f32) (harg7 : arg7.IsWhole) (arg8 : Memref sig .tc .vmem S8x16x256 .f32) (harg8 : arg8.IsWhole) (arg9 : Memref sig .tc .vmem S8x256x128 .bf16) (harg9 : arg9.IsWhole) (arg10 : Memref sig .tc .vmem S8x256x128 .bf16) (harg10 : arg10.IsWhole) (arg11 : Memref sig .tc .vmem S8x1x128 .f32) (harg11 : arg11.IsWhole) (arg12 : Memref sig .tc .vmem S8x1x128 .f32) (harg12 : arg12.IsWhole) (arg13 : Memref sig .tc .vmem S8x256x256 .bf16) (harg13 : arg13.IsWhole) (arg14 : Memref sig .tc .vmem S8x512x256 .bf16) (harg14 : arg14.IsWhole) (arg15 : Memref sig .tc .vmem S8x512x256 .f32) (harg15 : arg15.IsWhole) (arg16 : Memref sig .tc .vmem S6144x128 .f32) (harg16 : arg16.IsWhole) (arg17 : Memref sig .tc .vmem S6144x128 .f32) (harg17 : arg17.IsWhole) (arg18 : Memref sig .tc .vmem S6144x128 .f32) (harg18 : arg18.IsWhole)
    (x0 : Vec F S8x1024x128 .f32) (x1 : Vec F S64x1x64 .f32) (x2 : Vec F S64x1x64 .f32) (x3 : Vec F S8x16x256 .f32) (x4 : Vec F S8x16x64 .f32) (x5 : Vec F S8x16x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
      ⊢ wp frame (wpE (defs₀ (F := F)) Variants.none c none) E (cc0_s5_core i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec_parts
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _, _; isplitr; swap; · iexact H17
  ipureintro; rfl

end Cert.KernelIdeal.Scan

end
-- ==== Proof.ScanFrameIdeal.lean ====
/-
  The scan call's frame: the pipeline over its eight blocks of groups terminates, every argument array ends as it was
  launched and every semaphore counter at zero. Nothing is said here of the output array.
-/
module

public import proofs.«01_k».proof.Proof.ScanRunIdeal
public import Idealize.ShloMosaic.Lib.Claim
public import proofs.«01_k».proof.Proof.Gen.KernelIdeal.Launch
public import proofs.«01_k».proof.Proof.Gen.KernelIdeal.Points

@[expose] public section

set_option maxRecDepth 16384

noncomputable section

namespace Cert.KernelIdeal.Scan

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 0's staging buffer at point `t`. -/
abbrev ms0 (t : Fin cfg0.N) : Memref sig .tc .vmem S8x1024x128 .f32 := win0_0.stage (cfg0.slots t 0)
/-- Window 1's staging buffer at point `t`. -/
abbrev ms1 (t : Fin cfg0.N) : Memref sig .tc .vmem S64x1x64 .f32 := win0_1.stage (cfg0.slots t 1)
/-- Window 2's staging buffer at point `t`. -/
abbrev ms2 (t : Fin cfg0.N) : Memref sig .tc .vmem S64x1x64 .f32 := win0_2.stage (cfg0.slots t 2)
/-- Window 3's staging buffer at point `t`. -/
abbrev ms3 (t : Fin cfg0.N) : Memref sig .tc .vmem S8x16x256 .f32 := win0_3.stage (cfg0.slots t 3)
/-- Window 4's staging buffer at point `t`. -/
abbrev ms4 (t : Fin cfg0.N) : Memref sig .tc .vmem S8x16x64 .f32 := win0_4.stage (cfg0.slots t 4)
/-- Window 5's staging buffer at point `t`. -/
abbrev ms5 (t : Fin cfg0.N) : Memref sig .tc .vmem S8x16x64 .f32 := win0_5.stage (cfg0.slots t 5)
/-- Window 6's staging buffer at point `t`. -/
abbrev ms6 (t : Fin cfg0.N) : Memref sig .tc .vmem S8x1024x128 .f32 := win0_6.stage (cfg0.slots t 6)

/-- Scratch buffer 0, whole. -/
abbrev sc0 : Memref sig .tc .vmem S8x16x256 .f32 := Memref.whole cc0_scratch0
/-- Scratch buffer 1, whole. -/
abbrev sc1 : Memref sig .tc .vmem S8x256x128 .bf16 := Memref.whole cc0_scratch1
/-- Scratch buffer 2, whole. -/
abbrev sc2 : Memref sig .tc .vmem S8x256x128 .bf16 := Memref.whole cc0_scratch2
/-- Scratch buffer 3, whole. -/
abbrev sc3 : Memref sig .tc .vmem S8x1x128 .f32 := Memref.whole cc0_scratch3
/-- Scratch buffer 4, whole. -/
abbrev sc4 : Memref sig .tc .vmem S8x1x128 .f32 := Memref.whole cc0_scratch4
/-- Scratch buffer 5, whole. -/
abbrev sc5 : Memref sig .tc .vmem S8x256x256 .bf16 := Memref.whole cc0_scratch5
/-- Scratch buffer 6, whole. -/
abbrev sc6 : Memref sig .tc .vmem S8x512x256 .bf16 := Memref.whole cc0_scratch6
/-- Scratch buffer 7, whole. -/
abbrev sc7 : Memref sig .tc .vmem S8x512x256 .f32 := Memref.whole cc0_scratch7
/-- Scratch buffer 8, whole. -/
abbrev sc8 : Memref sig .tc .vmem S6144x128 .f32 := Memref.whole cc0_scratch8
/-- Scratch buffer 9, whole. -/
abbrev sc9 : Memref sig .tc .vmem S6144x128 .f32 := Memref.whole cc0_scratch9
/-- Scratch buffer 10, whole. -/
abbrev sc10 : Memref sig .tc .vmem S6144x128 .f32 := Memref.whole cc0_scratch10

/-- The region's invariant, its scratch buffers spelled as memrefs held at some contents. -/
theorem inv_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d) ∗ (∃ d, owns (c : Thread nD τ) sc10 fullShare d)) ∗ (∃ r, prngReg c r)) := by
  unfold Pipeline.ΦA; rw [scopedRest0_eq]; simp only [sc0, sc1, sc2, sc3, sc4, sc5, sc6, sc7, sc8, sc9, sc10, owns_whole]; try rfl

/-- The output window: nothing is claimed of what the kernel leaves there. -/
def outOnly : Fin 7 → Bool := fun w => w.val == 6

/-- What the pipeline of core `c` holds: the arrays as the region finds them, each input's buffer at its block after
    every point, the output's at contents nothing names. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- What the body is given at point `t`. -/
def pre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare d))

/-- What it gives back. -/
def post (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ (∃ d, owns (c : Thread nD τ) (ms6 t) fullShare d))

set_option maxHeartbeats 1600000 in
/-- The body at any point of the grid. -/
theorem body_ok (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5]
  rw [show (dats m 0 c).Φ t.castSucc = Pipeline.ΦA spec0 c from rfl, inv_eq]
  iintro ⟨⟨⟨S0, S1, S2, S3, S4, S5, S6, S7, S8, S9, S10⟩, Hg⟩, Ho, ⟨%d0, H0⟩, ⟨%d1, H1⟩, ⟨%d2, H2⟩, ⟨%d3, H3⟩, ⟨%d4, H4⟩, ⟨%d5, H5⟩, ⟨%d6, H6⟩⟩
  iapply (scan_run c (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  iintro ⟨H0, H1, H2, H3, H4, H5, H6, S0, S1, S2, S3, S4, S5, S6, S7, S8, S9, S10⟩
  isplitl [S0 S1 S2 S3 S4 S5 S6 S7 S8 S9 S10 Hg]
  · isplitl [S0 S1 S2 S3 S4 S5 S6 S7 S8 S9 S10]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      iexact S10
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row is the body as `bodyAt0` spells it. -/
theorem row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ outOnly := fun t => by
  rw [bigSep_W0, bigSep_W0, row]
  exact triple_restated (body_ok m c t) rfl .rfl fun _ => .rfl

set_option backward.isDefEq.respectTransparency.types false in
/-- The launch: it terminates, with the inputs' arrays and every buffer outside the pipeline as the region found them. -/
theorem launched : θ_run defs (onTc (τ := τ) (main (F := F))) (s₀ m ρ) (fun r => (Pipeline.RDat.FramePost (cfgs 0) (fun c => (dats m 0 c).toRForget outOnly) (V m)) r ∧ r.2.sem = fun _ => 0) :=
  Pipeline.θ_run_frame_forget (Q' := _) cfgs (dats m) (0 : Fin 1) launch0 defs₀ Variants.none outOnly m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The frame: every argument array unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and ((θ_run defs _ _).mono (fun _ h c => by
    replace h := h.1
    exact ⟨(Pipeline.RDat.FramePost.arr_in h c 0 rfl).trans ((A_eq m c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      (Pipeline.RDat.FramePost.arr_in h c 4 rfl).trans ((A_eq m c 4).trans (V_main_arg6 m c)),
      (Pipeline.RDat.FramePost.arr_in h c 5 rfl).trans ((A_eq m c 5).trans (V_main_arg7 m c)),
      ((h c).2 main_arg8 (Pipeline.mem_restRefs_of main_arg8 (by decide) (by decide))).trans (V_main_arg8 m c)⟩) (launched m ρ))
    ((θ_run defs _ _).mono (fun _ h => h.2) (launched m ρ))

end Cert.KernelIdeal.Scan

end
-- ==== Proof.OutTile.lean ====
/-
  What the lane-block transposition of eight [32, 128] arrays computes.

  The kernel holds the recurrence's output channel block by channel block: a row of one array is eight tokens of one
  group of sixteen channels, sixteen lanes a token. It turns eight such arrays (eight neighbouring groups) into eight
  arrays of which a row is ONE token of the eight groups, by selections on the bits of the lane's block number and by
  rotations of the lanes. `tok` is that network and `tok_apply` what it reads.
-/
module

public import proofs.«01_k».proof.Proof.Gen.OutKernelIdeal.Value
public import Idealize.ShloMosaic.Lib.Pipeline.ValueKit
public import Idealize.ShloMosaic.Lib.ValueIdxCore

@[expose] public section

set_option maxRecDepth 16384

noncomputable section

namespace Cert.OutKernelIdeal.Mix

open Cert.OutKernelIdeal Cert.OutKernelIdeal.Gen Idealize.ShloMosaic.TcCoe Idealize.SL.Sem
open Idealize.ShloMosaic hiding ix2 ix3
open Idealize.ShloMosaic.ValueIdx (ix2)

/-- The number of the sixteen-lane block a lane lies in, as the kernel computes it: the quotient of the lane by 16,
    rounded down. -/
def laneBlk : IVec S1x128 32 :=
  let n : IVec S1x128 32 := iota Kind.tc S1x128 32 [1] iota_S1x128_d1_w32
  let z : IVec S1x128 32 := broadcast S1x128 0#32
  let o : IVec S1x128 32 := broadcast S1x128 1#32
  let w : IVec S1x128 32 := broadcast S1x128 16#32
  let sgn : IVec S1x128 32 := subi (extui 32 (cmpi .sgt n z) (by decide)) (extui 32 (cmpi .slt n z) (by decide))
  select (andi (cmpi .ne sgn o) (cmpi .ne (remsi n w) z)) (subi (divsi n w) o) (divsi n w)

/-- The word 0 or 1 on every lane. -/
abbrev bit (b : Bool) : IVec S1x128 32 := broadcast S1x128 (bif b then 1#32 else 0#32)

/-- The three bits of the block number. -/
def bit0 : IVec S1x128 32 := andi laneBlk (bit true)
def bit1 : IVec S1x128 32 := andi (shrsi laneBlk (bit true)) (bit true)
def bit2 : IVec S1x128 32 := andi (shrsi laneBlk (broadcast S1x128 2#32)) (bit true)

/-- The carry into the second bit of block number plus `k`, and into the third. -/
def carry0 (k0 : Bool) : IVec S1x128 32 := andi bit0 (bit k0)
def carry1 (k0 k1 : Bool) : IVec S1x128 32 :=
  ori (ori (andi bit1 (bit k1)) (andi bit1 (carry0 k0))) (andi (bit k1) (carry0 k0))

/-- Where a word is one. -/
def isOne (e : IVec S1x128 32) : IVec S1x128 1 := shapeCast S1x128 (cmpi .eq e (bit true)) shapeCasts_S1x128_S1x128

/-- The three bits of the sum of the block number and `k`. -/
def sum0 (k0 : Bool) : IVec S1x128 1 := isOne (xori bit0 (bit k0))
def sum1 (k0 k1 : Bool) : IVec S1x128 1 := isOne (xori (xori bit1 (bit k1)) (carry0 k0))
def sum2 (k0 k1 k2 : Bool) : IVec S1x128 1 := isOne (xori (xori bit2 (bit k2)) (carry1 k0 k1))

/-- On each lane one of two arrays. -/
def pick {α : Type} (b : IVec S1x128 1) (x y : S32x128.Idx → α) : S32x128.Idx → α :=
  select (broadcastTo S32x128 b broadcasts_S1x128_S32x128) x y

/-- The array whose lane `l` is lane `l` of array (block of `l` + k) mod 8. -/
def diag {α : Type} (k0 k1 k2 : Bool) (x0 x1 x2 x3 x4 x5 x6 x7 : S32x128.Idx → α) : S32x128.Idx → α :=
  pick (sum2 k0 k1 k2)
    (pick (sum1 k0 k1) (pick (sum0 k0) x7 x6) (pick (sum0 k0) x5 x4))
    (pick (sum1 k0 k1) (pick (sum0 k0) x3 x2) (pick (sum0 k0) x1 x0))

/-- The lanes rotated by `n`. -/
def rot {α : Type} (n : BitVec 32) (x : S32x128.Idx → α) : S32x128.Idx → α := dynamicRotate 1 n none x (by decide)

/-- The diagonals, diagonal `d` rotated by `d` blocks, gathered along diagonal `k` again. -/
def back {α : Type} (k0 k1 k2 : Bool) (x0 x1 x2 x3 x4 x5 x6 x7 : S32x128.Idx → α) : S32x128.Idx → α :=
  diag k0 k1 k2
    (diag false false false x0 x1 x2 x3 x4 x5 x6 x7)
    (rot 16#32 (diag true false false x0 x1 x2 x3 x4 x5 x6 x7))
    (rot 32#32 (diag false true false x0 x1 x2 x3 x4 x5 x6 x7))
    (rot 48#32 (diag true true false x0 x1 x2 x3 x4 x5 x6 x7))
    (rot 64#32 (diag false false true x0 x1 x2 x3 x4 x5 x6 x7))
    (rot 80#32 (diag true false true x0 x1 x2 x3 x4 x5 x6 x7))
    (rot 96#32 (diag false true true x0 x1 x2 x3 x4 x5 x6 x7))
    (rot 112#32 (diag true true true x0 x1 x2 x3 x4 x5 x6 x7))

/-- Output array `t` of the transposition: diagonal −t of the second gathering. -/
def tok {α : Type} (t : Fin 8) (x : Fin 8 → S32x128.Idx → α) : S32x128.Idx → α :=
  let k := (8 - t.val) % 8
  back (k.testBit 0) (k.testBit 1) (k.testBit 2) (x 0) (x 1) (x 2) (x 3) (x 4) (x 5) (x 6) (x 7)

/-- Two arrays related along a row: `x` on row `r` is `φ` of `x'` on row 0. -/
def Rel {α β : Type} (φ : β → α) (r : Fin 32) (x : S32x128.Idx → α) (x' : S32x128.Idx → β) : Prop :=
  ∀ l : Fin 128, x (ix2 r l) = φ (x' (ix2 (0 : Fin 32) l))

variable {α β : Type} {φ : β → α} {r : Fin 32}

theorem pick_rel (b : IVec S1x128 1) {x y : S32x128.Idx → α} {x' y' : S32x128.Idx → β} (hx : Rel φ r x x') (hy : Rel φ r y y') :
    Rel φ r (pick b x y) (pick b x' y') := fun l => by
  have hb : broadcastTo S32x128 b broadcasts_S1x128_S32x128 (ix2 r l) = broadcastTo S32x128 b broadcasts_S1x128_S32x128 (ix2 (0 : Fin 32) l) := by
    unfold broadcastTo
    refine congrArg b (funext fun a => ?_)
    match a with
    | ⟨0, _⟩ => rfl
    | ⟨1, _⟩ => rfl
  show Scalar.select _ (x _) (y _) = φ (Scalar.select _ (x' _) (y' _))
  rw [hx l, hy l, hb]
  unfold Scalar.select
  split <;> rfl

/-- A rotation reads its row at a rotated lane. -/
theorem rot_apply (n : BitVec 32) (x : S32x128.Idx → α) (r : Fin 32) (l : Fin 128) :
    rot n x (ix2 r l) = x (ix2 r ⟨(l.val + 128 - n.toNat % 128) % 128, Nat.mod_lt _ (by decide)⟩) := by
  unfold rot dynamicRotate
  refine congrArg x (funext fun a => ?_)
  match a with
  | ⟨0, _⟩ => rfl
  | ⟨1, _⟩ => rfl

theorem rot_rel (n : BitVec 32) {x : S32x128.Idx → α} {x' : S32x128.Idx → β} (hx : Rel φ r x x') : Rel φ r (rot n x) (rot n x') :=
  fun l => by rw [rot_apply, rot_apply]; exact hx _

theorem diag_rel (k0 k1 k2 : Bool) {x0 x1 x2 x3 x4 x5 x6 x7 : S32x128.Idx → α} {y0 y1 y2 y3 y4 y5 y6 y7 : S32x128.Idx → β}
    (h0 : Rel φ r x0 y0) (h1 : Rel φ r x1 y1) (h2 : Rel φ r x2 y2) (h3 : Rel φ r x3 y3)
    (h4 : Rel φ r x4 y4) (h5 : Rel φ r x5 y5) (h6 : Rel φ r x6 y6) (h7 : Rel φ r x7 y7) :
    Rel φ r (diag k0 k1 k2 x0 x1 x2 x3 x4 x5 x6 x7) (diag k0 k1 k2 y0 y1 y2 y3 y4 y5 y6 y7) :=
  pick_rel _ (pick_rel _ (pick_rel _ h7 h6) (pick_rel _ h5 h4)) (pick_rel _ (pick_rel _ h3 h2) (pick_rel _ h1 h0))

theorem tok_rel (t : Fin 8) {x : Fin 8 → S32x128.Idx → α} {x' : Fin 8 → S32x128.Idx → β} (h : ∀ i, Rel φ r (x i) (x' i)) :
    Rel φ r (tok t x) (tok t x') := by
  have hd := fun k0 k1 k2 => diag_rel k0 k1 k2 (h 0) (h 1) (h 2) (h 3) (h 4) (h 5) (h 6) (h 7)
  exact diag_rel _ _ _ (hd _ _ _) (rot_rel _ (hd _ _ _)) (rot_rel _ (hd _ _ _)) (rot_rel _ (hd _ _ _)) (rot_rel _ (hd _ _ _))
    (rot_rel _ (hd _ _ _)) (rot_rel _ (hd _ _ _)) (rot_rel _ (hd _ _ _))

/-- The network run on the array number and the lane themselves. -/
theorem tok_src : ∀ (t : Fin 8) (l : Fin 128),
    tok (α := Nat × Nat) t (fun g j => (g.val, (j 1).val)) (ix2 (0 : Fin 32) l) = (l.val / 16, t.val * 16 + l.val % 16) := by
  decide +kernel

end Cert.OutKernelIdeal.Mix

end
-- ==== Proof.OutSlab.lean ====
/-
  The slab: the recurrence's output, token by token, as the kernel's strided stores leave it and its loads read it.
-/
module

public import proofs.«01_k».proof.Proof.OutTile

@[expose] public section

set_option maxRecDepth 16384

noncomputable section

namespace Cert.OutKernelIdeal.Mix

open Cert.OutKernelIdeal Cert.OutKernelIdeal.Gen Idealize.ShloMosaic Idealize.ShloMosaic.TcCoe Idealize.SL.Sem

variable {F : FTy → Type} [FloatOps F]

/-- The rectangle a store of the slab writes: token `t` of every row of eight, of half `p` of the tile, for the eight
    groups `g`. -/
def slabRect (p : Fin 2) (g t : Fin 8) : Rect S8x512x128 where
  off := ![g.val, p.val * 256 + t.val, 0]
  size := S1x32x128.size
  stride := ![1, 8, 1]
  inb a := by
    match a with
    | ⟨0, _⟩ => exact Or.inr (show g.val + 1 * (1 - 1) < 8 by omega)
    | ⟨1, _⟩ => exact Or.inr (show p.val * 256 + t.val + 8 * (32 - 1) < 512 by omega)
    | ⟨2, _⟩ => exact Or.inr (show 0 + 1 * (128 - 1) < 128 by omega)
  stride_pos a := by
    match a with
    | ⟨0, _⟩ => exact (by decide : 0 < 1)
    | ⟨1, _⟩ => exact (by decide : 0 < 8)
    | ⟨2, _⟩ => exact (by decide : 0 < 1)

/-- Where the kernel loads group `g * 8 + i`, half `p` of the tile. -/
def groupRect (p : Fin 2) (g i : Fin 8) : Rect S64x64x128 :=
  Rect.unit ![g.val * 8 + i.val, p.val * 32, 0] S1x32x128.size fun a => by
    match a with
    | ⟨0, _⟩ => show g.val * 8 + i.val + 1 ≤ 64; omega
    | ⟨1, _⟩ => show p.val * 32 + 32 ≤ 64; omega
    | ⟨2, _⟩ => exact (by decide : 0 + 128 ≤ 128)

/-- One of the eight arrays a transposition takes, as loaded. -/
def group (arg2 : Memref sig Kind.tc Space.vmem S64x64x128 EltTy.f32) (h : arg2.IsWhole) (x : Vec F S64x64x128 EltTy.f32)
    (p : Fin 2) (g i : Fin 8) : S32x128.Idx → F .f32 :=
  shapeCast S32x128 (View.readAt (Elt F) arg2.view (groupRect p g i).toLoadRect (h.unread x)) shapeCasts_S1x32x128_S32x128

/-- One store of the slab. -/
def slabPiece (arg2 : Memref sig Kind.tc Space.vmem S64x64x128 EltTy.f32) (h : arg2.IsWhole) (x : Vec F S64x64x128 EltTy.f32)
    (p : Fin 2) (g t : Fin 8) : View.Piece (Elt F) S8x512x128 .f32 :=
  ⟨slabRect p g t, shapeCast S1x32x128 (tok t (group arg2 h x p g)) shapeCasts_S32x128_S1x32x128⟩

/-- The first `n` stores, the last first. -/
def slabPieces (arg2 : Memref sig Kind.tc Space.vmem S64x64x128 EltTy.f32) (h : arg2.IsWhole) (x : Vec F S64x64x128 EltTy.f32) :
    Nat → List (View.Piece (Elt F) S8x512x128 .f32)
  | 0 => []
  | n + 1 => slabPiece arg2 h x ⟨n / 64 % 2, Nat.mod_lt _ (by decide)⟩ ⟨n / 8 % 8, Nat.mod_lt _ (by decide)⟩
      ⟨n % 8, Nat.mod_lt _ (by decide)⟩ :: slabPieces arg2 h x n

variable (c : Dev nD) (arg2 : Memref sig Kind.tc Space.vmem S64x64x128 EltTy.f32) (h : arg2.IsWhole) (x : Vec F S64x64x128 EltTy.f32)

set_option maxHeartbeats 2000000 in
theorem slab16 : kernelRun0_A.sl.HS0_16 c arg2 h x = slabPieces arg2 h x 16 := rfl
set_option maxHeartbeats 2000000 in
theorem slab32 : kernelRun0_A.sl.HS0_32 c arg2 h x = slabPieces arg2 h x 32 := rfl
set_option maxHeartbeats 2000000 in
theorem slab48 : kernelRun0_A.sl.HS0_48 c arg2 h x = slabPieces arg2 h x 48 := rfl
set_option maxHeartbeats 2000000 in
theorem slab64 : kernelRun0_A.sl.HS0_64 c arg2 h x = slabPieces arg2 h x 64 := rfl
set_option maxHeartbeats 2000000 in
theorem slab80 : kernelRun0_A.sl.HS0_80 c arg2 h x = slabPieces arg2 h x 80 := rfl
set_option maxHeartbeats 2000000 in
theorem slab96 : kernelRun0_A.sl.HS0_96 c arg2 h x = slabPieces arg2 h x 96 := rfl
set_option maxHeartbeats 2000000 in
theorem slab112 : kernelRun0_A.sl.HS0_112 c arg2 h x = slabPieces arg2 h x 112 := rfl
set_option maxHeartbeats 2000000 in
theorem slab128 : kernelRun0_A.sl.HS0_128 c arg2 h x = slabPieces arg2 h x 128 := rfl

end Cert.OutKernelIdeal.Mix

end
-- ==== Proof.OutSlabAt.lean ====
/-
  What the slab holds: at group block `g`, token `n` and lane `l`, channel `l % 16` of group `g * 8 + l / 16` at token `n`.
-/
module

public import proofs.«01_k».proof.Proof.OutSlab
public import Idealize.ShloMosaic.Lib.WholeRead
public import Idealize.ShloMosaic.Lib.ValueLayout

@[expose] public section

set_option maxRecDepth 16384

noncomputable section

namespace Cert.OutKernelIdeal.Mix

open Cert.OutKernelIdeal Cert.OutKernelIdeal.Gen Idealize.ShloMosaic.TcCoe Idealize.SL.Sem
open Idealize.ShloMosaic hiding ix2 ix3
open Idealize.ShloMosaic.ValueIdx (ix2 ix3)

/-- What the transposition reads: output array `t` at row `r`, lane `l` is input array `l / 16` at the same row, lane
    `t * 16 + l % 16`. -/
theorem tok_apply {α : Type} (t : Fin 8) (x : Fin 8 → S32x128.Idx → α) (r : Fin 32) (l : Fin 128) :
    tok t x (ix2 r l) = x ⟨l.val / 16, by omega⟩ (ix2 r ⟨t.val * 16 + l.val % 16, by omega⟩) := by
  let φ : Nat × Nat → α := fun q => x ⟨q.1 % 8, Nat.mod_lt _ (by decide)⟩ (ix2 r ⟨q.2 % 128, Nat.mod_lt _ (by decide)⟩)
  have hrel : ∀ i, Rel φ r (x i) ((fun (g : Fin 8) (j : S32x128.Idx) => (g.val, (j 1).val)) i) := fun i l' => by
    show x i (ix2 r l') = x ⟨i.val % 8, _⟩ (ix2 r ⟨l'.val % 128, _⟩)
    have e1 : (⟨i.val % 8, Nat.mod_lt _ (by decide)⟩ : Fin 8) = i := Fin.ext (Nat.mod_eq_of_lt i.isLt)
    have e2 : (⟨l'.val % 128, Nat.mod_lt _ (by decide)⟩ : Fin 128) = l' := Fin.ext (Nat.mod_eq_of_lt l'.isLt)
    rw [e1, e2]
  rw [tok_rel t hrel l, tok_src t l]
  show x ⟨l.val / 16 % 8, _⟩ (ix2 r ⟨(t.val * 16 + l.val % 16) % 128, _⟩) = _
  have e1 : (⟨l.val / 16 % 8, Nat.mod_lt _ (by decide)⟩ : Fin 8) = ⟨l.val / 16, by omega⟩ := Fin.ext (Nat.mod_eq_of_lt (by omega))
  have e2 : (⟨(t.val * 16 + l.val % 16) % 128, Nat.mod_lt _ (by decide)⟩ : Fin 128) = ⟨t.val * 16 + l.val % 16, by omega⟩ :=
    Fin.ext (Nat.mod_eq_of_lt (by omega))
  rw [e1, e2]

variable {F : FTy → Type} [FloatOps F]
variable (arg2 : Memref sig Kind.tc Space.vmem S64x64x128 EltTy.f32) (h : arg2.IsWhole) (x : Vec F S64x64x128 EltTy.f32)

theorem group_apply (p : Fin 2) (g i : Fin 8) (r : Fin 32) (l : Fin 128) :
    group arg2 h x p g i (ix2 r l) = x (ix3 ⟨g.val * 8 + i.val, by omega⟩ ⟨p.val * 32 + r.val, by omega⟩ l) := by
  unfold group
  refine (ValueIdx.shapeCast_1ab_ab_apply _ _ r l).trans ?_
  refine (h.readAt_unread x (groupRect p g i).toLoadRect _).trans ?_
  refine congrArg x (funext fun a => ?_)
  match a with
  | ⟨0, _⟩ => exact Fin.ext (show g.val * 8 + i.val + 1 * 0 = g.val * 8 + i.val by omega)
  | ⟨1, _⟩ => exact Fin.ext (show p.val * 32 + 1 * r.val = p.val * 32 + r.val by omega)
  | ⟨2, _⟩ => exact Fin.ext (show 0 + 1 * l.val = l.val by omega)

/-- The slab's contents: token `n`, group block `g`, lane `l`. -/
def slabAt (x : Vec F S64x64x128 EltTy.f32) (y : S8x512x128.Idx) : F .f32 :=
  x (ix3 ⟨(y 0).val * 8 + (y 2).val / 16, by have h0 : (y 0).val < 8 := (y 0).isLt; have h2 : (y 2).val < 128 := (y 2).isLt; omega⟩
    ⟨(y 1).val / 8, by have h1 : (y 1).val < 512 := (y 1).isLt; omega⟩
    ⟨(y 1).val % 8 * 16 + (y 2).val % 16, by omega⟩)

theorem slabPiece_apply (p : Fin 2) (g t : Fin 8) (j : (slabPiece arg2 h x p g t).1.shape.Idx) :
    (slabPiece arg2 h x p g t).2 j = slabAt x ((slabPiece arg2 h x p g t).1.emb j) := by
  have h0 : (j 0).val < 1 := (j 0).isLt
  have h1 : (j 1).val < 32 := (j 1).isLt
  have h2 : (j 2).val < 128 := (j 2).isLt
  have ej : j = (ix3 (0 : Fin 1) (⟨(j 1).val, h1⟩ : Fin 32) (⟨(j 2).val, h2⟩ : Fin 128) : S1x32x128.Idx) := by
    funext a
    match a with
    | ⟨0, _⟩ => exact Fin.ext (show (j 0).val = 0 by omega)
    | ⟨1, _⟩ => rfl
    | ⟨2, _⟩ => rfl
  have e : (slabPiece arg2 h x p g t).2 (ix3 (0 : Fin 1) (⟨(j 1).val, h1⟩ : Fin 32) (⟨(j 2).val, h2⟩ : Fin 128) : S1x32x128.Idx)
      = tok t (group arg2 h x p g) (ix2 (⟨(j 1).val, h1⟩ : Fin 32) (⟨(j 2).val, h2⟩ : Fin 128)) :=
    ValueIdx.shapeCast_ab_1ab_apply (tok t (group arg2 h x p g)) shapeCasts_S32x128_S1x32x128 (0 : Fin 1) _ _
  have v0 : ((slabPiece arg2 h x p g t).1.emb j 0).val = g.val + 1 * (j 0).val := rfl
  have v1 : ((slabPiece arg2 h x p g t).1.emb j 1).val = p.val * 256 + t.val + 8 * (j 1).val := rfl
  have v2 : ((slabPiece arg2 h x p g t).1.emb j 2).val = 0 + 1 * (j 2).val := rfl
  have el : (slabPiece arg2 h x p g t).2 j = (slabPiece arg2 h x p g t).2 (ix3 (0 : Fin 1) (⟨(j 1).val, h1⟩ : Fin 32) (⟨(j 2).val, h2⟩ : Fin 128) : S1x32x128.Idx) :=
    congrArg _ ej
  rw [el, e, tok_apply, group_apply]
  unfold slabAt
  refine congrArg x (funext fun a => ?_)
  match a with
  | ⟨0, _⟩ => exact Fin.ext (show g.val * 8 + (j 2).val / 16 = _ * 8 + _ / 16 by rw [v0, v2]; omega)
  | ⟨1, _⟩ => exact Fin.ext (show p.val * 32 + (j 1).val = _ / 8 by rw [v1]; omega)
  | ⟨2, _⟩ => exact Fin.ext (show t.val * 16 + (j 2).val % 16 = _ % 8 * 16 + _ % 16 by rw [v1, v2]; omega)

theorem slabPieces_apply (n : Nat) : ∀ q ∈ slabPieces arg2 h x n, ∀ j : q.1.shape.Idx, q.2 j = slabAt x (q.1.emb j) := by
  induction n with
  | zero => intro q hq; exact absurd hq List.not_mem_nil
  | succ n ih =>
    intro q hq
    rcases List.mem_cons.1 hq with rfl | hq
    · exact slabPiece_apply arg2 h x _ _ _
    · exact ih q hq

theorem slabPiece_mem (n k : Nat) (hk : k < n) : slabPiece arg2 h x ⟨k / 64 % 2, Nat.mod_lt _ (by decide)⟩
    ⟨k / 8 % 8, Nat.mod_lt _ (by decide)⟩ ⟨k % 8, Nat.mod_lt _ (by decide)⟩ ∈ slabPieces arg2 h x n := by
  induction n with
  | zero => omega
  | succ n ih =>
    rcases Nat.lt_succ_iff_lt_or_eq.1 hk with hk | rfl
    · exact List.mem_cons_of_mem _ (ih hk)
    · exact List.mem_cons_self

/-- An index the first `n` stores reach reads the slab's contents. -/
theorem slab_canon (n : Nat) (y : S8x512x128.Idx) (hy : (y 1).val / 256 * 64 + (y 0).val * 8 + (y 1).val % 8 < n) :
    View.canon (slabPieces arg2 h x n) y = slabAt x y := by
  refine View.canon_apply_of_pieces (slabAt x) _ (slabPieces_apply arg2 h x n) y ⟨_, slabPiece_mem arg2 h x n _ hy, ?_⟩
  have h0 : (y 0).val < 8 := (y 0).isLt
  have h1 : (y 1).val < 512 := (y 1).isLt
  have h2 : (y 2).val < 128 := (y 2).isLt
  rw [LoadRect.mem_set]
  intro a
  match a with
  | ⟨0, _⟩ => exact ⟨0, Nat.one_pos, show (y 0).val = _ / 8 % 8 + 1 * 0 by omega⟩
  | ⟨1, _⟩ => exact ⟨(y 1).val % 256 / 8, show (y 1).val % 256 / 8 < 32 by omega,
      show (y 1).val = (_ / 64 % 2) * 256 + _ % 8 + 8 * ((y 1).val % 256 / 8) by omega⟩
  | ⟨2, _⟩ => exact ⟨(y 2).val, h2, show (y 2).val = 0 + 1 * (y 2).val by omega⟩

/-- Where the kernel loads half `p` of group block `g`. -/
def slabLoadRect (p : Fin 2) (g : Fin 8) : Rect S8x512x128 :=
  Rect.unit ![g.val, p.val * 256, 0] S1x256x128.size fun a => by
    match a with
    | ⟨0, _⟩ => show g.val + 1 ≤ 8; omega
    | ⟨1, _⟩ => show p.val * 256 + 256 ≤ 512; omega
    | ⟨2, _⟩ => exact (by decide : 0 + 128 ≤ 128)

/-- Half `p` of group block `g` of the slab. -/
def slabLoad (x : Vec F S64x64x128 EltTy.f32) (p : Fin 2) (g : Fin 8) : Vec F S1x256x128 .f32 := fun j =>
  slabAt x (ix3 g ⟨p.val * 256 + (j 1).val, by have h1 : (j 1).val < 256 := (j 1).isLt; omega⟩ (j 2))

/-- A load of half `p` of group block `g` after the stores of that block. -/
theorem slab_load (v : View sig Kind.tc Space.vmem S8x512x128 EltTy.f32) (L : List (View.Piece (Elt F) S8x512x128 .f32)) (n : Nat)
    (hL : L = slabPieces arg2 h x n) (p : Fin 2) (g : Fin 8) (hn : p.val * 64 + g.val * 8 + 8 ≤ n) :
    v.readCov L (slabLoadRect p g).toLoadRect = slabLoad x p g := by
  subst hL
  rw [View.readCov_eq_canon']
  funext j
  have h0 : (j 0).val < 1 := (j 0).isLt
  have h1 : (j 1).val < 256 := (j 1).isLt
  have e : (slabLoadRect p g).toLoadRect.idx j = ix3 g ⟨p.val * 256 + (j 1).val, by omega⟩ (j 2) := by
    funext a
    match a with
    | ⟨0, _⟩ => exact Fin.ext (show g.val + 1 * (j 0).val = g.val by omega)
    | ⟨1, _⟩ => exact Fin.ext (show p.val * 256 + 1 * (j 1).val = p.val * 256 + (j 1).val by omega)
    | ⟨2, _⟩ => exact Fin.ext (show 0 + 1 * (j 2).val = (j 2).val by omega)
  rw [e]
  exact slab_canon arg2 h x n _ (show (p.val * 256 + (j 1).val) / 256 * 64 + g.val * 8 + (p.val * 256 + (j 1).val) % 8 < n by omega)

end Cert.OutKernelIdeal.Mix

end
-- ==== Proof.OutAct.lean ====
/-
  The gated activations as whole vectors: what the kernel stores of half `p` of a tile in its second scratch buffer.
-/
module

public import proofs.«01_k».proof.Proof.OutSlabAt

@[expose] public section

set_option maxRecDepth 16384

noncomputable section

namespace Cert.OutKernelIdeal.Mix

open Cert.OutKernelIdeal Cert.OutKernelIdeal.Gen Idealize.ShloMosaic.TcCoe Idealize.SL.Sem
open Idealize.ShloMosaic hiding ix2 ix3
open Idealize.ShloMosaic.ValueIdx (ix2 ix3)

variable {F : FTy → Type} [FloatOps F]

/-- A constant over a block of 256 tokens and 256 channels. -/
abbrev kst (b : BitVec 32) : FVec F S256x256 .f32 := broadcast S256x256 (FloatOps.ofBits FTy.f32 b)

/-- Two loads of the slab side by side, through the activation. -/
def act (u w : Vec F S1x256x128 .f32) : FVec F S256x256 .f32 :=
  let v : FVec F S256x256 .f32 := concatenate S256x256 1 [⟨S256x128, shapeCast S256x128 u shapeCasts_S1x256x128_S256x128⟩,
    ⟨S256x128, shapeCast S256x128 w shapeCasts_S1x256x128_S256x128⟩] concatenates_S256x128_S256x128_S256x256_d1
  mulf v (mulf (kst 1056964608#32) (addf (kst 1065353216#32) (tanh (mulf (kst 1061962282#32)
    (addf v (mulf (kst 1027024659#32) (mulf v (mulf v v))))))))

/-- One step of the gate's projection: 256 of its 1024 terms. -/
def step (s : FVec F S256x1024 .f32) (a : FVec F S256x256 .f32) (w : Vec F S256x1024 .bf16) : FVec F S256x1024 .f32 :=
  addf s (matmul dot_S256x256_S256x1024_S256x1024_1_0_0_1_n_n none (truncf .bf16 a bitsLt_bf16_f32) w (constant S256x1024 .f32 0#32))

/-- The gated activations of half a tile. -/
def gated (b : Vec F S1x1024 .f32) (a0 a1 a2 a3 : FVec F S256x256 .f32) (w0 w1 w2 w3 z : Vec F S256x1024 .bf16) :
    FVec F S1x256x1024 .bf16 :=
  shapeCast S1x256x1024 (truncf .bf16 (mulf (mulf
    (concatenate S256x1024 1 [⟨S256x256, a0⟩, ⟨S256x256, a1⟩, ⟨S256x256, a2⟩, ⟨S256x256, a3⟩]
      concatenates_S256x256_S256x256_S256x256_S256x256_S256x1024_d1)
    (logistic (step (step (step (step (broadcastTo S256x1024 (shapeCast S1x1024 b shapeCasts_S1x1024_S1x1024) broadcasts_S1x1024_S256x1024)
      a0 w0) a1 w1) a2 w2) a3 w3))) (extf .f32 z bitsLt_bf16_f32)) bitsLt_bf16_f32) shapeCasts_S256x1024_S1x256x1024

variable (c : Dev nD) (arg2 : Memref sig Kind.tc Space.vmem S64x64x128 EltTy.f32) (h2 : arg2.IsWhole)
  (arg3 : Memref sig Kind.tc Space.vmem S512x1024 EltTy.bf16) (h3 : arg3.IsWhole)
  (arg5 : Memref sig Kind.tc Space.vmem S1024x1024 EltTy.bf16) (h5 : arg5.IsWhole)
  (arg6 : Memref sig Kind.tc Space.vmem S1x1024 EltTy.f32) (h6 : arg6.IsWhole)
  (arg10 : Memref sig Kind.tc Space.vmem S8x512x128 EltTy.f32)
  (x1 : Vec F S64x64x128 .f32) (x2 : Vec F S512x1024 .bf16) (x4 : Vec F S1024x1024 .bf16) (x5 : Vec F S1x1024 .f32)

/-- Rows `256 * k` to `256 * k + 255` of the gate's weights, as loaded. -/
def gateRows (k : Fin 4) : Vec F S256x1024 .bf16 :=
  View.readAt (Elt F) arg5.view (Rect.unit ![k.val * 256, 0] S256x1024.size (fun a => by
    match a with
    | ⟨0, _⟩ => show k.val * 256 + 256 ≤ 1024; omega
    | ⟨1, _⟩ => exact (by decide : 0 + 1024 ≤ 1024)) : Rect S1024x1024).toLoadRect (h5.unread x4)

/-- The other branch's gate on half `p` of the tile, as loaded. -/
def zRows (p : Fin 2) : Vec F S256x1024 .bf16 :=
  View.readAt (Elt F) arg3.view (Rect.unit ![p.val * 256, 0] S256x1024.size (fun a => by
    match a with
    | ⟨0, _⟩ => show p.val * 256 + 256 ≤ 512; omega
    | ⟨1, _⟩ => exact (by decide : 0 + 1024 ≤ 1024)) : Rect S512x1024).toLoadRect (h3.unread x2)

/-- The bias, as loaded. -/
def biasRow : Vec F S1x1024 .f32 :=
  View.readAt (Elt F) arg6.view (Rect.unit ![0, 0] S1x1024.size (fun a => by
    match a with
    | ⟨0, _⟩ => exact (by decide : 0 + 1 ≤ 1)
    | ⟨1, _⟩ => exact (by decide : 0 + 1024 ≤ 1024)) : Rect S1x1024).toLoadRect (h6.unread x5)

/-- The second scratch buffer's contents for half `p`. -/
def gatedAt (p : Fin 2) : FVec F S1x256x1024 .bf16 :=
  gated (biasRow arg6 h6 x5)
    (act (slabLoad x1 p 0) (slabLoad x1 p 1)) (act (slabLoad x1 p 2) (slabLoad x1 p 3))
    (act (slabLoad x1 p 4) (slabLoad x1 p 5)) (act (slabLoad x1 p 6) (slabLoad x1 p 7))
    (gateRows arg5 h5 x4 0) (gateRows arg5 h5 x4 1) (gateRows arg5 h5 x4 2) (gateRows arg5 h5 x4 3) (zRows arg3 h3 x2 p)

open kernelRun0_A in
theorem gated0_words : k0_pay821 (sl.r_38 c arg2 h2 arg3 h3 arg5 h5 arg6 h6 arg10 x1 x2 x4 x5)
    = gated (biasRow arg6 h6 x5)
    (act (sl.v1248 c arg2 h2 arg10 x1) (sl.v1250 c arg2 h2 arg10 x1)) (act (sl.v2513 c arg2 h2 arg10 x1) (sl.v2515 c arg2 h2 arg10 x1))
    (act (sl.v3781 c arg2 h2 arg10 x1) (sl.v3783 c arg2 h2 arg10 x1)) (act (sl.v5049 c arg2 h2 arg10 x1) (sl.v5051 c arg2 h2 arg10 x1))
    (gateRows arg5 h5 x4 0) (gateRows arg5 h5 x4 1) (gateRows arg5 h5 x4 2) (gateRows arg5 h5 x4 3) (zRows arg3 h3 x2 0) := rfl

open kernelRun0_A in
theorem gated1_words : k0_pay1648 (sl.r_70 c arg2 h2 arg5 h5 arg6 h6 arg10 x1 x4 x5) (sl.r_71 c arg2 h2 arg10 x1) (zRows arg3 h3 x2 1)
    = gated (biasRow arg6 h6 x5)
    (act (sl.v6337 c arg2 h2 arg10 x1) (sl.v6339 c arg2 h2 arg10 x1)) (act (sl.v7610 c arg2 h2 arg10 x1) (sl.v7612 c arg2 h2 arg10 x1))
    (act (sl.v8890 c arg2 h2 arg10 x1) (sl.v8892 c arg2 h2 arg10 x1)) (act (sl.v10158 c arg2 h2 arg10 x1) (sl.v10160 c arg2 h2 arg10 x1))
    (gateRows arg5 h5 x4 0) (gateRows arg5 h5 x4 1) (gateRows arg5 h5 x4 2) (gateRows arg5 h5 x4 3) (zRows arg3 h3 x2 1) := rfl

/-- Half 0's gated activations are the buffer's contents for half 0, -/
theorem gated0_eq : k0_pay821 (kernelRun0_A.sl.r_38 c arg2 h2 arg3 h3 arg5 h5 arg6 h6 arg10 x1 x2 x4 x5)
    = gatedAt arg3 h3 arg5 h5 arg6 h6 x1 x2 x4 x5 0 := by
  have e0 : kernelRun0_A.sl.v1248 c arg2 h2 arg10 x1 = slabLoad x1 0 0 := slab_load arg2 h2 x1 arg10.view _ 16 (slab16 c arg2 h2 x1) 0 0 (by decide)
  have e1 : kernelRun0_A.sl.v1250 c arg2 h2 arg10 x1 = slabLoad x1 0 1 := slab_load arg2 h2 x1 arg10.view _ 16 (slab16 c arg2 h2 x1) 0 1 (by decide)
  have e2 : kernelRun0_A.sl.v2513 c arg2 h2 arg10 x1 = slabLoad x1 0 2 := slab_load arg2 h2 x1 arg10.view _ 32 (slab32 c arg2 h2 x1) 0 2 (by decide)
  have e3 : kernelRun0_A.sl.v2515 c arg2 h2 arg10 x1 = slabLoad x1 0 3 := slab_load arg2 h2 x1 arg10.view _ 32 (slab32 c arg2 h2 x1) 0 3 (by decide)
  have e4 : kernelRun0_A.sl.v3781 c arg2 h2 arg10 x1 = slabLoad x1 0 4 := slab_load arg2 h2 x1 arg10.view _ 48 (slab48 c arg2 h2 x1) 0 4 (by decide)
  have e5 : kernelRun0_A.sl.v3783 c arg2 h2 arg10 x1 = slabLoad x1 0 5 := slab_load arg2 h2 x1 arg10.view _ 48 (slab48 c arg2 h2 x1) 0 5 (by decide)
  have e6 : kernelRun0_A.sl.v5049 c arg2 h2 arg10 x1 = slabLoad x1 0 6 := slab_load arg2 h2 x1 arg10.view _ 64 (slab64 c arg2 h2 x1) 0 6 (by decide)
  have e7 : kernelRun0_A.sl.v5051 c arg2 h2 arg10 x1 = slabLoad x1 0 7 := slab_load arg2 h2 x1 arg10.view _ 64 (slab64 c arg2 h2 x1) 0 7 (by decide)
  refine (gated0_words c arg2 h2 arg3 h3 arg5 h5 arg6 h6 arg10 x1 x2 x4 x5).trans ?_
  unfold gatedAt
  rw [e0, e1, e2, e3, e4, e5, e6, e7]

/-- and half 1's those for half 1. -/
theorem gated1_eq : k0_pay1648 (kernelRun0_A.sl.r_70 c arg2 h2 arg5 h5 arg6 h6 arg10 x1 x4 x5) (kernelRun0_A.sl.r_71 c arg2 h2 arg10 x1) (zRows arg3 h3 x2 1)
    = gatedAt arg3 h3 arg5 h5 arg6 h6 x1 x2 x4 x5 1 := by
  have e0 : kernelRun0_A.sl.v6337 c arg2 h2 arg10 x1 = slabLoad x1 1 0 := slab_load arg2 h2 x1 arg10.view _ 80 (slab80 c arg2 h2 x1) 1 0 (by decide)
  have e1 : kernelRun0_A.sl.v6339 c arg2 h2 arg10 x1 = slabLoad x1 1 1 := slab_load arg2 h2 x1 arg10.view _ 80 (slab80 c arg2 h2 x1) 1 1 (by decide)
  have e2 : kernelRun0_A.sl.v7610 c arg2 h2 arg10 x1 = slabLoad x1 1 2 := slab_load arg2 h2 x1 arg10.view _ 96 (slab96 c arg2 h2 x1) 1 2 (by decide)
  have e3 : kernelRun0_A.sl.v7612 c arg2 h2 arg10 x1 = slabLoad x1 1 3 := slab_load arg2 h2 x1 arg10.view _ 96 (slab96 c arg2 h2 x1) 1 3 (by decide)
  have e4 : kernelRun0_A.sl.v8890 c arg2 h2 arg10 x1 = slabLoad x1 1 4 := slab_load arg2 h2 x1 arg10.view _ 112 (slab112 c arg2 h2 x1) 1 4 (by decide)
  have e5 : kernelRun0_A.sl.v8892 c arg2 h2 arg10 x1 = slabLoad x1 1 5 := slab_load arg2 h2 x1 arg10.view _ 112 (slab112 c arg2 h2 x1) 1 5 (by decide)
  have e6 : kernelRun0_A.sl.v10158 c arg2 h2 arg10 x1 = slabLoad x1 1 6 := slab_load arg2 h2 x1 arg10.view _ 128 (slab128 c arg2 h2 x1) 1 6 (by decide)
  have e7 : kernelRun0_A.sl.v10160 c arg2 h2 arg10 x1 = slabLoad x1 1 7 := slab_load arg2 h2 x1 arg10.view _ 128 (slab128 c arg2 h2 x1) 1 7 (by decide)
  refine (gated1_words c arg2 h2 arg3 h3 arg5 h5 arg6 h6 arg10 x1 x2 x4 x5).trans ?_
  unfold gatedAt
  rw [e0, e1, e2, e3, e4, e5, e6, e7]

end Cert.OutKernelIdeal.Mix

end
-- ==== Proof.OutPieces.lean ====
/-
  The output block: the projections of the two halves of the tile, as the kernel's stores leave them piece by piece and
  its loads read them back, and the normalised halves that replace them.
-/
module

public import proofs.«01_k».proof.Proof.OutAct
public import Idealize.ShloMosaic.Lib.Pipeline.ReadBack

@[expose] public section

set_option maxRecDepth 16384

noncomputable section

namespace Cert.OutKernelIdeal.Mix

open Cert.OutKernelIdeal Cert.OutKernelIdeal.Gen Idealize.ShloMosaic.TcCoe Idealize.SL.Sem
open Idealize.ShloMosaic hiding ix2 ix3
open Idealize.ShloMosaic.ValueIdx (ix2 ix3)

variable {F : FTy → Type} [FloatOps F]

/-- Half `p`, columns `512 * q` to `512 * q + 511` of the output block. -/
def oRect (p : Fin 2) (q : Fin 4) : Rect S512x2048 :=
  Rect.unit ![p.val * 256, q.val * 512] S256x512.size fun a => by
    match a with
    | ⟨0, _⟩ => show p.val * 256 + 256 ≤ 512; omega
    | ⟨1, _⟩ => show q.val * 512 + 512 ≤ 2048; omega

/-- Half `p` of the output block. -/
def hRect (p : Fin 2) : Rect S512x2048 :=
  Rect.unit ![p.val * 256, 0] S256x2048.size fun a => by
    match a with
    | ⟨0, _⟩ => show p.val * 256 + 256 ≤ 512; omega
    | ⟨1, _⟩ => exact (by decide : 0 + 2048 ≤ 2048)

variable (c : Dev nD) (arg1 : Memref sig Kind.tc Space.vmem S512x1024 EltTy.bf16) (h1 : arg1.IsWhole)
  (arg2 : Memref sig Kind.tc Space.vmem S64x64x128 EltTy.f32) (h2 : arg2.IsWhole)
  (arg3 : Memref sig Kind.tc Space.vmem S512x1024 EltTy.bf16) (h3 : arg3.IsWhole)
  (arg4 : Memref sig Kind.tc Space.vmem S512x2048 EltTy.f32) (h4 : arg4.IsWhole)
  (arg5 : Memref sig Kind.tc Space.vmem S1024x1024 EltTy.bf16) (h5 : arg5.IsWhole)
  (arg6 : Memref sig Kind.tc Space.vmem S1x1024 EltTy.f32) (h6 : arg6.IsWhole)
  (arg7 : Memref sig Kind.tc Space.vmem S2048x2048 EltTy.bf16) (h7 : arg7.IsWhole)
  (arg8 : Memref sig Kind.tc Space.vmem S1x2048 EltTy.f32) (h8 : arg8.IsWhole)
  (arg9 : Memref sig Kind.tc Space.vmem S512x2048 EltTy.f32)
  (arg10 : Memref sig Kind.tc Space.vmem S8x512x128 EltTy.f32)
  (arg11 : Memref sig Kind.tc Space.vmem S2x256x1024 EltTy.bf16)
  (x0 : Vec F S512x1024 .bf16) (x1 : Vec F S64x64x128 .f32) (x2 : Vec F S512x1024 .bf16) (x3 : Vec F S512x2048 .f32)
  (x4 : Vec F S1024x1024 .bf16) (x5 : Vec F S1x1024 .f32) (x6 : Vec F S2048x2048 .bf16) (x7 : Vec F S1x2048 .f32)

/-- The convolution branch's rows of half `p`, as loaded. -/
def convRows (p : Fin 2) : Vec F S256x1024 .bf16 :=
  View.readAt (Elt F) arg1.view (Rect.unit ![p.val * 256, 0] S256x1024.size (fun a => by
    match a with
    | ⟨0, _⟩ => show p.val * 256 + 256 ≤ 512; omega
    | ⟨1, _⟩ => exact (by decide : 0 + 1024 ≤ 1024)) : Rect S512x1024).toLoadRect (h1.unread x0)

/-- A block of the output weights, half `b` of the rows and columns `512 * q` on, as loaded. -/
def outW (b : Fin 2) (q : Fin 4) : Vec F S1024x512 .bf16 :=
  View.readAt (Elt F) arg7.view (Rect.unit ![b.val * 1024, q.val * 512] S1024x512.size (fun a => by
    match a with
    | ⟨0, _⟩ => show b.val * 1024 + 1024 ≤ 2048; omega
    | ⟨1, _⟩ => show q.val * 512 + 512 ≤ 2048; omega) : Rect S2048x2048).toLoadRect (h7.unread x6)

/-- The residual's rows of half `p`, as loaded. -/
def resRows (p : Fin 2) : Vec F S256x2048 .f32 :=
  View.readAt (Elt F) arg4.view (Rect.unit ![p.val * 256, 0] S256x2048.size (fun a => by
    match a with
    | ⟨0, _⟩ => show p.val * 256 + 256 ≤ 512; omega
    | ⟨1, _⟩ => exact (by decide : 0 + 2048 ≤ 2048)) : Rect S512x2048).toLoadRect (h4.unread x3)

/-- The norm's gain, as loaded. -/
def gainRow : Vec F S1x2048 .f32 :=
  View.readAt (Elt F) arg8.view (Rect.unit ![0, 0] S1x2048.size (fun a => by
    match a with
    | ⟨0, _⟩ => exact (by decide : 0 + 1 ≤ 1)
    | ⟨1, _⟩ => exact (by decide : 0 + 2048 ≤ 2048)) : Rect S1x2048).toLoadRect (h8.unread x7)

/-- The convolution branch's share of the projection. -/
def convAt (p : Fin 2) (q : Fin 4) : FVec F S256x512 .f32 :=
  matmul dot_S256x1024_S1024x512_S256x512_1_0_0_1_n_n none (convRows arg1 h1 x0 p) (outW arg7 h7 x6 0 q) (constant S256x512 .f32 0#32)

/-- The recurrence branch's share added to `u`. -/
def addSsm (q : Fin 4) (u : Vec F S256x512 .f32) (y : Vec F S1x256x1024 .bf16) : FVec F S256x512 .f32 :=
  addf (shapeCast S256x512 u shapeCasts_S256x512_S256x512)
    (matmul dot_S256x1024_S1024x512_S256x512_1_0_0_1_n_n none (shapeCast S256x1024 y shapeCasts_S1x256x1024_S256x1024)
      (outW arg7 h7 x6 1 q) (constant S256x512 .f32 0#32))

/-- The projection: half `p`, column block `q`. -/
def mixAt (p : Fin 2) (q : Fin 4) : FVec F S256x512 .f32 :=
  addSsm arg7 h7 x6 q (convAt arg1 h1 arg7 h7 x0 x6 p q) (gatedAt arg3 h3 arg5 h5 arg6 h6 x1 x2 x4 x5 p)

/-- The projection of half `p` on the whole output block. -/
def mixOver (p : Fin 2) (y : S512x2048.Idx) : F .f32 :=
  mixAt arg1 h1 arg3 h3 arg5 h5 arg6 h6 arg7 h7 x0 x1 x2 x4 x5 x6 p ⟨(y 1).val / 512, by have h : (y 1).val < 2048 := (y 1).isLt; omega⟩
    (ix2 ⟨(y 0).val % 256, Nat.mod_lt _ (by decide)⟩ ⟨(y 1).val % 512, Nat.mod_lt _ (by decide)⟩)

/-- The projection of half `p`. -/
def mixFull (p : Fin 2) : Vec F S256x2048 .f32 := fun j =>
  mixAt arg1 h1 arg3 h3 arg5 h5 arg6 h6 arg7 h7 x0 x1 x2 x4 x5 x6 p ⟨(j 1).val / 512, by have h : (j 1).val < 2048 := (j 1).isLt; omega⟩
    (ix2 (j 0) ⟨(j 1).val % 512, Nat.mod_lt _ (by decide)⟩)

/-- The normalised half `p`. -/
def normAt (p : Fin 2) : FVec F S256x2048 .f32 :=
  k0_pay2 (mixFull arg1 h1 arg3 h3 arg5 h5 arg6 h6 arg7 h7 x0 x1 x2 x4 x5 x6 p) (resRows arg4 h4 x3 p) (gainRow arg8 h8 x7)

/-- The output block. -/
def outAt (y : S512x2048.Idx) : F .f32 :=
  normAt arg1 h1 arg3 h3 arg4 h4 arg5 h5 arg6 h6 arg7 h7 arg8 h8 x0 x1 x2 x3 x4 x5 x6 x7 ⟨(y 0).val / 256, by have h : (y 0).val < 512 := (y 0).isLt; omega⟩
    (ix2 ⟨(y 0).val % 256, Nat.mod_lt _ (by decide)⟩ (y 1))

theorem mem_oRect (p : Fin 2) (q : Fin 4) (y : S512x2048.Idx) (hp : (y 0).val / 256 = p.val) (hq : (y 1).val / 512 = q.val) :
    y ∈ (oRect p q).set := by
  have h0 : (y 0).val < 512 := (y 0).isLt
  have h1 : (y 1).val < 2048 := (y 1).isLt
  rw [LoadRect.mem_set]
  intro a
  match a with
  | ⟨0, _⟩ => exact ⟨(y 0).val % 256, show (y 0).val % 256 < 256 by omega, show (y 0).val = p.val * 256 + 1 * ((y 0).val % 256) by omega⟩
  | ⟨1, _⟩ => exact ⟨(y 1).val % 512, show (y 1).val % 512 < 512 by omega, show (y 1).val = q.val * 512 + 1 * ((y 1).val % 512) by omega⟩

theorem not_mem_oRect (p : Fin 2) (q : Fin 4) (y : S512x2048.Idx) (hp : (y 0).val / 256 ≠ p.val) : y ∉ (oRect p q).set := by
  rw [LoadRect.mem_set]
  intro h
  obtain ⟨k, hk, e⟩ := h 0
  have hk' : k < 256 := hk
  have e' : (y 0).val = p.val * 256 + 1 * k := e
  omega

theorem not_mem_hRect (p : Fin 2) (y : S512x2048.Idx) (hp : (y 0).val / 256 ≠ p.val) : y ∉ (hRect p).set := by
  rw [LoadRect.mem_set]
  intro h
  obtain ⟨k, hk, e⟩ := h 0
  have hk' : k < 256 := hk
  have e' : (y 0).val = p.val * 256 + 1 * k := e
  omega

/-- A stored column block agrees with the projection of its half. -/
theorem mix_piece (p : Fin 2) (q : Fin 4) (x : (oRect p q).shape.Idx) :
    mixAt arg1 h1 arg3 h3 arg5 h5 arg6 h6 arg7 h7 x0 x1 x2 x4 x5 x6 p q x = mixOver arg1 h1 arg3 h3 arg5 h5 arg6 h6 arg7 h7 x0 x1 x2 x4 x5 x6 p ((oRect p q).emb x) := by
  have b0 : (x 0).val < 256 := (x 0).isLt
  have b1 : (x 1).val < 512 := (x 1).isLt
  have v0 : ((oRect p q).emb x 0).val = p.val * 256 + 1 * (x 0).val := rfl
  have v1 : ((oRect p q).emb x 1).val = q.val * 512 + 1 * (x 1).val := rfl
  have hb : ((oRect p q).emb x 1).val < 2048 := ((oRect p q).emb x 1).isLt
  have eq : (⟨((oRect p q).emb x 1).val / 512, by omega⟩ : Fin 4) = q := Fin.ext (by show ((oRect p q).emb x 1).val / 512 = q.val; omega)
  unfold mixOver
  rw [eq]
  refine congrArg (mixAt arg1 h1 arg3 h3 arg5 h5 arg6 h6 arg7 h7 x0 x1 x2 x4 x5 x6 p q) (funext fun a => ?_)
  match a with
  | ⟨0, _⟩ => exact Fin.ext (show (x 0).val = ((oRect p q).emb x 0).val % 256 by omega)
  | ⟨1, _⟩ => exact Fin.ext (show (x 1).val = ((oRect p q).emb x 1).val % 512 by omega)

/-- Under a list whose last piece agrees with `G`, and whose others do where that piece is not, the contents are `G`. -/
theorem canon_step (G : S512x2048.Idx → Elt F .f32) (r : Rect S512x2048) (w : r.shape.Idx → Elt F .f32)
    (L : List (View.Piece (Elt F) S512x2048 .f32)) (y : S512x2048.Idx) (hw : ∀ x, w x = G (r.emb x))
    (hL : y ∉ r.set → View.canon L y = G y) : View.canon (⟨r, w⟩ :: L) y = G y := by
  by_cases hy : y ∈ r.set
  · obtain ⟨x, rfl⟩ : ∃ x, r.emb x = y := r.exists_idx_of_mem hy
    rw [View.canon_cons_emb]
    exact hw x
  · exact (View.canon_cons_of_not_mem ⟨r, w⟩ L hy).trans (hL hy)

/-! ## What the loads read -/

theorem ssm0 : kernelRun0_A.sl.v5089 c arg2 h2 arg3 h3 arg5 h5 arg6 h6 arg10 arg11 x1 x2 x4 x5 = gatedAt arg3 h3 arg5 h5 arg6 h6 x1 x2 x4 x5 0 :=
  (View.readCov_cons_toLoadRect arg11.view _ _ _).trans (gated0_eq c arg2 h2 arg3 h3 arg5 h5 arg6 h6 arg10 x1 x2 x4 x5)

theorem ssm1 : kernelRun0_A.sl.v10204 c arg2 h2 arg3 h3 arg5 h5 arg6 h6 arg10 arg11 x1 x2 x4 x5 = gatedAt arg3 h3 arg5 h5 arg6 h6 x1 x2 x4 x5 1 :=
  (View.readCov_cons_toLoadRect arg11.view _ _ _).trans (gated1_eq c arg2 h2 arg3 h3 arg5 h5 arg6 h6 arg10 x1 x2 x4 x5)

theorem read00 : kernelRun0_A.sl.v5087 c arg1 h1 arg7 h7 arg9 x0 x6 = convAt arg1 h1 arg7 h7 x0 x6 0 0 :=
  (View.readCov_skip arg9.view _ _ _ _ rfl).trans ((View.readCov_skip arg9.view _ _ _ _ rfl).trans ((View.readCov_skip arg9.view _ _ _ _ rfl).trans (View.readCov_cons_toLoadRect arg9.view _ _ _)))

theorem read01 : kernelRun0_A.sl.v6360 c arg1 h1 arg2 h2 arg3 h3 arg5 h5 arg6 h6 arg7 h7 arg9 arg10 arg11 x0 x1 x2 x4 x5 x6 = convAt arg1 h1 arg7 h7 x0 x6 0 1 :=
  (View.readCov_skip arg9.view _ _ _ _ rfl).trans ((View.readCov_skip arg9.view _ _ _ _ rfl).trans ((View.readCov_skip arg9.view _ _ _ _ rfl).trans (View.readCov_cons_toLoadRect arg9.view _ _ _)))

theorem read02 : kernelRun0_A.sl.v7632 c arg1 h1 arg2 h2 arg3 h3 arg5 h5 arg6 h6 arg7 h7 arg9 arg10 arg11 x0 x1 x2 x4 x5 x6 = convAt arg1 h1 arg7 h7 x0 x6 0 2 :=
  (View.readCov_skip arg9.view _ _ _ _ rfl).trans ((View.readCov_skip arg9.view _ _ _ _ rfl).trans ((View.readCov_skip arg9.view _ _ _ _ rfl).trans (View.readCov_cons_toLoadRect arg9.view _ _ _)))

theorem read03 : kernelRun0_A.sl.v7640 c arg1 h1 arg2 h2 arg3 h3 arg5 h5 arg6 h6 arg7 h7 arg9 arg10 arg11 x0 x1 x2 x4 x5 x6 = convAt arg1 h1 arg7 h7 x0 x6 0 3 :=
  (View.readCov_skip arg9.view _ _ _ _ rfl).trans ((View.readCov_skip arg9.view _ _ _ _ rfl).trans ((View.readCov_skip arg9.view _ _ _ _ rfl).trans (View.readCov_cons_toLoadRect arg9.view _ _ _)))

theorem read10 : kernelRun0_A.sl.v10202 c arg1 h1 arg2 h2 arg3 h3 arg5 h5 arg6 h6 arg7 h7 arg9 arg10 arg11 x0 x1 x2 x4 x5 x6 = convAt arg1 h1 arg7 h7 x0 x6 1 0 :=
  (View.readCov_skip arg9.view _ _ _ _ rfl).trans ((View.readCov_skip arg9.view _ _ _ _ rfl).trans ((View.readCov_skip arg9.view _ _ _ _ rfl).trans (View.readCov_cons_toLoadRect arg9.view _ _ _)))

theorem read11 : kernelRun0_A.sl.v10230 c arg1 h1 arg2 h2 arg3 h3 arg4 h4 arg5 h5 arg6 h6 arg7 h7 arg8 h8 arg9 arg10 arg11 x0 x1 x2 x3 x4 x5 x6 x7 = convAt arg1 h1 arg7 h7 x0 x6 1 1 :=
  (View.readCov_skip arg9.view _ _ _ _ rfl).trans ((View.readCov_skip arg9.view _ _ _ _ rfl).trans ((View.readCov_skip arg9.view _ _ _ _ rfl).trans ((View.readCov_skip arg9.view _ _ _ _ rfl).trans (View.readCov_cons_toLoadRect arg9.view _ _ _))))

theorem read12 : kernelRun0_A.sl.v10238 c arg1 h1 arg2 h2 arg3 h3 arg4 h4 arg5 h5 arg6 h6 arg7 h7 arg8 h8 arg9 arg10 arg11 x0 x1 x2 x3 x4 x5 x6 x7 = convAt arg1 h1 arg7 h7 x0 x6 1 2 :=
  (View.readCov_skip arg9.view _ _ _ _ rfl).trans ((View.readCov_skip arg9.view _ _ _ _ rfl).trans ((View.readCov_skip arg9.view _ _ _ _ rfl).trans ((View.readCov_skip arg9.view _ _ _ _ rfl).trans (View.readCov_cons_toLoadRect arg9.view _ _ _))))

theorem read13 : kernelRun0_A.sl.v10246 c arg1 h1 arg2 h2 arg3 h3 arg4 h4 arg5 h5 arg6 h6 arg7 h7 arg8 h8 arg9 arg10 arg11 x0 x1 x2 x3 x4 x5 x6 x7 = convAt arg1 h1 arg7 h7 x0 x6 1 3 :=
  (View.readCov_skip arg9.view _ _ _ _ rfl).trans ((View.readCov_skip arg9.view _ _ _ _ rfl).trans ((View.readCov_skip arg9.view _ _ _ _ rfl).trans ((View.readCov_skip arg9.view _ _ _ _ rfl).trans (View.readCov_cons_toLoadRect arg9.view _ _ _))))

/-! ## What the stores leave -/

theorem pay00 : k0_pay823 (kernelRun0_A.sl.v5087 c arg1 h1 arg7 h7 arg9 x0 x6) (kernelRun0_A.sl.v5089 c arg2 h2 arg3 h3 arg5 h5 arg6 h6 arg10 arg11 x1 x2 x4 x5) (outW arg7 h7 x6 1 0) = mixAt arg1 h1 arg3 h3 arg5 h5 arg6 h6 arg7 h7 x0 x1 x2 x4 x5 x6 0 0 := by
  have e : k0_pay823 (kernelRun0_A.sl.v5087 c arg1 h1 arg7 h7 arg9 x0 x6) (kernelRun0_A.sl.v5089 c arg2 h2 arg3 h3 arg5 h5 arg6 h6 arg10 arg11 x1 x2 x4 x5) (outW arg7 h7 x6 1 0) = addSsm arg7 h7 x6 0 (kernelRun0_A.sl.v5087 c arg1 h1 arg7 h7 arg9 x0 x6) (kernelRun0_A.sl.v5089 c arg2 h2 arg3 h3 arg5 h5 arg6 h6 arg10 arg11 x1 x2 x4 x5) := rfl
  rw [e, read00 c arg1 h1 arg7 h7 arg9 x0 x6, ssm0 c arg2 h2 arg3 h3 arg5 h5 arg6 h6 arg10 arg11 x1 x2 x4 x5]
  rfl

theorem pay01 : k0_pay1029 (kernelRun0_A.sl.v6360 c arg1 h1 arg2 h2 arg3 h3 arg5 h5 arg6 h6 arg7 h7 arg9 arg10 arg11 x0 x1 x2 x4 x5 x6) (kernelRun0_A.sl.v5089 c arg2 h2 arg3 h3 arg5 h5 arg6 h6 arg10 arg11 x1 x2 x4 x5) (outW arg7 h7 x6 1 1) = mixAt arg1 h1 arg3 h3 arg5 h5 arg6 h6 arg7 h7 x0 x1 x2 x4 x5 x6 0 1 := by
  have e : k0_pay1029 (kernelRun0_A.sl.v6360 c arg1 h1 arg2 h2 arg3 h3 arg5 h5 arg6 h6 arg7 h7 arg9 arg10 arg11 x0 x1 x2 x4 x5 x6) (kernelRun0_A.sl.v5089 c arg2 h2 arg3 h3 arg5 h5 arg6 h6 arg10 arg11 x1 x2 x4 x5) (outW arg7 h7 x6 1 1) = addSsm arg7 h7 x6 1 (kernelRun0_A.sl.v6360 c arg1 h1 arg2 h2 arg3 h3 arg5 h5 arg6 h6 arg7 h7 arg9 arg10 arg11 x0 x1 x2 x4 x5 x6) (kernelRun0_A.sl.v5089 c arg2 h2 arg3 h3 arg5 h5 arg6 h6 arg10 arg11 x1 x2 x4 x5) := rfl
  rw [e, read01 c arg1 h1 arg2 h2 arg3 h3 arg5 h5 arg6 h6 arg7 h7 arg9 arg10 arg11 x0 x1 x2 x4 x5 x6, ssm0 c arg2 h2 arg3 h3 arg5 h5 arg6 h6 arg10 arg11 x1 x2 x4 x5]
  rfl

theorem pay02 : k0_pay1237 (kernelRun0_A.sl.r_53 c arg1 h1 arg2 h2 arg3 h3 arg5 h5 arg6 h6 arg7 h7 arg9 arg10 arg11 x0 x1 x2 x4 x5 x6) (k0_pay1236 (kernelRun0_A.sl.v5089 c arg2 h2 arg3 h3 arg5 h5 arg6 h6 arg10 arg11 x1 x2 x4 x5)) (outW arg7 h7 x6 1 2) (constant S256x512 FTy.f32 0#32) = mixAt arg1 h1 arg3 h3 arg5 h5 arg6 h6 arg7 h7 x0 x1 x2 x4 x5 x6 0 2 := by
  have e : k0_pay1237 (kernelRun0_A.sl.r_53 c arg1 h1 arg2 h2 arg3 h3 arg5 h5 arg6 h6 arg7 h7 arg9 arg10 arg11 x0 x1 x2 x4 x5 x6) (k0_pay1236 (kernelRun0_A.sl.v5089 c arg2 h2 arg3 h3 arg5 h5 arg6 h6 arg10 arg11 x1 x2 x4 x5)) (outW arg7 h7 x6 1 2) (constant S256x512 FTy.f32 0#32) = addSsm arg7 h7 x6 2 (kernelRun0_A.sl.v7632 c arg1 h1 arg2 h2 arg3 h3 arg5 h5 arg6 h6 arg7 h7 arg9 arg10 arg11 x0 x1 x2 x4 x5 x6) (kernelRun0_A.sl.v5089 c arg2 h2 arg3 h3 arg5 h5 arg6 h6 arg10 arg11 x1 x2 x4 x5) := rfl
  rw [e, read02 c arg1 h1 arg2 h2 arg3 h3 arg5 h5 arg6 h6 arg7 h7 arg9 arg10 arg11 x0 x1 x2 x4 x5 x6, ssm0 c arg2 h2 arg3 h3 arg5 h5 arg6 h6 arg10 arg11 x1 x2 x4 x5]
  rfl

theorem pay03 : k0_pay1238 (kernelRun0_A.sl.v7640 c arg1 h1 arg2 h2 arg3 h3 arg5 h5 arg6 h6 arg7 h7 arg9 arg10 arg11 x0 x1 x2 x4 x5 x6) (kernelRun0_A.sl.v5089 c arg2 h2 arg3 h3 arg5 h5 arg6 h6 arg10 arg11 x1 x2 x4 x5) (outW arg7 h7 x6 1 3) = mixAt arg1 h1 arg3 h3 arg5 h5 arg6 h6 arg7 h7 x0 x1 x2 x4 x5 x6 0 3 := by
  have e : k0_pay1238 (kernelRun0_A.sl.v7640 c arg1 h1 arg2 h2 arg3 h3 arg5 h5 arg6 h6 arg7 h7 arg9 arg10 arg11 x0 x1 x2 x4 x5 x6) (kernelRun0_A.sl.v5089 c arg2 h2 arg3 h3 arg5 h5 arg6 h6 arg10 arg11 x1 x2 x4 x5) (outW arg7 h7 x6 1 3) = addSsm arg7 h7 x6 3 (kernelRun0_A.sl.v7640 c arg1 h1 arg2 h2 arg3 h3 arg5 h5 arg6 h6 arg7 h7 arg9 arg10 arg11 x0 x1 x2 x4 x5 x6) (kernelRun0_A.sl.v5089 c arg2 h2 arg3 h3 arg5 h5 arg6 h6 arg10 arg11 x1 x2 x4 x5) := rfl
  rw [e, read03 c arg1 h1 arg2 h2 arg3 h3 arg5 h5 arg6 h6 arg7 h7 arg9 arg10 arg11 x0 x1 x2 x4 x5 x6, ssm0 c arg2 h2 arg3 h3 arg5 h5 arg6 h6 arg10 arg11 x1 x2 x4 x5]
  rfl

theorem pay10 : k0_pay1650 (kernelRun0_A.sl.v10202 c arg1 h1 arg2 h2 arg3 h3 arg5 h5 arg6 h6 arg7 h7 arg9 arg10 arg11 x0 x1 x2 x4 x5 x6) (kernelRun0_A.sl.v10204 c arg2 h2 arg3 h3 arg5 h5 arg6 h6 arg10 arg11 x1 x2 x4 x5) (outW arg7 h7 x6 1 0) = mixAt arg1 h1 arg3 h3 arg5 h5 arg6 h6 arg7 h7 x0 x1 x2 x4 x5 x6 1 0 := by
  have e : k0_pay1650 (kernelRun0_A.sl.v10202 c arg1 h1 arg2 h2 arg3 h3 arg5 h5 arg6 h6 arg7 h7 arg9 arg10 arg11 x0 x1 x2 x4 x5 x6) (kernelRun0_A.sl.v10204 c arg2 h2 arg3 h3 arg5 h5 arg6 h6 arg10 arg11 x1 x2 x4 x5) (outW arg7 h7 x6 1 0) = addSsm arg7 h7 x6 0 (kernelRun0_A.sl.v10202 c arg1 h1 arg2 h2 arg3 h3 arg5 h5 arg6 h6 arg7 h7 arg9 arg10 arg11 x0 x1 x2 x4 x5 x6) (kernelRun0_A.sl.v10204 c arg2 h2 arg3 h3 arg5 h5 arg6 h6 arg10 arg11 x1 x2 x4 x5) := rfl
  rw [e, read10 c arg1 h1 arg2 h2 arg3 h3 arg5 h5 arg6 h6 arg7 h7 arg9 arg10 arg11 x0 x1 x2 x4 x5 x6, ssm1 c arg2 h2 arg3 h3 arg5 h5 arg6 h6 arg10 arg11 x1 x2 x4 x5]
  rfl

theorem pay11 : k0_pay1654 (kernelRun0_A.sl.v10230 c arg1 h1 arg2 h2 arg3 h3 arg4 h4 arg5 h5 arg6 h6 arg7 h7 arg8 h8 arg9 arg10 arg11 x0 x1 x2 x3 x4 x5 x6 x7) (kernelRun0_A.sl.v10204 c arg2 h2 arg3 h3 arg5 h5 arg6 h6 arg10 arg11 x1 x2 x4 x5) (outW arg7 h7 x6 1 1) = mixAt arg1 h1 arg3 h3 arg5 h5 arg6 h6 arg7 h7 x0 x1 x2 x4 x5 x6 1 1 := by
  have e : k0_pay1654 (kernelRun0_A.sl.v10230 c arg1 h1 arg2 h2 arg3 h3 arg4 h4 arg5 h5 arg6 h6 arg7 h7 arg8 h8 arg9 arg10 arg11 x0 x1 x2 x3 x4 x5 x6 x7) (kernelRun0_A.sl.v10204 c arg2 h2 arg3 h3 arg5 h5 arg6 h6 arg10 arg11 x1 x2 x4 x5) (outW arg7 h7 x6 1 1) = addSsm arg7 h7 x6 1 (kernelRun0_A.sl.v10230 c arg1 h1 arg2 h2 arg3 h3 arg4 h4 arg5 h5 arg6 h6 arg7 h7 arg8 h8 arg9 arg10 arg11 x0 x1 x2 x3 x4 x5 x6 x7) (kernelRun0_A.sl.v10204 c arg2 h2 arg3 h3 arg5 h5 arg6 h6 arg10 arg11 x1 x2 x4 x5) := rfl
  rw [e, read11 c arg1 h1 arg2 h2 arg3 h3 arg4 h4 arg5 h5 arg6 h6 arg7 h7 arg8 h8 arg9 arg10 arg11 x0 x1 x2 x3 x4 x5 x6 x7, ssm1 c arg2 h2 arg3 h3 arg5 h5 arg6 h6 arg10 arg11 x1 x2 x4 x5]
  rfl

theorem pay12 : k0_pay1655 (kernelRun0_A.sl.v10238 c arg1 h1 arg2 h2 arg3 h3 arg4 h4 arg5 h5 arg6 h6 arg7 h7 arg8 h8 arg9 arg10 arg11 x0 x1 x2 x3 x4 x5 x6 x7) (kernelRun0_A.sl.v10204 c arg2 h2 arg3 h3 arg5 h5 arg6 h6 arg10 arg11 x1 x2 x4 x5) (outW arg7 h7 x6 1 2) = mixAt arg1 h1 arg3 h3 arg5 h5 arg6 h6 arg7 h7 x0 x1 x2 x4 x5 x6 1 2 := by
  have e : k0_pay1655 (kernelRun0_A.sl.v10238 c arg1 h1 arg2 h2 arg3 h3 arg4 h4 arg5 h5 arg6 h6 arg7 h7 arg8 h8 arg9 arg10 arg11 x0 x1 x2 x3 x4 x5 x6 x7) (kernelRun0_A.sl.v10204 c arg2 h2 arg3 h3 arg5 h5 arg6 h6 arg10 arg11 x1 x2 x4 x5) (outW arg7 h7 x6 1 2) = addSsm arg7 h7 x6 2 (kernelRun0_A.sl.v10238 c arg1 h1 arg2 h2 arg3 h3 arg4 h4 arg5 h5 arg6 h6 arg7 h7 arg8 h8 arg9 arg10 arg11 x0 x1 x2 x3 x4 x5 x6 x7) (kernelRun0_A.sl.v10204 c arg2 h2 arg3 h3 arg5 h5 arg6 h6 arg10 arg11 x1 x2 x4 x5) := rfl
  rw [e, read12 c arg1 h1 arg2 h2 arg3 h3 arg4 h4 arg5 h5 arg6 h6 arg7 h7 arg8 h8 arg9 arg10 arg11 x0 x1 x2 x3 x4 x5 x6 x7, ssm1 c arg2 h2 arg3 h3 arg5 h5 arg6 h6 arg10 arg11 x1 x2 x4 x5]
  rfl

theorem pay13 : k0_pay1 (kernelRun0_A.sl.r_75 c arg1 h1 arg2 h2 arg3 h3 arg4 h4 arg5 h5 arg6 h6 arg7 h7 arg8 h8 arg9 arg10 arg11 x0 x1 x2 x3 x4 x5 x6 x7) (kernelRun0_A.sl.v10204 c arg2 h2 arg3 h3 arg5 h5 arg6 h6 arg10 arg11 x1 x2 x4 x5) (outW arg7 h7 x6 1 3) = mixAt arg1 h1 arg3 h3 arg5 h5 arg6 h6 arg7 h7 x0 x1 x2 x4 x5 x6 1 3 := by
  have e : k0_pay1 (kernelRun0_A.sl.r_75 c arg1 h1 arg2 h2 arg3 h3 arg4 h4 arg5 h5 arg6 h6 arg7 h7 arg8 h8 arg9 arg10 arg11 x0 x1 x2 x3 x4 x5 x6 x7) (kernelRun0_A.sl.v10204 c arg2 h2 arg3 h3 arg5 h5 arg6 h6 arg10 arg11 x1 x2 x4 x5) (outW arg7 h7 x6 1 3) = addSsm arg7 h7 x6 3 (kernelRun0_A.sl.v10246 c arg1 h1 arg2 h2 arg3 h3 arg4 h4 arg5 h5 arg6 h6 arg7 h7 arg8 h8 arg9 arg10 arg11 x0 x1 x2 x3 x4 x5 x6 x7) (kernelRun0_A.sl.v10204 c arg2 h2 arg3 h3 arg5 h5 arg6 h6 arg10 arg11 x1 x2 x4 x5) := rfl
  rw [e, read13 c arg1 h1 arg2 h2 arg3 h3 arg4 h4 arg5 h5 arg6 h6 arg7 h7 arg8 h8 arg9 arg10 arg11 x0 x1 x2 x3 x4 x5 x6 x7, ssm1 c arg2 h2 arg3 h3 arg5 h5 arg6 h6 arg10 arg11 x1 x2 x4 x5]
  rfl

end Cert.OutKernelIdeal.Mix

end
-- ==== Proof.OutBlock.lean ====
/-
  The output block as a whole: the halves' projections read back from the pieces they were stored in, and what the tile's
  body leaves in the block.
-/
module

public import proofs.«01_k».proof.Proof.OutPieces

@[expose] public section

set_option maxRecDepth 16384

noncomputable section

namespace Cert.OutKernelIdeal.Mix

open Cert.OutKernelIdeal Cert.OutKernelIdeal.Gen Idealize.ShloMosaic.TcCoe Idealize.SL.Sem
open Idealize.ShloMosaic hiding ix2 ix3
open Idealize.ShloMosaic.ValueIdx (ix2 ix3)

variable {F : FTy → Type} [FloatOps F]

variable (c : Dev nD) (arg1 : Memref sig Kind.tc Space.vmem S512x1024 EltTy.bf16) (h1 : arg1.IsWhole)
  (arg2 : Memref sig Kind.tc Space.vmem S64x64x128 EltTy.f32) (h2 : arg2.IsWhole)
  (arg3 : Memref sig Kind.tc Space.vmem S512x1024 EltTy.bf16) (h3 : arg3.IsWhole)
  (arg4 : Memref sig Kind.tc Space.vmem S512x2048 EltTy.f32) (h4 : arg4.IsWhole)
  (arg5 : Memref sig Kind.tc Space.vmem S1024x1024 EltTy.bf16) (h5 : arg5.IsWhole)
  (arg6 : Memref sig Kind.tc Space.vmem S1x1024 EltTy.f32) (h6 : arg6.IsWhole)
  (arg7 : Memref sig Kind.tc Space.vmem S2048x2048 EltTy.bf16) (h7 : arg7.IsWhole)
  (arg8 : Memref sig Kind.tc Space.vmem S1x2048 EltTy.f32) (h8 : arg8.IsWhole)
  (arg9 : Memref sig Kind.tc Space.vmem S512x2048 EltTy.f32)
  (arg10 : Memref sig Kind.tc Space.vmem S8x512x128 EltTy.f32)
  (arg11 : Memref sig Kind.tc Space.vmem S2x256x1024 EltTy.bf16)
  (x0 : Vec F S512x1024 .bf16) (x1 : Vec F S64x64x128 .f32) (x2 : Vec F S512x1024 .bf16) (x3 : Vec F S512x2048 .f32)
  (x4 : Vec F S1024x1024 .bf16) (x5 : Vec F S1x1024 .f32) (x6 : Vec F S2048x2048 .bf16) (x7 : Vec F S1x2048 .f32)

/-- A store elsewhere changes nothing at `y`. -/
theorem canon_skip (r : Rect S512x2048) (w : r.shape.Idx → Elt F .f32) (L : List (View.Piece (Elt F) S512x2048 .f32))
    (y : S512x2048.Idx) (h : y ∉ r.set) : View.canon (⟨r, w⟩ :: L) y = View.canon L y :=
  View.canon_cons_of_not_mem ⟨r, w⟩ L h

/-- The stores up to the second half's first column block. -/
theorem list13 : kernelRun0_A.sl.H8_13 c arg1 h1 arg2 h2 arg3 h3 arg5 h5 arg6 h6 arg7 h7 arg9 arg10 arg11 x0 x1 x2 x4 x5 x6 =
    ⟨oRect 1 0, k0_pay1650 (kernelRun0_A.sl.v10202 c arg1 h1 arg2 h2 arg3 h3 arg5 h5 arg6 h6 arg7 h7 arg9 arg10 arg11 x0 x1 x2 x4 x5 x6) (kernelRun0_A.sl.v10204 c arg2 h2 arg3 h3 arg5 h5 arg6 h6 arg10 arg11 x1 x2 x4 x5) (outW arg7 h7 x6 1 0)⟩ ::
    ⟨oRect 1 3, k0_pay1649 (convRows arg1 h1 x0 1) (outW arg7 h7 x6 0 3)⟩ ::
    ⟨oRect 1 2, k0_pay1646 (convRows arg1 h1 x0 1) (outW arg7 h7 x6 0 2)⟩ ::
    ⟨oRect 1 1, k0_pay1645 (convRows arg1 h1 x0 1) (outW arg7 h7 x6 0 1)⟩ ::
    ⟨oRect 1 0, k0_pay1444 (convRows arg1 h1 x0 1) (outW arg7 h7 x6 0 0)⟩ ::
    ⟨oRect 0 3, k0_pay1238 (kernelRun0_A.sl.v7640 c arg1 h1 arg2 h2 arg3 h3 arg5 h5 arg6 h6 arg7 h7 arg9 arg10 arg11 x0 x1 x2 x4 x5 x6) (kernelRun0_A.sl.v5089 c arg2 h2 arg3 h3 arg5 h5 arg6 h6 arg10 arg11 x1 x2 x4 x5) (outW arg7 h7 x6 1 3)⟩ ::
    ⟨oRect 0 2, k0_pay1237 (kernelRun0_A.sl.r_53 c arg1 h1 arg2 h2 arg3 h3 arg5 h5 arg6 h6 arg7 h7 arg9 arg10 arg11 x0 x1 x2 x4 x5 x6) (k0_pay1236 (kernelRun0_A.sl.v5089 c arg2 h2 arg3 h3 arg5 h5 arg6 h6 arg10 arg11 x1 x2 x4 x5)) (outW arg7 h7 x6 1 2) (constant S256x512 FTy.f32 0#32)⟩ ::
    ⟨oRect 0 1, k0_pay1029 (kernelRun0_A.sl.v6360 c arg1 h1 arg2 h2 arg3 h3 arg5 h5 arg6 h6 arg7 h7 arg9 arg10 arg11 x0 x1 x2 x4 x5 x6) (kernelRun0_A.sl.v5089 c arg2 h2 arg3 h3 arg5 h5 arg6 h6 arg10 arg11 x1 x2 x4 x5) (outW arg7 h7 x6 1 1)⟩ ::
    ⟨oRect 0 0, k0_pay823 (kernelRun0_A.sl.v5087 c arg1 h1 arg7 h7 arg9 x0 x6) (kernelRun0_A.sl.v5089 c arg2 h2 arg3 h3 arg5 h5 arg6 h6 arg10 arg11 x1 x2 x4 x5) (outW arg7 h7 x6 1 0)⟩ ::
    kernelRun0_A.sl.H8_4 c arg1 h1 arg7 h7 x0 x6 := rfl

/-- The stores after those, up to the last column block. -/
theorem list17 : kernelRun0_A.sl.H8_17 c arg1 h1 arg2 h2 arg3 h3 arg4 h4 arg5 h5 arg6 h6 arg7 h7 arg8 h8 arg9 arg10 arg11 x0 x1 x2 x3 x4 x5 x6 x7 =
    ⟨oRect 1 3, k0_pay1 (kernelRun0_A.sl.r_75 c arg1 h1 arg2 h2 arg3 h3 arg4 h4 arg5 h5 arg6 h6 arg7 h7 arg8 h8 arg9 arg10 arg11 x0 x1 x2 x3 x4 x5 x6 x7) (kernelRun0_A.sl.v10204 c arg2 h2 arg3 h3 arg5 h5 arg6 h6 arg10 arg11 x1 x2 x4 x5) (outW arg7 h7 x6 1 3)⟩ ::
    ⟨oRect 1 2, k0_pay1655 (kernelRun0_A.sl.v10238 c arg1 h1 arg2 h2 arg3 h3 arg4 h4 arg5 h5 arg6 h6 arg7 h7 arg8 h8 arg9 arg10 arg11 x0 x1 x2 x3 x4 x5 x6 x7) (kernelRun0_A.sl.v10204 c arg2 h2 arg3 h3 arg5 h5 arg6 h6 arg10 arg11 x1 x2 x4 x5) (outW arg7 h7 x6 1 2)⟩ ::
    ⟨oRect 1 1, k0_pay1654 (kernelRun0_A.sl.v10230 c arg1 h1 arg2 h2 arg3 h3 arg4 h4 arg5 h5 arg6 h6 arg7 h7 arg8 h8 arg9 arg10 arg11 x0 x1 x2 x3 x4 x5 x6 x7) (kernelRun0_A.sl.v10204 c arg2 h2 arg3 h3 arg5 h5 arg6 h6 arg10 arg11 x1 x2 x4 x5) (outW arg7 h7 x6 1 1)⟩ ::
    ⟨hRect 0, k0_pay1653 (kernelRun0_A.sl.r_72 c arg1 h1 arg2 h2 arg3 h3 arg5 h5 arg6 h6 arg7 h7 arg9 arg10 arg11 x0 x1 x2 x4 x5 x6) (kernelRun0_A.sl.r_73 c arg1 h1 arg2 h2 arg3 h3 arg5 h5 arg6 h6 arg7 h7 arg9 arg10 arg11 x0 x1 x2 x4 x5 x6) (resRows arg4 h4 x3 0) (gainRow arg8 h8 x7)⟩ ::
    kernelRun0_A.sl.H8_13 c arg1 h1 arg2 h2 arg3 h3 arg5 h5 arg6 h6 arg7 h7 arg9 arg10 arg11 x0 x1 x2 x4 x5 x6 := rfl

/-- The first half's projection, read back whole. -/
theorem full0 : kernelRun0_A.sl.v10210 c arg1 h1 arg2 h2 arg3 h3 arg5 h5 arg6 h6 arg7 h7 arg9 arg10 arg11 x0 x1 x2 x4 x5 x6 = mixFull arg1 h1 arg3 h3 arg5 h5 arg6 h6 arg7 h7 x0 x1 x2 x4 x5 x6 0 := by
  refine (View.readCov_eq_canon' arg9.view (kernelRun0_A.sl.H8_13 c arg1 h1 arg2 h2 arg3 h3 arg5 h5 arg6 h6 arg7 h7 arg9 arg10 arg11 x0 x1 x2 x4 x5 x6) (hRect 0).toLoadRect).trans (funext fun j => ?_)
  have j0 : (j 0).val < 256 := (j 0).isLt
  have j1 : (j 1).val < 2048 := (j 1).isLt
  have y0 : ((hRect 0).toLoadRect.idx j 0).val = 0 * 256 + 1 * (j 0).val := rfl
  have y1 : ((hRect 0).toLoadRect.idx j 1).val = 0 + 1 * (j 1).val := rfl
  have e : View.canon (kernelRun0_A.sl.H8_13 c arg1 h1 arg2 h2 arg3 h3 arg5 h5 arg6 h6 arg7 h7 arg9 arg10 arg11 x0 x1 x2 x4 x5 x6) ((hRect 0).toLoadRect.idx j) = mixOver arg1 h1 arg3 h3 arg5 h5 arg6 h6 arg7 h7 x0 x1 x2 x4 x5 x6 0 ((hRect 0).toLoadRect.idx j) := by
    generalize (hRect 0).toLoadRect.idx j = y at y0 y1
    have n1 : ∀ q, y ∉ (oRect 1 q).set := fun q => not_mem_oRect 1 q y (by show _ ≠ 1; omega)
    rw [list13 c arg1 h1 arg2 h2 arg3 h3 arg5 h5 arg6 h6 arg7 h7 arg9 arg10 arg11 x0 x1 x2 x4 x5 x6]
    refine (canon_skip (oRect 1 0) _ _ y (n1 0)).trans ?_
    refine (canon_skip (oRect 1 3) _ _ y (n1 3)).trans ?_
    refine (canon_skip (oRect 1 2) _ _ y (n1 2)).trans ?_
    refine (canon_skip (oRect 1 1) _ _ y (n1 1)).trans ?_
    refine (canon_skip (oRect 1 0) _ _ y (n1 0)).trans ?_
    refine canon_step _ (oRect 0 3) _ _ y (fun x => (congrFun (pay03 c arg1 h1 arg2 h2 arg3 h3 arg5 h5 arg6 h6 arg7 h7 arg9 arg10 arg11 x0 x1 x2 x4 x5 x6) x).trans (mix_piece arg1 h1 arg3 h3 arg5 h5 arg6 h6 arg7 h7 x0 x1 x2 x4 x5 x6 0 3 x)) fun m3 => ?_
    refine canon_step _ (oRect 0 2) _ _ y (fun x => (congrFun (pay02 c arg1 h1 arg2 h2 arg3 h3 arg5 h5 arg6 h6 arg7 h7 arg9 arg10 arg11 x0 x1 x2 x4 x5 x6) x).trans (mix_piece arg1 h1 arg3 h3 arg5 h5 arg6 h6 arg7 h7 x0 x1 x2 x4 x5 x6 0 2 x)) fun m2 => ?_
    refine canon_step _ (oRect 0 1) _ _ y (fun x => (congrFun (pay01 c arg1 h1 arg2 h2 arg3 h3 arg5 h5 arg6 h6 arg7 h7 arg9 arg10 arg11 x0 x1 x2 x4 x5 x6) x).trans (mix_piece arg1 h1 arg3 h3 arg5 h5 arg6 h6 arg7 h7 x0 x1 x2 x4 x5 x6 0 1 x)) fun m1 => ?_
    refine canon_step _ (oRect 0 0) _ _ y (fun x => (congrFun (pay00 c arg1 h1 arg2 h2 arg3 h3 arg5 h5 arg6 h6 arg7 h7 arg9 arg10 arg11 x0 x1 x2 x4 x5 x6) x).trans (mix_piece arg1 h1 arg3 h3 arg5 h5 arg6 h6 arg7 h7 x0 x1 x2 x4 x5 x6 0 0 x)) fun m0 => ?_
    exfalso
    have hq : (y 1).val / 512 < 4 := by omega
    have hall : ∀ q : Fin 4, y ∉ (oRect 0 q).set := by
      intro q
      match q with
      | ⟨0, _⟩ => exact m0
      | ⟨1, _⟩ => exact m1
      | ⟨2, _⟩ => exact m2
      | ⟨3, _⟩ => exact m3
    exact hall ⟨(y 1).val / 512, hq⟩ (mem_oRect 0 _ y (show (y 0).val / 256 = 0 by omega) rfl)
  refine e.trans ?_
  unfold mixOver mixFull
  have e1 : ((hRect 0).toLoadRect.idx j 1).val = (j 1).val := by omega
  have e0 : ((hRect 0).toLoadRect.idx j 0).val % 256 = (j 0).val := by omega
  have f1 : (⟨((hRect 0).toLoadRect.idx j 1).val / 512, by omega⟩ : Fin 4) = ⟨(j 1).val / 512, by omega⟩ := Fin.ext (by show _ / 512 = _ / 512; rw [e1])
  rw [f1]
  refine congrArg (mixAt arg1 h1 arg3 h3 arg5 h5 arg6 h6 arg7 h7 x0 x1 x2 x4 x5 x6 0 _) (funext fun a => ?_)
  match a with
  | ⟨0, _⟩ => exact Fin.ext e0
  | ⟨1, _⟩ => exact Fin.ext (show _ % 512 = _ % 512 by rw [e1])

/-- The second half's. -/
theorem full1 : kernelRun0_A.sl.v10254 c arg1 h1 arg2 h2 arg3 h3 arg4 h4 arg5 h5 arg6 h6 arg7 h7 arg8 h8 arg9 arg10 arg11 x0 x1 x2 x3 x4 x5 x6 x7 = mixFull arg1 h1 arg3 h3 arg5 h5 arg6 h6 arg7 h7 x0 x1 x2 x4 x5 x6 1 := by
  refine (View.readCov_eq_canon' arg9.view (kernelRun0_A.sl.H8_17 c arg1 h1 arg2 h2 arg3 h3 arg4 h4 arg5 h5 arg6 h6 arg7 h7 arg8 h8 arg9 arg10 arg11 x0 x1 x2 x3 x4 x5 x6 x7) (hRect 1).toLoadRect).trans (funext fun j => ?_)
  have j0 : (j 0).val < 256 := (j 0).isLt
  have j1 : (j 1).val < 2048 := (j 1).isLt
  have y0 : ((hRect 1).toLoadRect.idx j 0).val = 1 * 256 + 1 * (j 0).val := rfl
  have y1 : ((hRect 1).toLoadRect.idx j 1).val = 0 + 1 * (j 1).val := rfl
  have e : View.canon (kernelRun0_A.sl.H8_17 c arg1 h1 arg2 h2 arg3 h3 arg4 h4 arg5 h5 arg6 h6 arg7 h7 arg8 h8 arg9 arg10 arg11 x0 x1 x2 x3 x4 x5 x6 x7) ((hRect 1).toLoadRect.idx j) = mixOver arg1 h1 arg3 h3 arg5 h5 arg6 h6 arg7 h7 x0 x1 x2 x4 x5 x6 1 ((hRect 1).toLoadRect.idx j) := by
    generalize (hRect 1).toLoadRect.idx j = y at y0 y1
    rw [list17 c arg1 h1 arg2 h2 arg3 h3 arg4 h4 arg5 h5 arg6 h6 arg7 h7 arg8 h8 arg9 arg10 arg11 x0 x1 x2 x3 x4 x5 x6 x7]
    refine canon_step _ (oRect 1 3) _ _ y (fun x => (congrFun (pay13 c arg1 h1 arg2 h2 arg3 h3 arg4 h4 arg5 h5 arg6 h6 arg7 h7 arg8 h8 arg9 arg10 arg11 x0 x1 x2 x3 x4 x5 x6 x7) x).trans (mix_piece arg1 h1 arg3 h3 arg5 h5 arg6 h6 arg7 h7 x0 x1 x2 x4 x5 x6 1 3 x)) fun m3 => ?_
    refine canon_step _ (oRect 1 2) _ _ y (fun x => (congrFun (pay12 c arg1 h1 arg2 h2 arg3 h3 arg4 h4 arg5 h5 arg6 h6 arg7 h7 arg8 h8 arg9 arg10 arg11 x0 x1 x2 x3 x4 x5 x6 x7) x).trans (mix_piece arg1 h1 arg3 h3 arg5 h5 arg6 h6 arg7 h7 x0 x1 x2 x4 x5 x6 1 2 x)) fun m2 => ?_
    refine canon_step _ (oRect 1 1) _ _ y (fun x => (congrFun (pay11 c arg1 h1 arg2 h2 arg3 h3 arg4 h4 arg5 h5 arg6 h6 arg7 h7 arg8 h8 arg9 arg10 arg11 x0 x1 x2 x3 x4 x5 x6 x7) x).trans (mix_piece arg1 h1 arg3 h3 arg5 h5 arg6 h6 arg7 h7 x0 x1 x2 x4 x5 x6 1 1 x)) fun m1 => ?_
    refine (canon_skip (hRect 0) _ _ y (not_mem_hRect 0 y (by show _ ≠ 0; omega))).trans ?_
    rw [list13 c arg1 h1 arg2 h2 arg3 h3 arg5 h5 arg6 h6 arg7 h7 arg9 arg10 arg11 x0 x1 x2 x4 x5 x6]
    refine canon_step _ (oRect 1 0) _ _ y (fun x => (congrFun (pay10 c arg1 h1 arg2 h2 arg3 h3 arg5 h5 arg6 h6 arg7 h7 arg9 arg10 arg11 x0 x1 x2 x4 x5 x6) x).trans (mix_piece arg1 h1 arg3 h3 arg5 h5 arg6 h6 arg7 h7 x0 x1 x2 x4 x5 x6 1 0 x)) fun m0 => ?_
    exfalso
    have hq : (y 1).val / 512 < 4 := by omega
    have hall : ∀ q : Fin 4, y ∉ (oRect 1 q).set := by
      intro q
      match q with
      | ⟨0, _⟩ => exact m0
      | ⟨1, _⟩ => exact m1
      | ⟨2, _⟩ => exact m2
      | ⟨3, _⟩ => exact m3
    exact hall ⟨(y 1).val / 512, hq⟩ (mem_oRect 1 _ y (show (y 0).val / 256 = 1 by omega) rfl)
  refine e.trans ?_
  unfold mixOver mixFull
  have e1 : ((hRect 1).toLoadRect.idx j 1).val = (j 1).val := by omega
  have e0 : ((hRect 1).toLoadRect.idx j 0).val % 256 = (j 0).val := by omega
  have f1 : (⟨((hRect 1).toLoadRect.idx j 1).val / 512, by omega⟩ : Fin 4) = ⟨(j 1).val / 512, by omega⟩ := Fin.ext (by show _ / 512 = _ / 512; rw [e1])
  rw [f1]
  refine congrArg (mixAt arg1 h1 arg3 h3 arg5 h5 arg6 h6 arg7 h7 x0 x1 x2 x4 x5 x6 1 _) (funext fun a => ?_)
  match a with
  | ⟨0, _⟩ => exact Fin.ext e0
  | ⟨1, _⟩ => exact Fin.ext (show _ % 512 = _ % 512 by rw [e1])

/-- A normalised half agrees with the output block. -/
theorem norm_piece (p : Fin 2) (x : (hRect p).shape.Idx) : normAt arg1 h1 arg3 h3 arg4 h4 arg5 h5 arg6 h6 arg7 h7 arg8 h8 x0 x1 x2 x3 x4 x5 x6 x7 p x = outAt arg1 h1 arg3 h3 arg4 h4 arg5 h5 arg6 h6 arg7 h7 arg8 h8 x0 x1 x2 x3 x4 x5 x6 x7 ((hRect p).emb x) := by
  have b0 : (x 0).val < 256 := (x 0).isLt
  have v0 : ((hRect p).emb x 0).val = p.val * 256 + 1 * (x 0).val := rfl
  have v1 : ((hRect p).emb x 1).val = 0 + 1 * (x 1).val := rfl
  have hb : ((hRect p).emb x 0).val < 512 := ((hRect p).emb x 0).isLt
  have eq : (⟨((hRect p).emb x 0).val / 256, by omega⟩ : Fin 2) = p := Fin.ext (by show ((hRect p).emb x 0).val / 256 = p.val; omega)
  unfold outAt
  rw [eq]
  refine congrArg (normAt arg1 h1 arg3 h3 arg4 h4 arg5 h5 arg6 h6 arg7 h7 arg8 h8 x0 x1 x2 x3 x4 x5 x6 x7 p) (funext fun a => ?_)
  match a with
  | ⟨0, _⟩ => exact Fin.ext (show (x 0).val = ((hRect p).emb x 0).val % 256 by omega)
  | ⟨1, _⟩ => exact Fin.ext (show (x 1).val = ((hRect p).emb x 1).val by omega)

theorem mem_hRect (p : Fin 2) (y : S512x2048.Idx) (hp : (y 0).val / 256 = p.val) : y ∈ (hRect p).set := by
  have h0 : (y 0).val < 512 := (y 0).isLt
  rw [LoadRect.mem_set]
  intro a
  match a with
  | ⟨0, _⟩ => exact ⟨(y 0).val % 256, show (y 0).val % 256 < 256 by omega, show (y 0).val = p.val * 256 + 1 * ((y 0).val % 256) by omega⟩
  | ⟨1, _⟩ => exact ⟨(y 1).val, (y 1).isLt, show (y 1).val = 0 + 1 * (y 1).val by omega⟩

theorem norm0 : k0_pay1653 (kernelRun0_A.sl.r_72 c arg1 h1 arg2 h2 arg3 h3 arg5 h5 arg6 h6 arg7 h7 arg9 arg10 arg11 x0 x1 x2 x4 x5 x6) (kernelRun0_A.sl.r_73 c arg1 h1 arg2 h2 arg3 h3 arg5 h5 arg6 h6 arg7 h7 arg9 arg10 arg11 x0 x1 x2 x4 x5 x6) (resRows arg4 h4 x3 0) (gainRow arg8 h8 x7) = normAt arg1 h1 arg3 h3 arg4 h4 arg5 h5 arg6 h6 arg7 h7 arg8 h8 x0 x1 x2 x3 x4 x5 x6 x7 0 := by
  have e : k0_pay1653 (kernelRun0_A.sl.r_72 c arg1 h1 arg2 h2 arg3 h3 arg5 h5 arg6 h6 arg7 h7 arg9 arg10 arg11 x0 x1 x2 x4 x5 x6) (kernelRun0_A.sl.r_73 c arg1 h1 arg2 h2 arg3 h3 arg5 h5 arg6 h6 arg7 h7 arg9 arg10 arg11 x0 x1 x2 x4 x5 x6) (resRows arg4 h4 x3 0) (gainRow arg8 h8 x7)
      = k0_pay2 (kernelRun0_A.sl.v10210 c arg1 h1 arg2 h2 arg3 h3 arg5 h5 arg6 h6 arg7 h7 arg9 arg10 arg11 x0 x1 x2 x4 x5 x6) (resRows arg4 h4 x3 0) (gainRow arg8 h8 x7) := rfl
  rw [e, full0 c arg1 h1 arg2 h2 arg3 h3 arg5 h5 arg6 h6 arg7 h7 arg9 arg10 arg11 x0 x1 x2 x4 x5 x6]
  rfl

theorem norm1 : k0_pay2 (kernelRun0_A.sl.v10254 c arg1 h1 arg2 h2 arg3 h3 arg4 h4 arg5 h5 arg6 h6 arg7 h7 arg8 h8 arg9 arg10 arg11 x0 x1 x2 x3 x4 x5 x6 x7) (resRows arg4 h4 x3 1) (gainRow arg8 h8 x7) = normAt arg1 h1 arg3 h3 arg4 h4 arg5 h5 arg6 h6 arg7 h7 arg8 h8 x0 x1 x2 x3 x4 x5 x6 x7 1 := by
  rw [full1 c arg1 h1 arg2 h2 arg3 h3 arg4 h4 arg5 h5 arg6 h6 arg7 h7 arg8 h8 arg9 arg10 arg11 x0 x1 x2 x3 x4 x5 x6 x7]
  rfl

/-- What a tile's body leaves in the output block. -/
theorem out_canon (y : S512x2048.Idx) :
    View.canon (⟨hRect 1, k0_pay2 (kernelRun0_A.sl.v10254 c arg1 h1 arg2 h2 arg3 h3 arg4 h4 arg5 h5 arg6 h6 arg7 h7 arg8 h8 arg9 arg10 arg11 x0 x1 x2 x3 x4 x5 x6 x7) (resRows arg4 h4 x3 1) (gainRow arg8 h8 x7)⟩ ::
      kernelRun0_A.sl.H8_17 c arg1 h1 arg2 h2 arg3 h3 arg4 h4 arg5 h5 arg6 h6 arg7 h7 arg8 h8 arg9 arg10 arg11 x0 x1 x2 x3 x4 x5 x6 x7) y = outAt arg1 h1 arg3 h3 arg4 h4 arg5 h5 arg6 h6 arg7 h7 arg8 h8 x0 x1 x2 x3 x4 x5 x6 x7 y := by
  have b0 : (y 0).val < 512 := (y 0).isLt
  refine canon_step _ (hRect 1) _ _ y (fun x => (congrFun (norm1 c arg1 h1 arg2 h2 arg3 h3 arg4 h4 arg5 h5 arg6 h6 arg7 h7 arg8 h8 arg9 arg10 arg11 x0 x1 x2 x3 x4 x5 x6 x7) x).trans (norm_piece arg1 h1 arg3 h3 arg4 h4 arg5 h5 arg6 h6 arg7 h7 arg8 h8 x0 x1 x2 x3 x4 x5 x6 x7 1 x)) fun m1 => ?_
  have hy : (y 0).val / 256 = 0 := by
    by_contra hne
    exact m1 (mem_hRect 1 y (show (y 0).val / 256 = 1 by omega))
  have n1 : ∀ q, y ∉ (oRect 1 q).set := fun q => not_mem_oRect 1 q y (by show _ ≠ 1; omega)
  rw [list17 c arg1 h1 arg2 h2 arg3 h3 arg4 h4 arg5 h5 arg6 h6 arg7 h7 arg8 h8 arg9 arg10 arg11 x0 x1 x2 x3 x4 x5 x6 x7]
  refine (canon_skip (oRect 1 3) _ _ y (n1 3)).trans ?_
  refine (canon_skip (oRect 1 2) _ _ y (n1 2)).trans ?_
  refine (canon_skip (oRect 1 1) _ _ y (n1 1)).trans ?_
  exact canon_step _ (hRect 0) _ _ y (fun x => (congrFun (norm0 c arg1 h1 arg2 h2 arg3 h3 arg4 h4 arg5 h5 arg6 h6 arg7 h7 arg8 h8 arg9 arg10 arg11 x0 x1 x2 x3 x4 x5 x6 x7) x).trans (norm_piece arg1 h1 arg3 h3 arg4 h4 arg5 h5 arg6 h6 arg7 h7 arg8 h8 x0 x1 x2 x3 x4 x5 x6 x7 0 x)) fun m0 =>
    absurd (mem_hRect 0 y hy) m0

end Cert.OutKernelIdeal.Mix

end
-- ==== Proof.OutSpec.lean ====
/-
  The output stage of the layer, one token at a time, and the reference read at a token and a channel: the recurrence
  branch's output through the activation and its gate, both branches projected together, and the projection normalised,
  scaled and added to the residual.
-/
module

public import proofs.«01_k».proof.Proof.Gen.OutReferenceIdeal.Run
public import Idealize.ShloMosaic.Lib.Pipeline.ValueKit

@[expose] public section

set_option maxRecDepth 16384

noncomputable section

namespace Cert.OutSpec

open Idealize.ShloMosaic

/-- The activation. -/
def gel (v : EReal) : EReal :=
  v * (Ideal.ofBits .f32 1056964608#32 * (1 + Ideal.tanh (Ideal.ofBits .f32 1061962282#32 *
    (v + Ideal.ofBits .f32 1027024659#32 * (v * v * v)))))

/-- The gate's input at channel `d`. -/
def pre (Y : Fin 1024 → EReal) (W : Fin 1024 → Fin 1024 → EReal) (b : Fin 1024 → EReal) (d : Fin 1024) : EReal :=
  (∑ k, gel (Y k) * W k d) + b d

/-- The recurrence branch's gated output at channel `d`. -/
def ssm (Y : Fin 1024 → EReal) (W : Fin 1024 → Fin 1024 → EReal) (b z : Fin 1024 → EReal) (d : Fin 1024) : EReal :=
  gel (Y d) * Ideal.logistic (pre Y W b d) * z d

/-- The projection of both branches at channel `e`. -/
def proj (yc : Fin 1024 → EReal) (s : Fin 1024 → EReal) (Wo : Fin 2048 → Fin 2048 → EReal) (e : Fin 2048) : EReal :=
  (∑ d : Fin 1024, yc d * Wo ⟨d.val, by omega⟩ e) + ∑ d : Fin 1024, s d * Wo ⟨1024 + d.val, by omega⟩ e

/-- The normalised projection, scaled and added to the residual. -/
def norm (o x g : Fin 2048 → EReal) (e : Fin 2048) : EReal :=
  x e + o e * Ideal.rsqrt (Ideal.div (∑ k, o k * o k) (Ideal.ofBits .f32 1157627904#32) + Ideal.ofBits .f32 897988541#32) * g e

end Cert.OutSpec

namespace Cert.OutReferenceIdeal.Mix

open Cert.OutReferenceIdeal Cert.OutReferenceIdeal.Gen Idealize.ShloMosaic Idealize.ShloMosaic.TcCoe Idealize.SL.Sem

/-- The recurrence branch's output, token by channel. -/
def yArr (y : FVec Ideal S64x1024x128 .f32) : FVec Ideal S8192x1024 .f32 :=
  shapeCast _ (transpose S1024x8x64x16 [1, 2, 0, 3] (shapeCast S64x1024x8x16 y shapeCasts_S64x1024x128_S64x1024x8x16) transposes_S64x1024x8x16_S1024x8x64x16_1_2_0_3) shapeCasts_S1024x8x64x16_S8192x1024

/-- A constant, broadcast. -/
abbrev kst (b : BitVec 32) : FVec Ideal S8192x1024 .f32 := broadcastInDim S8192x1024 ![] bcast_S_S8192x1024 (constant S_ .f32 b)

/-- The activation. -/
def actArr (v : FVec Ideal S8192x1024 .f32) : FVec Ideal S8192x1024 .f32 :=
  mulf v (mulf (kst 0x3F000000#32) (addf (kst 0x3F800000#32) (Host.tanh (mulf (kst 0x3F4C422A#32)
    (addf v (mulf (kst 0x3D372713#32) (mulf (mulf v v) v)))))))

/-- The gate's input. -/
def preArr (a : FVec Ideal S8192x1024 .f32) (w : FVec Ideal S1024x1024 .bf16) (b : FVec Ideal S1024 .f32) : FVec Ideal S8192x1024 .f32 :=
  addf (Host.dotGeneral dot_S8192x1024_S1024x1024_S8192x1024_1_0_0_1_n_n none a (extf .f32 w bitsLt_bf16_f32 : FVec Ideal S1024x1024 .f32))
    (broadcastInDim S8192x1024 ![0, 1] bcast_S1x1024_S8192x1024_0_1 (broadcastInDim S1x1024 ![1] bcast_S1024_S1x1024_1 b))

/-- The recurrence branch's gated output. -/
def ssmArr (a p : FVec Ideal S8192x1024 .f32) (z : FVec Ideal S8192x1024 .bf16) : FVec Ideal S8192x1024 .f32 :=
  mulf (mulf a (Host.divf (kst 0x3F800000#32) (addf (kst 0x3F800000#32) (Host.exp (Host.negf p))))) (extf .f32 z bitsLt_bf16_f32)

/-- The projection of both branches. -/
def projArr (yc : FVec Ideal S8192x1024 .bf16) (s : FVec Ideal S8192x1024 .f32) (w : FVec Ideal S2048x2048 .bf16) : FVec Ideal S8192x2048 .f32 :=
  Host.dotGeneral dot_S8192x2048_S2048x2048_S8192x2048_1_0_0_1_n_n none
    (concatenate S8192x2048 1 [⟨S8192x1024, (extf .f32 yc bitsLt_bf16_f32 : FVec Ideal S8192x1024 .f32)⟩, ⟨S8192x1024, s⟩] concatenates_S8192x1024_S8192x1024_S8192x2048_d1)
    (extf .f32 w bitsLt_bf16_f32 : FVec Ideal S2048x2048 .f32)

/-- The result. -/
def outArr (o : FVec Ideal S8192x2048 .f32) (x : FVec Ideal S2x4096x2048 .f32) (g : FVec Ideal S2048 .f32) : FVec Ideal S8192x2048 .f32 :=
  addf (shapeCast S8192x2048 x shapeCasts_S2x4096x2048_S8192x2048)
    (mulf (mulf o (broadcastInDim S8192x2048 ![0, 1] bcast_S8192x1_S8192x2048_0_1
      (Host.rsqrt (addf (Host.divf (broadcastInDim S8192x1 ![0] bcast_S8192_S8192x1_0
          (Host.reduceAdd (mulf o o) (constant S_ .f32 0x00000000#32) reducesTo_S8192x2048_S8192_d1 h_S_))
        (broadcastInDim S8192x1 ![] bcast_S_S8192x1 (constant S_ .f32 0x45000000#32)))
        (broadcastInDim S8192x1 ![] bcast_S_S8192x1 (constant S_ .f32 0x358637BD#32))))))
      (broadcastInDim S8192x2048 ![0, 1] bcast_S1x2048_S8192x2048_0_1 (broadcastInDim S1x2048 ![1] bcast_S2048_S1x2048_1 g)))

/-- The reference, stage by stage. -/
def refArr (yc : FVec Ideal S8192x1024 .bf16) (yg : FVec Ideal S64x1024x128 .f32) (z : FVec Ideal S8192x1024 .bf16) (x : FVec Ideal S2x4096x2048 .f32)
    (w : FVec Ideal S1024x1024 .bf16) (b : FVec Ideal S1024 .f32) (wo : FVec Ideal S2048x2048 .bf16) (g : FVec Ideal S2048 .f32) : FVec Ideal S8192x2048 .f32 :=
  outArr (projArr yc (ssmArr (actArr (yArr yg)) (preArr (actArr (yArr yg)) w b) z) wo) x g

theorem res_eq (m : (ℓ : Loc nD τ sig) → Buf (Elt Ideal) ℓ) (c : Dev nD) : Value.res_main_v48 m c =
    refArr (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := rfl

theorem yArr_apply (y : FVec Ideal S64x1024x128 .f32) (j : S8192x1024.Idx) : yArr y j =
    y (ix3 ⟨(j 1).val / 16, by have h : (j 1).val < 1024 := (j 1).isLt; omega⟩ ⟨(j 0).val / 8, by have h : (j 0).val < 8192 := (j 0).isLt; omega⟩
      ⟨(j 0).val % 8 * 16 + (j 1).val % 16, by omega⟩) := by
  pointwise [yArr]

theorem actArr_apply (y : FVec Ideal S8192x1024 .f32) (j : S8192x1024.Idx) : actArr y j = Cert.OutSpec.gel (y j) := by
  pointwise [actArr, Cert.OutSpec.gel]

theorem preArr_apply (a : FVec Ideal S8192x1024 .f32) (w : FVec Ideal S1024x1024 .bf16) (b : FVec Ideal S1024 .f32) (j : S8192x1024.Idx) :
    preArr a w b j = ∑ x, a (ix2 (j 0) x) * w (ix2 x (j 1)) + b (ix1 (j 1)) := by
  pointwise [preArr]

theorem ssmArr_apply (a p : FVec Ideal S8192x1024 .f32) (z : FVec Ideal S8192x1024 .bf16) (j : S8192x1024.Idx) :
    ssmArr a p z j = a j * Ideal.logistic (p j) * z j := by
  pointwise [ssmArr, Ideal.logistic]

theorem projArr_apply (yc : FVec Ideal S8192x1024 .bf16) (s : FVec Ideal S8192x1024 .f32) (w : FVec Ideal S2048x2048 .bf16) (j : S8192x2048.Idx) :
    projArr yc s w j = Cert.OutSpec.proj (fun d => yc (ix2 (j 0) d)) (fun d => s (ix2 (j 0) d)) (fun d e => w (ix2 d e)) (j 1) := by
  pointwise [projArr, Cert.OutSpec.proj]

theorem outArr_apply (o : FVec Ideal S8192x2048 .f32) (x : FVec Ideal S2x4096x2048 .f32) (g : FVec Ideal S2048 .f32) (j : S8192x2048.Idx) :
    outArr o x g j = Cert.OutSpec.norm (fun e => o (ix2 (j 0) e))
      (fun e => x (ix3 ⟨(j 0).val / 4096, by have h : (j 0).val < 8192 := (j 0).isLt; omega⟩ ⟨(j 0).val % 4096, by omega⟩ e)) (fun e => g (ix1 e)) (j 1) := by
  have e : (ix2 (j 0) (j 1) : S8192x2048.Idx) = j := by
    funext a
    match a with
    | ⟨0, _⟩ => rfl
    | ⟨1, _⟩ => rfl
  unfold Cert.OutSpec.norm
  pointwise [outArr]
  try rw [e]

/-- The reference at token `n` and channel `e`. -/
theorem refArr_apply (yc : FVec Ideal S8192x1024 .bf16) (yg : FVec Ideal S64x1024x128 .f32) (z : FVec Ideal S8192x1024 .bf16) (x : FVec Ideal S2x4096x2048 .f32)
    (w : FVec Ideal S1024x1024 .bf16) (b : FVec Ideal S1024 .f32) (wo : FVec Ideal S2048x2048 .bf16) (g : FVec Ideal S2048 .f32) (n : Fin 8192) (e : Fin 2048) :
    refArr yc yg z x w b wo g (ix2 n e) = Cert.OutSpec.norm (Cert.OutSpec.proj (fun d => yc (ix2 n d))
      (Cert.OutSpec.ssm (fun d => yg (ix3 ⟨d.val / 16, by omega⟩ ⟨n.val / 8, by omega⟩ ⟨n.val % 8 * 16 + d.val % 16, by omega⟩))
        (fun k d => w (ix2 k d)) (fun d => b (ix1 d)) (fun d => z (ix2 n d))) (fun d e => wo (ix2 d e)))
      (fun e => x (ix3 ⟨n.val / 4096, by omega⟩ ⟨n.val % 4096, by omega⟩ e)) (fun e => g (ix1 e)) e := by
  have ea : ∀ d : Fin 1024, actArr (yArr yg) (ix2 n d) =
      Cert.OutSpec.gel (yg (ix3 ⟨d.val / 16, by omega⟩ ⟨n.val / 8, by omega⟩ ⟨n.val % 8 * 16 + d.val % 16, by omega⟩)) := fun d =>
    (actArr_apply _ _).trans (congrArg _ (yArr_apply yg (ix2 n d)))
  have ep : ∀ d : Fin 1024, preArr (actArr (yArr yg)) w b (ix2 n d) =
      Cert.OutSpec.pre (fun d => yg (ix3 ⟨d.val / 16, by omega⟩ ⟨n.val / 8, by omega⟩ ⟨n.val % 8 * 16 + d.val % 16, by omega⟩))
        (fun k d => w (ix2 k d)) (fun d => b (ix1 d)) d := fun d =>
    (preArr_apply _ _ _ _).trans (congrArg (· + b (ix1 d)) (Finset.sum_congr rfl fun k _ => congrArg (· * w (ix2 k d)) (ea k)))
  have es : ∀ d : Fin 1024, ssmArr (actArr (yArr yg)) (preArr (actArr (yArr yg)) w b) z (ix2 n d) =
      Cert.OutSpec.ssm (fun d => yg (ix3 ⟨d.val / 16, by omega⟩ ⟨n.val / 8, by omega⟩ ⟨n.val % 8 * 16 + d.val % 16, by omega⟩))
        (fun k d => w (ix2 k d)) (fun d => b (ix1 d)) (fun d => z (ix2 n d)) d := fun d => by
    refine (ssmArr_apply _ _ _ _).trans ?_
    rw [ea d, ep d]
    rfl
  refine (outArr_apply _ x g (ix2 n e)).trans ?_
  have eo : (fun e : Fin 2048 => projArr yc (ssmArr (actArr (yArr yg)) (preArr (actArr (yArr yg)) w b) z) wo (ix2 n e)) =
      Cert.OutSpec.proj (fun d => yc (ix2 n d))
      (Cert.OutSpec.ssm (fun d => yg (ix3 ⟨d.val / 16, by omega⟩ ⟨n.val / 8, by omega⟩ ⟨n.val % 8 * 16 + d.val % 16, by omega⟩))
        (fun k d => w (ix2 k d)) (fun d => b (ix1 d)) (fun d => z (ix2 n d))) (fun d e => wo (ix2 d e)) := funext fun e => by
    refine (projArr_apply yc _ wo (ix2 n e)).trans ?_
    exact congrArg (fun s => Cert.OutSpec.proj (fun d => yc (ix2 n d)) s (fun d e => wo (ix2 d e)) e) (funext es)
  exact congrArg (fun o => Cert.OutSpec.norm o (fun e => x (ix3 ⟨n.val / 4096, by omega⟩ ⟨n.val % 4096, by omega⟩ e)) (fun e => g (ix1 e)) e) eo

end Cert.OutReferenceIdeal.Mix

end
-- ==== Proof.OutRow.lean ====
/-
  What a tile's body leaves in the output block, at a token of the tile and a channel: the output stage's function of the
  token's rows of the inputs.
-/
module

public import proofs.«01_k».proof.Proof.OutBlock
public import proofs.«01_k».proof.Proof.OutSpec

@[expose] public section

set_option maxRecDepth 16384

noncomputable section

namespace Cert.OutKernelIdeal.Mix

open Cert.OutKernelIdeal Cert.OutKernelIdeal.Gen Idealize.ShloMosaic.TcCoe Idealize.SL.Sem
open Idealize.ShloMosaic hiding ix2 ix3
open Idealize.ShloMosaic.ValueIdx (ix2 ix3)

/-- A sum over 1024 terms in four blocks of 256. -/
theorem sum_blocks (f : Fin 1024 → EReal) : ∑ d, f d =
    (∑ d : Fin 256, f ⟨0 * 256 + d.val, by omega⟩) + (∑ d : Fin 256, f ⟨1 * 256 + d.val, by omega⟩)
      + (∑ d : Fin 256, f ⟨2 * 256 + d.val, by omega⟩) + ∑ d : Fin 256, f ⟨3 * 256 + d.val, by omega⟩ := by
  rw [← (finProdFinEquiv (m := 4) (n := 256)).sum_comp f, Fintype.sum_prod_type, Fin.sum_univ_four]
  have e : ∀ (k : Fin 4) (d : Fin 256), (finProdFinEquiv (k, d) : Fin (4 * 256)) = (⟨k.val * 256 + d.val, by omega⟩ : Fin 1024) :=
    fun k d => Fin.ext (by show d.val + 256 * k.val = k.val * 256 + d.val; omega)
  simp only [e]
  rfl

/-- The recurrence branch's output at token `n` of the tile and channel `d`. -/
def yRow (x1 : Vec Ideal S64x64x128 .f32) (n : Fin 512) (d : Fin 1024) : EReal :=
  x1 (ix3 ⟨d.val / 16, by omega⟩ ⟨n.val / 8, by omega⟩ ⟨n.val % 8 * 16 + d.val % 16, by omega⟩)

/-- Token `r` of half `p`. -/
def row (p : Fin 2) (r : Fin 256) : Fin 512 := ⟨p.val * 256 + r.val, by omega⟩

theorem slab_row (x1 : Vec Ideal S64x64x128 .f32) (p : Fin 2) (g : Fin 8) (r : Fin 256) (l : Fin 128) :
    slabLoad x1 p g (ix3 (0 : Fin 1) r l : S1x256x128.Idx) = yRow x1 (row p r) ⟨g.val * 128 + l.val, by omega⟩ := by
  unfold slabLoad slabAt yRow
  refine congrArg x1 (funext fun a => ?_)
  match a with
  | ⟨0, _⟩ => exact Fin.ext (show g.val * 8 + l.val / 16 = (g.val * 128 + l.val) / 16 by omega)
  | ⟨1, _⟩ => rfl
  | ⟨2, _⟩ => exact Fin.ext (show (p.val * 256 + r.val) % 8 * 16 + l.val % 16 = (p.val * 256 + r.val) % 8 * 16 + (g.val * 128 + l.val) % 16 by omega)

theorem act_apply (u w : Vec Ideal S1x256x128 .f32) (r d : Fin 256) : act u w (ix2 r d) =
    Cert.OutSpec.gel (if h : d.val < 128 then u (ix3 (0 : Fin 1) r ⟨d.val, h⟩ : S1x256x128.Idx)
      else w (ix3 (0 : Fin 1) r ⟨d.val - 128, by omega⟩ : S1x256x128.Idx)) := by
  pointwise [act, kst, Cert.OutSpec.gel]
  simp only [mul_assoc]
  rfl

/-- Block `k` of the activations. -/
theorem act_row (x1 : Vec Ideal S64x64x128 .f32) (p : Fin 2) (k : Fin 4) (g g' : Fin 8) (hg : g.val = 2 * k.val) (hg' : g'.val = 2 * k.val + 1)
    (r d : Fin 256) : act (slabLoad x1 p g) (slabLoad x1 p g') (ix2 r d)
      = Cert.OutSpec.gel (yRow x1 (row p r) ⟨k.val * 256 + d.val, by omega⟩) := by
  rw [act_apply]
  refine congrArg _ ?_
  by_cases h : d.val < 128
  · rw [dif_pos h, slab_row]
    exact congrArg _ (Fin.ext (show g.val * 128 + d.val = k.val * 256 + d.val by omega))
  · rw [dif_neg h, slab_row]
    exact congrArg _ (Fin.ext (show g'.val * 128 + (d.val - 128) = k.val * 256 + d.val by omega))

theorem step_apply (s : FVec Ideal S256x1024 .f32) (a : FVec Ideal S256x256 .f32) (w : Vec Ideal S256x1024 .bf16) (r : Fin 256) (e : Fin 1024) :
    step s a w (ix2 r e) = s (ix2 r e) + ∑ d : Fin 256, a (ix2 r d) * w (ix2 d e) := by
  pointwise [step]
  rfl

theorem gated_apply (b : Vec Ideal S1x1024 .f32) (a0 a1 a2 a3 : FVec Ideal S256x256 .f32) (w0 w1 w2 w3 z : Vec Ideal S256x1024 .bf16)
    (r : Fin 256) (e : Fin 1024) : gated b a0 a1 a2 a3 w0 w1 w2 w3 z (ix3 (0 : Fin 1) r e : S1x256x1024.Idx) =
      (if h : e.val < 256 then a0 (ix2 r ⟨e.val, h⟩) else if h : e.val - 256 < 256 then a1 (ix2 r ⟨e.val - 256, h⟩)
        else if h : e.val - 256 - 256 < 256 then a2 (ix2 r ⟨e.val - 256 - 256, h⟩) else a3 (ix2 r ⟨e.val - 256 - 256 - 256, by omega⟩))
      * Ideal.logistic (b (ix2 (0 : Fin 1) e : S1x1024.Idx) + (∑ d : Fin 256, a0 (ix2 r d) * w0 (ix2 d e)) + (∑ d : Fin 256, a1 (ix2 r d) * w1 (ix2 d e))
        + (∑ d : Fin 256, a2 (ix2 r d) * w2 (ix2 d e)) + (∑ d : Fin 256, a3 (ix2 r d) * w3 (ix2 d e))) * z (ix2 r e) := by
  have eb : broadcastTo S256x1024 b broadcasts_S1x1024_S256x1024 (ix2 r e : S256x1024.Idx) = b (ix2 (0 : Fin 1) e : S1x1024.Idx) := by
    pointwise []
    rfl
  rw [← eb, ← step_apply, ← step_apply, ← step_apply, ← step_apply]
  pointwise [gated]
  rfl

/-- The projection's input weights: four blocks of the channels of one matrix. -/
theorem pre_blocks (Y : Fin 1024 → EReal) (W : Fin 1024 → Fin 1024 → EReal) (b : Fin 1024 → EReal) (e : Fin 1024) :
    b e + (∑ d : Fin 256, Cert.OutSpec.gel (Y ⟨0 * 256 + d.val, by omega⟩) * W ⟨0 * 256 + d.val, by omega⟩ e)
      + (∑ d : Fin 256, Cert.OutSpec.gel (Y ⟨1 * 256 + d.val, by omega⟩) * W ⟨1 * 256 + d.val, by omega⟩ e)
      + (∑ d : Fin 256, Cert.OutSpec.gel (Y ⟨2 * 256 + d.val, by omega⟩) * W ⟨2 * 256 + d.val, by omega⟩ e)
      + (∑ d : Fin 256, Cert.OutSpec.gel (Y ⟨3 * 256 + d.val, by omega⟩) * W ⟨3 * 256 + d.val, by omega⟩ e)
    = Cert.OutSpec.pre Y W b e := by
  unfold Cert.OutSpec.pre
  rw [sum_blocks, add_comm _ (b e), add_assoc, add_assoc, add_assoc, add_assoc, add_assoc]

variable (arg1 : Memref sig Kind.tc Space.vmem S512x1024 EltTy.bf16) (h1 : arg1.IsWhole)
  (arg3 : Memref sig Kind.tc Space.vmem S512x1024 EltTy.bf16) (h3 : arg3.IsWhole)
  (arg4 : Memref sig Kind.tc Space.vmem S512x2048 EltTy.f32) (h4 : arg4.IsWhole)
  (arg5 : Memref sig Kind.tc Space.vmem S1024x1024 EltTy.bf16) (h5 : arg5.IsWhole)
  (arg6 : Memref sig Kind.tc Space.vmem S1x1024 EltTy.f32) (h6 : arg6.IsWhole)
  (arg7 : Memref sig Kind.tc Space.vmem S2048x2048 EltTy.bf16) (h7 : arg7.IsWhole)
  (arg8 : Memref sig Kind.tc Space.vmem S1x2048 EltTy.f32) (h8 : arg8.IsWhole)
  (x0 : Vec Ideal S512x1024 .bf16) (x1 : Vec Ideal S64x64x128 .f32) (x2 : Vec Ideal S512x1024 .bf16) (x3 : Vec Ideal S512x2048 .f32)
  (x4 : Vec Ideal S1024x1024 .bf16) (x5 : Vec Ideal S1x1024 .f32) (x6 : Vec Ideal S2048x2048 .bf16) (x7 : Vec Ideal S1x2048 .f32)

theorem gateRows_apply (k : Fin 4) (d : Fin 256) (e : Fin 1024) :
    gateRows arg5 h5 x4 k (ix2 d e) = x4 (ix2 ⟨k.val * 256 + d.val, by omega⟩ e) := by
  unfold gateRows
  refine (h5.readAt_unread x4 _ _).trans (congrArg x4 (funext fun a => ?_))
  match a with
  | ⟨0, _⟩ => exact Fin.ext (show k.val * 256 + 1 * d.val = k.val * 256 + d.val by omega)
  | ⟨1, _⟩ => exact Fin.ext (show 0 + 1 * e.val = e.val by omega)

theorem zRows_apply (p : Fin 2) (r : Fin 256) (e : Fin 1024) : zRows arg3 h3 x2 p (ix2 r e) = x2 (ix2 (row p r) e) := by
  unfold zRows
  refine (h3.readAt_unread x2 _ _).trans (congrArg x2 (funext fun a => ?_))
  match a with
  | ⟨0, _⟩ => exact Fin.ext (show p.val * 256 + 1 * r.val = p.val * 256 + r.val by omega)
  | ⟨1, _⟩ => exact Fin.ext (show 0 + 1 * e.val = e.val by omega)

theorem biasRow_apply (e : Fin 1024) : biasRow arg6 h6 x5 (ix2 (0 : Fin 1) e : S1x1024.Idx) = x5 (ix2 (0 : Fin 1) e : S1x1024.Idx) := by
  unfold biasRow
  refine (h6.readAt_unread x5 _ _).trans (congrArg x5 (funext fun a => ?_))
  match a with
  | ⟨0, _⟩ => rfl
  | ⟨1, _⟩ => exact Fin.ext (show 0 + 1 * e.val = e.val by omega)

theorem convRows_apply (p : Fin 2) (r : Fin 256) (e : Fin 1024) : convRows arg1 h1 x0 p (ix2 r e) = x0 (ix2 (row p r) e) := by
  unfold convRows
  refine (h1.readAt_unread x0 _ _).trans (congrArg x0 (funext fun a => ?_))
  match a with
  | ⟨0, _⟩ => exact Fin.ext (show p.val * 256 + 1 * r.val = p.val * 256 + r.val by omega)
  | ⟨1, _⟩ => exact Fin.ext (show 0 + 1 * e.val = e.val by omega)

theorem outW_apply (b : Fin 2) (q : Fin 4) (d : Fin 1024) (e : Fin 512) :
    outW arg7 h7 x6 b q (ix2 d e) = x6 (ix2 ⟨b.val * 1024 + d.val, by omega⟩ ⟨q.val * 512 + e.val, by omega⟩) := by
  unfold outW
  refine (h7.readAt_unread x6 _ _).trans (congrArg x6 (funext fun a => ?_))
  match a with
  | ⟨0, _⟩ => exact Fin.ext (show b.val * 1024 + 1 * d.val = b.val * 1024 + d.val by omega)
  | ⟨1, _⟩ => exact Fin.ext (show q.val * 512 + 1 * e.val = q.val * 512 + e.val by omega)

theorem resRows_apply (p : Fin 2) (r : Fin 256) (e : Fin 2048) : resRows arg4 h4 x3 p (ix2 r e) = x3 (ix2 (row p r) e) := by
  unfold resRows
  refine (h4.readAt_unread x3 _ _).trans (congrArg x3 (funext fun a => ?_))
  match a with
  | ⟨0, _⟩ => exact Fin.ext (show p.val * 256 + 1 * r.val = p.val * 256 + r.val by omega)
  | ⟨1, _⟩ => exact Fin.ext (show 0 + 1 * e.val = e.val by omega)

theorem gainRow_apply (e : Fin 2048) : gainRow arg8 h8 x7 (ix2 (0 : Fin 1) e : S1x2048.Idx) = x7 (ix2 (0 : Fin 1) e : S1x2048.Idx) := by
  unfold gainRow
  refine (h8.readAt_unread x7 _ _).trans (congrArg x7 (funext fun a => ?_))
  match a with
  | ⟨0, _⟩ => rfl
  | ⟨1, _⟩ => exact Fin.ext (show 0 + 1 * e.val = e.val by omega)

/-- The gated activations of a token. -/
abbrev gRow (n : Fin 512) : Fin 1024 → EReal :=
  Cert.OutSpec.ssm (yRow x1 n) (fun k d => x4 (ix2 k d)) (fun d => x5 (ix2 (0 : Fin 1) d : S1x1024.Idx)) (fun d => x2 (ix2 n d))

theorem gatedAt_apply (p : Fin 2) (r : Fin 256) (e : Fin 1024) :
    gatedAt arg3 h3 arg5 h5 arg6 h6 x1 x2 x4 x5 p (ix3 (0 : Fin 1) r e : S1x256x1024.Idx) = gRow x1 x2 x4 x5 (row p r) e := by
  unfold gatedAt
  rw [gated_apply]
  simp only [act_row x1 p 0 0 1 rfl rfl, act_row x1 p 1 2 3 rfl rfl, act_row x1 p 2 4 5 rfl rfl, act_row x1 p 3 6 7 rfl rfl,
    gateRows_apply, zRows_apply, biasRow_apply]
  have hp := pre_blocks (yRow x1 (row p r)) (fun k d => x4 (ix2 k d)) (fun d => x5 (ix2 (0 : Fin 1) d : S1x1024.Idx)) e
  refine congrArg₂ (· * ·) (congrArg₂ (· * ·) ?_ (congrArg Ideal.logistic hp)) rfl
  have he := e.isLt
  split_ifs with q0 q1 q2
  · exact congrArg (fun d => Cert.OutSpec.gel (yRow x1 (row p r) d)) (Fin.ext (show 0 * 256 + e.val = e.val by omega))
  · exact congrArg (fun d => Cert.OutSpec.gel (yRow x1 (row p r) d)) (Fin.ext (show 1 * 256 + (e.val - 256) = e.val by omega))
  · exact congrArg (fun d => Cert.OutSpec.gel (yRow x1 (row p r) d)) (Fin.ext (show 2 * 256 + (e.val - 256 - 256) = e.val by omega))
  · exact congrArg (fun d => Cert.OutSpec.gel (yRow x1 (row p r) d)) (Fin.ext (show 3 * 256 + (e.val - 256 - 256 - 256) = e.val by omega))

theorem addSsm_apply (q : Fin 4) (u : Vec Ideal S256x512 .f32) (y : Vec Ideal S1x256x1024 .bf16) (r : Fin 256) (e : Fin 512) :
    addSsm arg7 h7 x6 q u y (ix2 r e) = u (ix2 r e) + ∑ d : Fin 1024, y (ix3 (0 : Fin 1) r d : S1x256x1024.Idx) * outW arg7 h7 x6 1 q (ix2 d e) := by
  pointwise [addSsm]
  rfl

theorem convAt_apply (p : Fin 2) (q : Fin 4) (r : Fin 256) (e : Fin 512) :
    convAt arg1 h1 arg7 h7 x0 x6 p q (ix2 r e) = ∑ d : Fin 1024, convRows arg1 h1 x0 p (ix2 r d) * outW arg7 h7 x6 0 q (ix2 d e) := by
  pointwise [convAt]
  rfl

/-- The projection of a token. -/
abbrev pRow (n : Fin 512) : Fin 2048 → EReal :=
  Cert.OutSpec.proj (fun d => x0 (ix2 n d)) (gRow x1 x2 x4 x5 n) (fun d e => x6 (ix2 d e))

theorem mixFull_apply (p : Fin 2) (r : Fin 256) (e : Fin 2048) :
    mixFull arg1 h1 arg3 h3 arg5 h5 arg6 h6 arg7 h7 x0 x1 x2 x4 x5 x6 p (ix2 r e) = pRow x0 x1 x2 x4 x5 x6 (row p r) e := by
  have he := e.isLt
  unfold mixFull mixAt
  refine (addSsm_apply arg7 h7 x6 _ _ _ r ⟨e.val % 512, by omega⟩).trans ?_
  rw [convAt_apply]
  simp only [gatedAt_apply, convRows_apply, outW_apply]
  have ee : ∀ h, (⟨e.val / 512 * 512 + e.val % 512, h⟩ : Fin 2048) = e := fun h => Fin.ext (show e.val / 512 * 512 + e.val % 512 = e.val by omega)
  refine congrArg₂ (· + ·) (Finset.sum_congr rfl fun d _ => ?_) (Finset.sum_congr rfl fun d _ => ?_)
  · refine congrArg (x0 (ix2 (row p r) d) * ·) (congrArg x6 (funext fun a => ?_))
    match a with
    | ⟨0, _⟩ => exact Fin.ext (show 0 * 1024 + d.val = d.val by omega)
    | ⟨1, _⟩ => exact ee _
  · refine congrArg (gRow x1 x2 x4 x5 (row p r) d * ·) (congrArg x6 (funext fun a => ?_))
    match a with
    | ⟨0, _⟩ => exact Fin.ext (show 1 * 1024 + d.val = 1024 + d.val by omega)
    | ⟨1, _⟩ => exact ee _

theorem pay2_apply (o x : Vec Ideal S256x2048 .f32) (g : Vec Ideal S1x2048 .f32) (r : Fin 256) (e : Fin 2048) : k0_pay2 o x g (ix2 r e)
    = Cert.OutSpec.norm (fun e => o (ix2 r e)) (fun e => x (ix2 r e)) (fun e => g (ix2 (0 : Fin 1) e : S1x2048.Idx)) e := by
  unfold Cert.OutSpec.norm
  pointwise [k0_pay2]
  rfl

/-- The output block at token `n` and channel `e`. -/
theorem outAt_apply (n : Fin 512) (e : Fin 2048) :
    outAt arg1 h1 arg3 h3 arg4 h4 arg5 h5 arg6 h6 arg7 h7 arg8 h8 x0 x1 x2 x3 x4 x5 x6 x7 (ix2 n e) =
      Cert.OutSpec.norm (pRow x0 x1 x2 x4 x5 x6 n) (fun e => x3 (ix2 n e)) (fun e => x7 (ix2 (0 : Fin 1) e : S1x2048.Idx)) e := by
  unfold outAt normAt
  refine (pay2_apply _ _ _ _ _).trans ?_
  simp only [mixFull_apply, resRows_apply, gainRow_apply]
  have en : row ⟨n.val / 256, by omega⟩ ⟨n.val % 256, by omega⟩ = n := Fin.ext (show n.val / 256 * 256 + n.val % 256 = n.val by omega)
  exact congrArg (fun n => Cert.OutSpec.norm (pRow x0 x1 x2 x4 x5 x6 n) (fun e => x3 (ix2 n e)) (fun e => x7 (ix2 (0 : Fin 1) e : S1x2048.Idx)) e) en

end Cert.OutKernelIdeal.Mix

end
-- ==== Proof.OutFinal.lean ====
/-
  The result array of the whole grid: at every token and channel the output stage's function of the token's rows of the
  arguments, which is the reference's value there.
-/
module

public import proofs.«01_k».proof.Proof.OutRow
public import proofs.«01_k».proof.Proof.Gen.OutKernelIdeal.Value
public import Idealize.ShloMosaic.Lib.Claim

@[expose] public section

set_option maxRecDepth 16384

noncomputable section

namespace Cert.OutKernelIdeal.Mix

open Cert.OutKernelIdeal Cert.OutKernelIdeal.Gen Idealize.ShloMosaic.TcCoe Idealize.SL.Sem
open Idealize.ShloMosaic hiding ix2 ix3
open Idealize.ShloMosaic.ValueIdx (ix2 ix3)

variable (m : (ℓ : Loc nD τ sig) → Buf (Elt Ideal) ℓ)

theorem outs_eq (c : Dev nD) (t : Fin cfg0.N) (y : S512x2048.Idx) : outsAt0 m c t y =
    outAt (ms0_0 t) (hs0_0 t) (ms0_2 t) (hs0_2 t) (ms0_3 t) (hs0_3 t) (ms0_4 t) (hs0_4 t) (ms0_5 t) (hs0_5 t) (ms0_6 t) (hs0_6 t) (ms0_7 t) (hs0_7 t)
      (iblk m c 0 t) (iblk m c 1 t) (iblk m c 2 t) (iblk m c 3 t) (iblk m c 4 t) (iblk m c 5 t) (iblk m c 6 t) (iblk m c 7 t) y := by
  unfold outsAt0 out0_A_8 kernelRun0_A
  dsimp only
  rw [View.read_writes_junk_eq_canon]
  exact out_canon c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (ms0_8 t) scM0_0 scM0_1 (iblk m c 0 t) (iblk m c 1 t) (iblk m c 2 t) (iblk m c 3 t) (iblk m c 4 t) (iblk m c 5 t) (iblk m c 6 t) (iblk m c 7 t) y

theorem idx : ∀ t : Fin cfg0.N, win0_0.index t = ![t.val, 0] ∧ win0_1.index t = ![0, t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0] ∧ win0_8.index t = ![t.val, 0] :=
  (by decide +kernel : ∀ t : Fin grid0.N, _)

/-- Token `n` of tile `t`. -/
def tokOf (t : Fin cfg0.N) (n : Fin 512) : Fin 8192 := ⟨t.val * 512 + n.val, by have h : t.val < 16 := t.isLt; omega⟩

theorem blk0 (c : Dev nD) (t : Fin cfg0.N) (n : Fin 512) (d : Fin 1024) :
    (iblk m c 0 t : Vec Ideal S512x1024 .bf16) (ix2 n d) = m ((c.tc : Thread nD τ).loc main_arg0) (ix2 (tokOf t n) d : S8192x1024.Idx) := by
  unfold tokOf
  blk_ext [iblk, V, idx t]

theorem blk1 (c : Dev nD) (t : Fin cfg0.N) (n : Fin 512) (d : Fin 1024) :
    yRow (iblk m c 1 t : Vec Ideal S64x64x128 .f32) n d = m ((c.tc : Thread nD τ).loc main_arg1)
      (ix3 ⟨d.val / 16, by omega⟩ ⟨(tokOf t n).val / 8, by omega⟩ ⟨(tokOf t n).val % 8 * 16 + d.val % 16, by omega⟩ : S64x1024x128.Idx) := by
  unfold yRow tokOf
  have e1 : (t.val * 512 + n.val) / 8 = t.val * 64 + n.val / 8 := by omega
  have e2 : (t.val * 512 + n.val) % 8 = n.val % 8 := by omega
  blk_ext [iblk, V, idx t, e1, e2]

theorem blk2 (c : Dev nD) (t : Fin cfg0.N) (n : Fin 512) (d : Fin 1024) :
    (iblk m c 2 t : Vec Ideal S512x1024 .bf16) (ix2 n d) = m ((c.tc : Thread nD τ).loc main_arg2) (ix2 (tokOf t n) d : S8192x1024.Idx) := by
  unfold tokOf
  blk_ext [iblk, V, idx t]

theorem blk3 (c : Dev nD) (t : Fin cfg0.N) (n : Fin 512) (e : Fin 2048) :
    (iblk m c 3 t : Vec Ideal S512x2048 .f32) (ix2 n e) = m ((c.tc : Thread nD τ).loc main_arg3)
      (ix3 ⟨(tokOf t n).val / 4096, by omega⟩ ⟨(tokOf t n).val % 4096, by omega⟩ e : S2x4096x2048.Idx) := by
  unfold tokOf
  blk_point [iblk, V, idx t]

theorem blk4 (c : Dev nD) (t : Fin cfg0.N) (k d : Fin 1024) :
    (iblk m c 4 t : Vec Ideal S1024x1024 .bf16) (ix2 k d) = m ((c.tc : Thread nD τ).loc main_arg4) (ix2 k d : S1024x1024.Idx) := by
  blk_ext [iblk, V, idx t]

theorem blk5 (c : Dev nD) (t : Fin cfg0.N) (d : Fin 1024) :
    (iblk m c 5 t : Vec Ideal S1x1024 .f32) (ix2 (0 : Fin 1) d) = m ((c.tc : Thread nD τ).loc main_arg5) (ix1 d : S1024.Idx) := by
  blk_point [iblk, V, idx t]

theorem blk6 (c : Dev nD) (t : Fin cfg0.N) (k d : Fin 2048) :
    (iblk m c 6 t : Vec Ideal S2048x2048 .bf16) (ix2 k d) = m ((c.tc : Thread nD τ).loc main_arg6) (ix2 k d : S2048x2048.Idx) := by
  blk_ext [iblk, V, idx t]

theorem blk7 (c : Dev nD) (t : Fin cfg0.N) (d : Fin 2048) :
    (iblk m c 7 t : Vec Ideal S1x2048 .f32) (ix2 (0 : Fin 1) d) = m ((c.tc : Thread nD τ).loc main_arg7) (ix1 d : S2048.Idx) := by
  blk_point [iblk, V, idx t]

theorem out_point (c : Dev nD) (t : Fin cfg0.N) (n : Fin 512) (e : Fin 2048) : outsAt0 m c t (ix2 n e : S512x2048.Idx) =
    Cert.OutReferenceIdeal.Mix.refArr (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (Idealize.ShloMosaic.ix2 (tokOf t n) e) := by
  refine (outs_eq m c t _).trans ((outAt_apply _ _ _ _ _ _ _ _ _ _ _ _ _ _ _ _ _ _ _ _ _ _ n e).trans ?_)
  refine Eq.trans ?_ (Cert.OutReferenceIdeal.Mix.refArr_apply _ _ _ _ _ _ _ _ (tokOf t n) e).symm
  have y1 : yRow (iblk m c 1 t : Vec Ideal S64x64x128 .f32) n = _ := funext (blk1 m c t n)
  simp only [pRow, gRow, blk0 m, y1, blk2 m, blk3 m, blk4 m, blk5 m, blk6 m, blk7 m]
  rfl

theorem final (c : Dev nD) : (dats m 0 c).arrAt 8 (cfgs 0).N =
    Cert.OutReferenceIdeal.Mix.refArr (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := by
  refine (dats m 0 c).arrAt_eq_of_covers 8 _ (by decide +kernel) fun t _ y => ?_
  blk_simp
  rw [after0_8]
  have ey : y = (ix2 (y 0) (y 1) : S512x2048.Idx) := by
    funext a
    match a with
    | ⟨0, _⟩ => rfl
    | ⟨1, _⟩ => rfl
  refine (congrArg (outsAt0 m c t) ey).trans ((out_point m c t (y 0) (y 1)).trans ?_)
  unfold tokOf
  blk_ext [idx t]

end Cert.OutKernelIdeal.Mix

end
-- ==== Proof.OutAlgebraic.lean ====
/- The claim that the output stage's kernel computes its reference's result. -/
module

public import proofs.«01_k».proof.Defs
public import proofs.«01_k».proof.Proof.OutFinal
public import Idealize.ShloMosaic.Lib.Claim
public import Idealize.ShloMosaic.Lib.Quiescent

@[expose] public section

set_option maxRecDepth 16384

noncomputable section

namespace Cert.Proof

open Idealize.ShloMosaic Idealize.SL.Sem

/-- The reference keeps its arguments and ends with every semaphore as it was. -/
theorem outReference_frame : Cert.quiescent_OutReferenceIdeal (hOutReferenceIdeal := Cert.OutReferenceIdeal.Gen.facts) := by
  intro m g _
  exact (θ_run Cert.OutReferenceIdeal.defs _ _).mono
    (fun r h => ⟨fun c => (h c).2, sem_eq_zero_of_no_sems (sig := Cert.OutReferenceIdeal.sig) rfl r.2⟩)
    (Cert.OutReferenceIdeal.Value.run (F := Ideal) m g)

theorem out_algebraic : Cert.algebraic_OutKernelIdeal_OutReferenceIdeal
    (hOutKernelIdeal := Cert.OutKernelIdeal.Gen.facts) (hOutReferenceIdeal := Cert.OutReferenceIdeal.Gen.facts) := by
  pair_intro
  · run_from Cert.OutKernelIdeal.Gen.run_main m g
  · run_from Cert.OutReferenceIdeal.Value.run m' g'
    refine (Cert.OutReferenceIdeal.Mix.res_eq m' c).trans (Eq.trans ?_ (Cert.OutKernelIdeal.Mix.final m c).symm)
    obtain ⟨e0, e1, e2, e3, e4, e5, e6, e7⟩ := hagree c
    rw [e0, e1, e2, e3, e4, e5, e6, e7]

end Cert.Proof

end
-- ==== Proof.InLoad.lean ====
/-
  The in-projection call's weight load: at the first point of the grid the kernel copies its weight, a tile at a time,
  through six views of two scratch buffers, and rounds it into a third. The two buffers are taken apart into those views
  before it, and put together again after.
-/
module

public import proofs.«01_k».proof.Proof.Gen.InKernel.Launch
public import proofs.«01_k».proof.Proof.Gen.InKernel.Points
public import Idealize.ShloMosaic.Lib.Ring
public import Idealize.ShloMosaic.Lib.Tactic
public import Idealize.ShloMosaic.Lib.WordCmp
public import Idealize.ShloMosaic.Lib.Pipeline.FrameBody
public import Idealize.ShloMosaic.Lib.Pipeline.Frame

@[expose] public section

set_option maxRecDepth 16384

noncomputable section

namespace Cert.InKernel.Load

open Cert.InKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

/-- A memref's elements held on core `c`. -/
abbrev own (c : Dev nD) {sp : Space} {s : Shape} {e : EltTy} (m : Memref sig .tc sp s e) (f : Buf (Elt F) (m.view.loc (c : Thread nD τ))) : sProp 𝕄 :=
  m.view.loc (c : Thread nD τ) ↦[m.view.set]{fullShare} f

/-- A buffer held whole on core `c`. -/
abbrev pt (c : Dev nD) {sp : Space} {s : Shape} {e : EltTy} (m : Memref sig .tc sp s e) (f : Buf (Elt F) (m.view.loc (c : Thread nD τ))) : sProp 𝕄 :=
  m.view.loc (c : Thread nD τ) ↦{fullShare} f

abbrev st0 : Memref sig .tc .vmem S4x512x128 .f32 := ((Memref.whole cc0_scratch2).slice (Rect.unit (s := S2x5x512x256) ![0, 0, 0, 0] S1x4x512x128.size inb_S2x5x512x256_S1x4x512x128_0_0_0_0) (fun _ => rfl)).squeeze S4x512x128 squeezes_S1x4x512x128_S4x512x128
abbrev st1 : Memref sig .tc .vmem S4x512x128 .f32 := ((Memref.whole cc0_scratch2).slice (Rect.unit (s := S2x5x512x256) ![0, 0, 0, 128] S1x4x512x128.size inb_S2x5x512x256_S1x4x512x128_0_0_0_128) (fun _ => rfl)).squeeze S4x512x128 squeezes_S1x4x512x128_S4x512x128
abbrev st2 : Memref sig .tc .vmem S4x512x128 .f32 := ((Memref.whole cc0_scratch2).slice (Rect.unit (s := S2x5x512x256) ![1, 0, 0, 0] S1x4x512x128.size inb_S2x5x512x256_S1x4x512x128_1_0_0_0) (fun _ => rfl)).squeeze S4x512x128 squeezes_S1x4x512x128_S4x512x128
abbrev st3 : Memref sig .tc .vmem S4x512x128 .f32 := ((Memref.whole cc0_scratch2).slice (Rect.unit (s := S2x5x512x256) ![1, 0, 0, 128] S1x4x512x128.size inb_S2x5x512x256_S1x4x512x128_1_0_0_128) (fun _ => rfl)).squeeze S4x512x128 squeezes_S1x4x512x128_S4x512x128
abbrev st4 : Memref sig .tc .vmem S4x512x128 .f32 := (Memref.whole cc0_scratch1).slice (Rect.unit (s := S8x512x128) ![0, 0, 0] S4x512x128.size inb_S8x512x128_S4x512x128_0_0_0) (fun _ => rfl)
abbrev st5 : Memref sig .tc .vmem S4x512x128 .f32 := (Memref.whole cc0_scratch1).slice (Rect.unit (s := S8x512x128) ![4, 0, 0] S4x512x128.size inb_S8x512x128_S4x512x128_4_0_0) (fun _ => rfl)

/-- The six cells at zero. -/
abbrev cells (c : Dev nD) : sProp 𝕄 :=
  iprop(semVal ((c : Thread nD τ), .dma 19) 0 ∗ semVal ((c : Thread nD τ), .dma 20) 0 ∗ semVal ((c : Thread nD τ), .dma 21) 0 ∗ semVal ((c : Thread nD τ), .dma 22) 0 ∗ semVal ((c : Thread nD τ), .dma 23) 0 ∗ semVal ((c : Thread nD τ), .dma 24) 0)

/-- The grid's first point: the weight is loaded. -/
abbrev cond0_0 (i : grid0.Coords) : Prop := (Scalar.cmpi .ne (Scalar.extui (Scalar.cmpi .eq (BitVec.ofNat 32 (i 0).val) 0#32)) 0#32) = 1#1

/-- A sequence's first point: the carry is reset. -/
abbrev cond0_1 (i : grid0.Coords) : Prop := (Scalar.cmpi .ne (Scalar.extui (Scalar.cmpi .eq (Scalar.select (Scalar.andi (Scalar.xori (Scalar.cmpi .slt (Scalar.remsi (BitVec.ofNat 32 (i 0).val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 (i 0).val) (Scalar.select (Scalar.cmpi .eq 8#32 0#32) 1#32 8#32)) 0#32)) (Scalar.addi (Scalar.remsi (BitVec.ofNat 32 (i 0).val) (Scalar.select (Scalar.cmpi .eq 8#32 0#32) 1#32 8#32)) (Scalar.select (Scalar.cmpi .eq 8#32 0#32) 1#32 8#32)) (Scalar.remsi (BitVec.ofNat 32 (i 0).val) (Scalar.select (Scalar.cmpi .eq 8#32 0#32) 1#32 8#32))) 0#32)) 0#32) = 1#1

section
variable {ℓ : Loc nD τ sig} {I S : Finset (Idx ℓ)}

/-- Elements held at some contents, taken apart. -/
theorem any_split (h : I ⊆ S) (f : Buf (Elt F) ℓ) :
    (ℓ ↦[S]{fullShare} f : sProp 𝕄) ⊢ iprop((ℓ ↦[I]{fullShare} f) ∗ ℓ ↦[S \ I]{fullShare} f) :=
  (pointsTo_split_subset h).1

/-- Elements held apart at some contents each, put together. -/
theorem any_join (h : I ⊆ S) :
    iprop((∃ f, ℓ ↦[I]{fullShare} f) ∗ (∃ f, ℓ ↦[S \ I]{fullShare} f)) ⊢ (iprop(∃ f : Buf (Elt F) ℓ, ℓ ↦[S]{fullShare} f) : sProp 𝕄) := by
  iintro ⟨⟨%f, H⟩, ⟨%g, R⟩⟩
  iexists _
  iapply (pointsTo_join_subset h)
  isplitl [H]; · iexact H
  iexact R
end

abbrev sa : Memref sig .tc .vmem S8x512x128 .f32 := Memref.whole cc0_scratch1
abbrev sb : Memref sig .tc .vmem S2x5x512x256 .f32 := Memref.whole cc0_scratch2
abbrev sw : Memref sig .tc .vmem S2048x6144 .bf16 := Memref.whole cc0_scratch3

/-- The elements of a view's rectangle lie in what is left of the whole after another's, the two rectangles apart. -/
theorem sub1 : st1.view.set ⊆ Finset.univ \ st0.view.set := by
  rw [Memref.set_view_squeeze, Memref.set_view_squeeze]
  exact Finset.subset_sdiff.mpr ⟨Finset.subset_univ _, (View.disjoint_slice_of_disj _ _ _ (by decide))⟩
theorem sub2 : st2.view.set ⊆ (Finset.univ \ st0.view.set) \ st1.view.set := by
  rw [Memref.set_view_squeeze, Memref.set_view_squeeze, Memref.set_view_squeeze]
  exact Finset.subset_sdiff.mpr ⟨Finset.subset_sdiff.mpr ⟨Finset.subset_univ _, (View.disjoint_slice_of_disj _ _ _ (by decide))⟩, (View.disjoint_slice_of_disj _ _ _ (by decide))⟩
theorem sub3 : st3.view.set ⊆ ((Finset.univ \ st0.view.set) \ st1.view.set) \ st2.view.set := by
  rw [Memref.set_view_squeeze, Memref.set_view_squeeze, Memref.set_view_squeeze, Memref.set_view_squeeze]
  exact Finset.subset_sdiff.mpr ⟨Finset.subset_sdiff.mpr ⟨Finset.subset_sdiff.mpr ⟨Finset.subset_univ _, (View.disjoint_slice_of_disj _ _ _ (by decide))⟩, (View.disjoint_slice_of_disj _ _ _ (by decide))⟩, (View.disjoint_slice_of_disj _ _ _ (by decide))⟩
theorem sub5 : st5.view.set ⊆ Finset.univ \ st4.view.set :=
  Finset.subset_sdiff.mpr ⟨Finset.subset_univ _, (View.disjoint_slice_of_disj _ _ _ (by decide))⟩

/-- What no view takes of the buffer of four views. -/
abbrev restB (c : Dev nD) (f : Buf (Elt F) (sb.view.loc (c : Thread nD τ))) : sProp 𝕄 :=
  sb.view.loc (c : Thread nD τ) ↦[(((Finset.univ \ st0.view.set) \ st1.view.set) \ st2.view.set) \ st3.view.set]{fullShare} f
/-- What no view takes of the buffer of two views. -/
abbrev restA (c : Dev nD) (f : Buf (Elt F) (sa.view.loc (c : Thread nD τ))) : sProp 𝕄 :=
  sa.view.loc (c : Thread nD τ) ↦[(Finset.univ \ st4.view.set) \ st5.view.set]{fullShare} f

theorem split_b (c : Dev nD) (f : Buf (Elt F) (sb.view.loc (c : Thread nD τ))) :
    own c sb f ⊢ iprop((∃ f, own c st0 f) ∗ (∃ f, own c st1 f) ∗ (∃ f, own c st2 f) ∗ (∃ f, own c st3 f) ∗ ∃ f, restB c f) := by
  unfold own
  rw [show sb.view.set = Finset.univ from View.set_whole _]
  iintro HB
  ihave HB := (any_split (Finset.subset_univ st0.view.set) f) $$ HB
  icases HB with ⟨B0, HB⟩
  ihave HB := (any_split sub1 f) $$ HB
  icases HB with ⟨B1, HB⟩
  ihave HB := (any_split sub2 f) $$ HB
  icases HB with ⟨B2, HB⟩
  ihave HB := (any_split sub3 f) $$ HB
  icases HB with ⟨B3, HB⟩
  isplitl [B0]; · iexists f; iexact B0
  isplitl [B1]; · iexists f; iexact B1
  isplitl [B2]; · iexists f; iexact B2
  isplitl [B3]; · iexists f; iexact B3
  iexists f; iexact HB

theorem join_b (c : Dev nD) :
    iprop((∃ f, own c st0 f) ∗ (∃ f, own c st1 f) ∗ (∃ f, own c st2 f) ∗ (∃ f, own c st3 f) ∗ ∃ f, restB c f)
      ⊢ (iprop(∃ f : Buf (Elt F) (sb.view.loc (c : Thread nD τ)), own c sb f) : sProp 𝕄) := by
  unfold own
  rw [show sb.view.set = Finset.univ from View.set_whole _]
  iintro ⟨B0, B1, B2, B3, HB⟩
  iapply (any_join (Finset.subset_univ st0.view.set))
  isplitl [B0]; · iexact B0
  iapply (any_join sub1)
  isplitl [B1]; · iexact B1
  iapply (any_join sub2)
  isplitl [B2]; · iexact B2
  iapply (any_join sub3)
  isplitl [B3]; · iexact B3
  iexact HB

theorem split_a (c : Dev nD) (f : Buf (Elt F) (sa.view.loc (c : Thread nD τ))) :
    own c sa f ⊢ iprop((∃ f, own c st4 f) ∗ (∃ f, own c st5 f) ∗ ∃ f, restA c f) := by
  unfold own
  rw [show sa.view.set = Finset.univ from View.set_whole _]
  iintro HB
  ihave HB := (any_split (Finset.subset_univ st4.view.set) f) $$ HB
  icases HB with ⟨B0, HB⟩
  ihave HB := (any_split sub5 f) $$ HB
  icases HB with ⟨B1, HB⟩
  isplitl [B0]; · iexists f; iexact B0
  isplitl [B1]; · iexists f; iexact B1
  iexists f; iexact HB

theorem join_a (c : Dev nD) :
    iprop((∃ f, own c st4 f) ∗ (∃ f, own c st5 f) ∗ ∃ f, restA c f)
      ⊢ (iprop(∃ f : Buf (Elt F) (sa.view.loc (c : Thread nD τ)), own c sa f) : sProp 𝕄) := by
  unfold own
  rw [show sa.view.set = Finset.univ from View.set_whole _]
  iintro ⟨B0, B1, HB⟩
  iapply (any_join (Finset.subset_univ st4.view.set))
  isplitl [B0]; · iexact B0
  iapply (any_join sub5)
  isplitl [B1]; · iexact B1
  iexact HB

/-- What the body's first part is given and gives back, the scratch buffers and the cells. -/
abbrev room (c : Dev nD) : sProp 𝕄 :=
  iprop((∃ f, own c sa f) ∗ (∃ f, own c sb f) ∗ (∃ f, own c sw f) ∗ cells c ∗ (∃ W, owes (c : Thread nD τ) 0 W))

set_option maxHeartbeats 40000000 in
theorem part79 (c : Dev nD) (i : grid0.Coords) (arg1 : Memref sig .tc .vmem S512x2048 .f32) (harg1 : arg1.IsWhole) (arg2 : Memref sig .tc .vmem S1x2048 .f32) (harg2 : arg2.IsWhole) (arg4 : Memref sig .tc .vmem S3x1024 .f32) (harg4 : arg4.IsWhole) (arg5 : Memref sig .tc .vmem S1x1024 .f32) (harg5 : arg5.IsWhole) (arg6 : Memref sig .tc .vmem S64x1024 .f32) (harg6 : arg6.IsWhole) (arg7 : Memref sig .tc .vmem S128x2048 .f32) (harg7 : arg7.IsWhole) (arg8 : Memref sig .tc .vmem S512x1024 .bf16) (harg8 : arg8.IsWhole) (arg9 : Memref sig .tc .vmem S64x64x128 .f32) (harg9 : arg9.IsWhole) (arg10 : Memref sig .tc .vmem S512x1024 .bf16) (harg10 : arg10.IsWhole) (arg11 : Memref sig .tc .vmem S64x1024 .bf16) (harg11 : arg11.IsWhole) (arg12 : Memref sig .tc .vmem S128x2048 .bf16) (harg12 : arg12.IsWhole) (arg13 : Memref sig .tc .vmem S8x1024 .f32) (harg13 : arg13.IsWhole)
    (X : Buf (Elt F) ((Memref.whole main_v3).view.loc (c : Thread nD τ)))
    (f1 : Buf (Elt F) (arg1.view.loc (c : Thread nD τ))) (f2 : Buf (Elt F) (arg2.view.loc (c : Thread nD τ))) (f6 : Buf (Elt F) (arg6.view.loc (c : Thread nD τ))) (f13 : Buf (Elt F) (arg13.view.loc (c : Thread nD τ)))
    (f11 : Buf (Elt F) (arg11.view.loc (c : Thread nD τ)))
    (fa : Buf (Elt F) (sa.view.loc (c : Thread nD τ))) (fb : Buf (Elt F) (sb.view.loc (c : Thread nD τ))) (fw : Buf (Elt F) (sw.view.loc (c : Thread nD τ))) (W : Waits sig Unit) :
    iprop(pt c (Memref.whole main_v3) X ∗ own c arg1 f1 ∗ own c arg2 f2 ∗ own c arg6 f6 ∗ own c arg13 f13 ∗ own c arg11 f11 ∗ own c sa fa ∗ own c sb fb ∗ own c sw fw ∗ cells c ∗ owes (c : Thread nD τ) 0 W)
      ⊢ wp frame (wpE (defs₀ (F := F)) Variants.none c none) Set.univ (k0_part79 i arg1 harg1 arg2 harg2 (Memref.whole main_v3) (Memref.isWhole_whole _) arg4 harg4 arg5 harg5 arg6 harg6 arg7 harg7 arg8 harg8 arg9 harg9 arg10 harg10 arg11 harg11 arg12 harg12 arg13 harg13 (Memref.whole cc0_scratch1) (Memref.isWhole_whole _) (Memref.whole cc0_scratch2) (Memref.isWhole_whole _) (Memref.whole cc0_scratch3) (Memref.isWhole_whole _) cc0_scratch4)
        (fun _ => iprop(pt c (Memref.whole main_v3) X ∗ own c arg1 f1 ∗ own c arg2 f2 ∗ own c arg6 f6 ∗ (∃ f, own c arg13 f) ∗ own c arg11 f11 ∗ room c)) := by
  iintro ⟨HX, H1, H2, H6, H13, H11, HA, HB, HW, ⟨C0, C1, C2, C3, C4, C5⟩, HO⟩
  ihave HB := (split_b c fb) $$ HB
  icases HB with ⟨⟨%g0, B0⟩, ⟨%g1, B1⟩, ⟨%g2, B2⟩, ⟨%g3, B3⟩, HB⟩
  ihave HA := (split_a c fa) $$ HA
  icases HA with ⟨⟨%g4, B4⟩, ⟨%g5, B5⟩, HA⟩
  by_cases hc0 : cond0_0 i <;> by_cases hc1 : cond0_1 i
  all_goals
    unfold k0_part79
    sl_exec (disch := first | exact hc0 | exact hc1)
    sl_step
    unfold room
    isplitl [HX]; · iexact HX
    isplitl [H1]; · iexact H1
    isplitl [H2]; · iexact H2
    isplitl [H6]; · iexact H6
    isplitl [H13]; · iexists _; iexact H13
    isplitl [H11]; · iexact H11
    isplitl [HA B4 B5]
    · iapply (join_a c)
      isplitl [B4]; · iexists _; iexact B4
      isplitl [B5]; · iexists _; iexact B5
      iexact HA
    isplitl [HB B0 B1 B2 B3]
    · iapply (join_b c)
      isplitl [B0]; · iexists _; iexact B0
      isplitl [B1]; · iexists _; iexact B1
      isplitl [B2]; · iexists _; iexact B2
      isplitl [B3]; · iexists _; iexact B3
      iexact HB
    isplitl [HW]; · iexists _; iexact HW
    isplitl [C0 C1 C2 C3 C4 C5]
    · isplitl [C0]; · iexact C0
      isplitl [C1]; · iexact C1
      isplitl [C2]; · iexact C2
      isplitl [C3]; · iexact C3
      isplitl [C4]; · iexact C4
      iexact C5
    iexists _; iexact HO

end Cert.InKernel.Load

end
-- ==== Proof.InRun.lean ====
/-
  The in-projection call's body at a point of its grid: from its windows and scratch buffers held it runs to the end,
  leaves the inputs and the weight's array as they were, and everything else at some contents.
-/
module

public import proofs.«01_k».proof.Proof.InLoad
public import proofs.«01_k».proof.Proof.Gen.InKernel.Launch
public import proofs.«01_k».proof.Proof.Gen.InKernel.Points
public import Idealize.ShloMosaic.Lib.Ring
public import Idealize.ShloMosaic.Lib.Tactic
public import Idealize.ShloMosaic.Lib.WordCmp
public import Idealize.ShloMosaic.Lib.Pipeline.FrameBody
public import Idealize.ShloMosaic.Lib.Pipeline.Frame

@[expose] public section

set_option maxRecDepth 16384

noncomputable section

namespace Cert.InKernel.Load

open Cert.InKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

set_option maxHeartbeats 40000000 in
/-- The body's run. -/
theorem conv_run (c : Dev nD) (i : grid0.Coords) (arg1 : Memref sig .tc .vmem S512x2048 .f32) (harg1 : arg1.IsWhole) (arg2 : Memref sig .tc .vmem S1x2048 .f32) (harg2 : arg2.IsWhole) (arg4 : Memref sig .tc .vmem S3x1024 .f32) (harg4 : arg4.IsWhole) (arg5 : Memref sig .tc .vmem S1x1024 .f32) (harg5 : arg5.IsWhole) (arg6 : Memref sig .tc .vmem S64x1024 .f32) (harg6 : arg6.IsWhole) (arg7 : Memref sig .tc .vmem S128x2048 .f32) (harg7 : arg7.IsWhole) (arg8 : Memref sig .tc .vmem S512x1024 .bf16) (harg8 : arg8.IsWhole) (arg9 : Memref sig .tc .vmem S64x64x128 .f32) (harg9 : arg9.IsWhole) (arg10 : Memref sig .tc .vmem S512x1024 .bf16) (harg10 : arg10.IsWhole) (arg11 : Memref sig .tc .vmem S64x1024 .bf16) (harg11 : arg11.IsWhole) (arg12 : Memref sig .tc .vmem S128x2048 .bf16) (harg12 : arg12.IsWhole) (arg13 : Memref sig .tc .vmem S8x1024 .f32) (harg13 : arg13.IsWhole)
    (X : Buf (Elt F) ((Memref.whole main_v3).view.loc (c : Thread nD τ))) (x0 : Vec F S512x2048 .f32) (x1 : Vec F S1x2048 .f32) (x2 : Vec F S3x1024 .f32) (x3 : Vec F S1x1024 .f32) (x4 : Vec F S64x1024 .f32) (x5 : Vec F S128x2048 .f32) (W : Waits sig Unit) (K : PUnit → sProp 𝕄) :
    iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) sa fullShare d) ∗ (∃ d, owns (c : Thread nD τ) sb fullShare d) ∗ (∃ d, owns (c : Thread nD τ) sw fullShare d) ∗ cells c ∗ pt c (Memref.whole main_v3) X ∗ owes (c : Thread nD τ) 0 W
        ∗ (iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) sa fullShare d) ∗ (∃ d, owns (c : Thread nD τ) sb fullShare d) ∗ (∃ d, owns (c : Thread nD τ) sw fullShare d) ∗ cells c ∗ pt c (Memref.whole main_v3) X ∗ (∃ W', owes (c : Thread nD τ) 0 W')) -∗ K ⟨⟩))
      ⊢ wp frame (wpE (defs₀ (F := F)) Variants.none c none) Set.univ (cc0_inproj_conv i arg1 harg1 arg2 harg2 (Memref.whole main_v3) (Memref.isWhole_whole _) arg4 harg4 arg5 harg5 arg6 harg6 arg7 harg7 arg8 harg8 arg9 harg9 arg10 harg10 arg11 harg11 arg12 harg12 arg13 harg13 (Memref.whole cc0_scratch1) (Memref.isWhole_whole _) (Memref.whole cc0_scratch2) (Memref.isWhole_whole _) (Memref.whole cc0_scratch3) (Memref.isWhole_whole _) cc0_scratch4) K := by
  have hcut := part79 (F := F) c i arg1 harg1 arg2 harg2 arg4 harg4 arg5 harg5 arg6 harg6 arg7 harg7 arg8 harg8 arg9 harg9 arg10 harg10 arg11 harg11 arg12 harg12 arg13 harg13 X
  unfold owns
  iintro ⟨⟨%f1, %hf1, H1⟩, ⟨%f2, %hf2, H2⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%da, %fa, -, HA⟩, ⟨%db, %fb, -, HB⟩, ⟨%dw, %fw, -, HW⟩, ⟨C0, C1, C2, C3, C4, C5⟩, HX, HO, Hk⟩
  obtain rfl := harg1.eq_unread hf1
  obtain rfl := harg2.eq_unread hf2
  obtain rfl := harg4.eq_unread hf4
  obtain rfl := harg5.eq_unread hf5
  obtain rfl := harg6.eq_unread hf6
  obtain rfl := harg7.eq_unread hf7
  unfold cc0_inproj_conv
  sl_exec
  sl_step
  iapply Hk
  isplitl [Hk0_part79_1]
  · iexists _; isplitr; · ipureintro; exact harg1.read_unread _
    iexact Hk0_part79_1
  isplitl [Hk0_part79_2]
  · iexists _; isplitr; · ipureintro; exact harg2.read_unread _
    iexact Hk0_part79_2
  isplitl [H4]
  · iexists _; isplitr; · ipureintro; exact harg4.read_unread _
    iexact H4
  isplitl [H5]
  · iexists _; isplitr; · ipureintro; exact harg5.read_unread _
    iexact H5
  isplitl [Hk0_part79_3]
  · iexists _; isplitr; · ipureintro; exact harg6.read_unread _
    iexact Hk0_part79_3
  isplitl [H7]
  · iexists _; isplitr; · ipureintro; exact harg7.read_unread _
    iexact H7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [Hk0_part79_5]
  · iexists _, _; isplitr; swap; · iexact Hk0_part79_5
    ipureintro; rfl
  isplitl [H12]
  · iexists _, _; isplitr; swap; · iexact H12
    ipureintro; rfl
  isplitl [Hk0_part79_4]
  · iexists _, _; isplitr; swap; · iexact Hk0_part79_4
    ipureintro; rfl
  isplitl [Hk0_part79_6]
  · iexists _, _; isplitr; swap; · iexact Hk0_part79_6
    ipureintro; rfl
  isplitl [Hk0_part79_7]
  · iexists _, _; isplitr; swap; · iexact Hk0_part79_7
    ipureintro; rfl
  isplitl [Hk0_part79_8]
  · iexists _, _; isplitr; swap; · iexact Hk0_part79_8
    ipureintro; rfl
  isplitl [Hk0_part79_9 Hk0_part79_10 Hk0_part79_11 Hk0_part79_12 Hk0_part79_13 Hk0_part79_14]
  · isplitl [Hk0_part79_9]; · iexact Hk0_part79_9
    isplitl [Hk0_part79_10]; · iexact Hk0_part79_10
    isplitl [Hk0_part79_11]; · iexact Hk0_part79_11
    isplitl [Hk0_part79_12]; · iexact Hk0_part79_12
    isplitl [Hk0_part79_13]; · iexact Hk0_part79_13
    iexact Hk0_part79_14
  isplitl [Hk0_part79_0]; · iexact Hk0_part79_0
  iexists _; iexact Hk0_part79_15

end Cert.InKernel.Load

end
-- ==== Proof.InFrame.lean ====
/-
  The in-projection call's frame: the pipeline over its sixteen blocks of tokens, each point with the transfers its body
  makes itself, terminates; every argument array ends as it was launched and every semaphore counter at zero. Nothing is
  said here of the output arrays.
-/
module

public import proofs.«01_k».proof.Proof.InRun
public import Idealize.ShloMosaic.Lib.Claim
public import proofs.«01_k».proof.Proof.Gen.InKernel.Frame
public import proofs.«01_k».proof.Proof.Gen.InKernel.Launch
public import proofs.«01_k».proof.Proof.Gen.InKernel.Points
public import Idealize.ShloMosaic.Lib.Ring
public import Idealize.ShloMosaic.Lib.Tactic
public import Idealize.ShloMosaic.Lib.WordCmp
public import Idealize.ShloMosaic.Lib.Pipeline.FrameBody
public import Idealize.ShloMosaic.Lib.Pipeline.Frame

@[expose] public section

set_option maxRecDepth 16384

noncomputable section

namespace Cert.InKernel.Load

open Cert.InKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD Dat Cfg Window BodyObligation cellOf)

variable {F : FTy → Type} [FloatOps F]

local notation "𝕄" => MT nD τ sig Unit (Elt F) ℕ (UD sig nD τ) ℕ

variable (m : (ℓ : Loc nD τ sig) → Buf (Elt F) ℓ) (ρ : Dev nD → PrngReg)

/-- @main up to the region. -/
theorem main_reaches (𝒱₀ : Variants) : Pipeline.HMain (Ix := Unit) (Name := ℕ) (U := UD sig nD τ) (Lvl := ℕ) cfgs 0 defs₀ 𝒱₀ m (main (F := F)) (V m) :=
  Pipeline.hmain_prefix cfgs 0 defs₀ 𝒱₀ m main hostOps0 hostOps0_sub hostOps0_fresh main_chain

/-- The carry's scratch buffer, whole. -/
abbrev sc : Memref sig .tc .vmem S8x1024 .f32 := Memref.whole cc0_scratch0
/-- Window 0's staging buffer at point `t`. -/
abbrev ms0 (t : Fin cfg0.N) : Memref sig .tc .vmem S512x2048 .f32 := win0_0.stage (cfg0.slots t 0)
/-- Window 1's staging buffer at point `t`. -/
abbrev ms1 (t : Fin cfg0.N) : Memref sig .tc .vmem S1x2048 .f32 := win0_1.stage (cfg0.slots t 1)
/-- Window 2's staging buffer at point `t`. -/
abbrev ms2 (t : Fin cfg0.N) : Memref sig .tc .vmem S3x1024 .f32 := win0_2.stage (cfg0.slots t 2)
/-- Window 3's staging buffer at point `t`. -/
abbrev ms3 (t : Fin cfg0.N) : Memref sig .tc .vmem S1x1024 .f32 := win0_3.stage (cfg0.slots t 3)
/-- Window 4's staging buffer at point `t`. -/
abbrev ms4 (t : Fin cfg0.N) : Memref sig .tc .vmem S64x1024 .f32 := win0_4.stage (cfg0.slots t 4)
/-- Window 5's staging buffer at point `t`. -/
abbrev ms5 (t : Fin cfg0.N) : Memref sig .tc .vmem S128x2048 .f32 := win0_5.stage (cfg0.slots t 5)
/-- Window 6's staging buffer at point `t`. -/
abbrev ms6 (t : Fin cfg0.N) : Memref sig .tc .vmem S512x1024 .bf16 := win0_6.stage (cfg0.slots t 6)
/-- Window 7's staging buffer at point `t`. -/
abbrev ms7 (t : Fin cfg0.N) : Memref sig .tc .vmem S64x64x128 .f32 := win0_7.stage (cfg0.slots t 7)
/-- Window 8's staging buffer at point `t`. -/
abbrev ms8 (t : Fin cfg0.N) : Memref sig .tc .vmem S512x1024 .bf16 := win0_8.stage (cfg0.slots t 8)
/-- Window 9's staging buffer at point `t`. -/
abbrev ms9 (t : Fin cfg0.N) : Memref sig .tc .vmem S64x1024 .bf16 := win0_9.stage (cfg0.slots t 9)
/-- Window 10's staging buffer at point `t`. -/
abbrev ms10 (t : Fin cfg0.N) : Memref sig .tc .vmem S128x2048 .bf16 := win0_10.stage (cfg0.slots t 10)

/-- The body's own semaphores. -/
abbrev osem : Fin 6 → SemLoc sig := fun j => (![SemLoc.dma 19, SemLoc.dma 20, SemLoc.dma 21, SemLoc.dma 22, SemLoc.dma 23, SemLoc.dma 24] : Fin 6 → SemLoc sig) j
theorem osem_facts : Pipeline.OwnSemFacts spec0 osem := by decide

theorem cells_eq (c : Dev nD) :
    (Pipeline.ownSems0 (Ix := Unit) (Name := ℕ) (U := UD sig nD τ) (Lvl := ℕ) (Val := Elt F) (τ := τ) osem c : sProp 𝕄) = cells c := by
  rw [Pipeline.ownSems0_eq_of_list c osem [0, 1, 2, 3, 4, 5] (by decide) (by decide)]; rfl

/-- The array the body copies from itself. -/
def far : Finset (Ref sig .tc) := {main_v3}
theorem far_sub : far ⊆ Pipeline.restRefs sig spec0 := by decide

theorem far_eq (c : Dev nD) :
    (bigSep far (fun b => ((c : Thread nD τ).loc b) ↦{fullShare} V m c b) : sProp 𝕄) = pt c (Memref.whole main_v3) (V m c main_v3) := by
  rw [BI.bigSep_eq_bigSepL_of_eq [main_v3] (by decide) (by decide)]; rfl

/-- The region's invariant, conjunct by conjunct. -/
theorem inv_eq (c : Dev nD) :
    (Pipeline.ΦD osem spec0 far (V m) c : sProp 𝕄)
      = iprop(iprop((∃ d, owns (c : Thread nD τ) sc fullShare d) ∗ (∃ d, owns (c : Thread nD τ) sa fullShare d) ∗ (∃ d, owns (c : Thread nD τ) sb fullShare d) ∗ (∃ d, owns (c : Thread nD τ) sw fullShare d))
          ∗ (∃ r, prngReg c r) ∗ cells c ∗ pt c (Memref.whole main_v3) (V m c main_v3)) := by
  rw [Pipeline.ΦD_eq, scopedRest0_eq, cells_eq, far_eq]; simp only [sc, sa, sb, sw, owns_whole]; try rfl

/-- The outputs: nothing is claimed of what the kernel leaves there. -/
def outOnly : Fin 11 → Bool := fun w => decide (6 ≤ w.val)

/-- What the pipeline of core `c` holds: the arrays as the region finds them, each input's buffer at its block after
    every point, the outputs' at contents nothing names. -/
def dats (_ : Fin 1) (c : Dev nD) : Dat τ (Elt F) Unit ℕ (UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦD osem spec0 far (V m) c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]

/-- An input window's buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-- What the body is given at point `t`. -/
def pre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare d)
    ∗ (∃ d, owns (c : Thread nD τ) (ms7 t) fullShare d)
    ∗ (∃ d, owns (c : Thread nD τ) (ms8 t) fullShare d)
    ∗ (∃ d, owns (c : Thread nD τ) (ms9 t) fullShare d)
    ∗ (∃ d, owns (c : Thread nD τ) (ms10 t) fullShare d))

/-- What it gives back. -/
def post (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ (∃ d, owns (c : Thread nD τ) (ms6 t) fullShare d)
    ∗ (∃ d, owns (c : Thread nD τ) (ms7 t) fullShare d)
    ∗ (∃ d, owns (c : Thread nD τ) (ms8 t) fullShare d)
    ∗ (∃ d, owns (c : Thread nD τ) (ms9 t) fullShare d)
    ∗ (∃ d, owns (c : Thread nD τ) (ms10 t) fullShare d))

set_option maxHeartbeats 1600000 in
/-- The body at any point of the grid. -/
theorem body_ok (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5]
  rw [show (dats m 0 c).Φ t.succ = (dats m 0 c).Φ t.castSucc from rfl,
    after_0, after_1, after_2, after_3, after_4, after_5]
  unfold Dat.owesAt Pipeline.owesWithin
  rw [show (dats m 0 c).owed t.castSucc = 0 from rfl, show (dats m 0 c).owed t.succ = 0 from rfl]
  rw [show (dats m 0 c).Φ t.castSucc = Pipeline.ΦD osem spec0 far (V m) c from rfl, inv_eq]
  iintro ⟨⟨⟨SC, SA, SB, SW⟩, Hg, HC, HX⟩, ⟨%W, -, Ho⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (conv_run c (grid0.coords t) _ _ _ _ _ _ _ _ _ _ _ _ _ _ _ _ _ _ _ _ _ _ _ _ (V m c main_v3) (iblk m c 0 t) (iblk m c 1 t) (iblk m c 2 t) (iblk m c 3 t) (iblk m c 4 t) (iblk m c 5 t) W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [SC]; · iexact SC
  isplitl [SA]; · iexact SA
  isplitl [SB]; · iexact SB
  isplitl [SW]; · iexact SW
  isplitl [HC]; · iexact HC
  isplitl [HX]; · iexact HX
  isplitl [Ho]; · iexact Ho
  iintro ⟨H0, H1, H2, H3, H4, H5, H6, H7, H8, H9, H10, SC, SA, SB, SW, HC, HX, ⟨%W', Ho⟩⟩
  isplitl [SC SA SB SW Hg HC HX]
  · isplitl [SC SA SB SW]
    · isplitl [SC]; · iexact SC
      isplitl [SA]; · iexact SA
      isplitl [SB]; · iexact SB
      iexact SW
    isplitl [Hg]; · iexact Hg
    isplitl [HC]; · iexact HC
    iexact HX
  isplitl [Ho]
  · iexists W'; isplitr; · ipureintro; exact fun _ _ => Or.inl trivial
    iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row is the body as `bodyAt0` spells it. -/
theorem row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ outOnly := fun t => by
  rw [bigSep_W0, bigSep_W0, row]
  exact triple_restated (body_ok m c t) rfl .rfl fun _ => .rfl

set_option backward.isDefEq.respectTransparency.types false in
/-- The launch: it terminates, with the inputs' arrays and every buffer outside the pipeline as the region found them. -/
theorem launched : θ_run defs (onTc (τ := τ) (main (F := F))) (s₀ m ρ) (fun r => (Pipeline.RDat.FramePost (cfgs 0) (fun c => (dats m 0 c).toRForget outOnly) (V m)) r ∧ r.2.sem = fun _ => 0) :=
  Pipeline.θ_run_frame_dma_forget (Q' := _) cfgs (dats m) (0 : Fin 1) launch0 osem defs₀ Variants.none outOnly osem_facts far far_sub m ρ main
    (hbody := fun c => (obligation m c).loose) (hshare := fun c => (dats m 0 c).share_full fun _ => rfl)
    (howed := fun _ _ => rfl) (V := V m) (hmain := main_reaches m Variants.none) (hA := A_eq m) (hin := fun _ => .rfl) (hout := fun _ => .rfl)

/-- The frame: every argument array unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and ((θ_run defs _ _).mono (fun _ h c => by
    replace h := h.1
    exact ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 2 rfl).trans ((A_eq m c 2).trans (V_main_arg3 m c)),
      ((h c).2 main_arg4 (Pipeline.mem_restRefs_of main_arg4 (by decide) (by decide))).trans (V_main_arg4 m c),
      (Pipeline.RDat.FramePost.arr_in h c 4 rfl).trans ((A_eq m c 4).trans (V_main_arg5 m c)),
      (Pipeline.RDat.FramePost.arr_in h c 5 rfl).trans ((A_eq m c 5).trans (V_main_arg6 m c))⟩) (launched m ρ))
    ((θ_run defs _ _).mono (fun _ h => h.2) (launched m ρ))

end Cert.InKernel.Load

end
-- ==== Proof.InWeight.lean ====
/-
  What the in-projection call's weight buffer holds after the load, as one function of the weight's array, and the rows
  the first part of the body computes from its block of tokens.
-/
module

public import proofs.«01_k».proof.Proof.Gen.InKernelIdeal.Launch
public import Idealize.ShloMosaic.Lib.ValueLayout
public import Idealize.ShloMosaic.Lib.Pipeline.Value
public import Idealize.ShloMosaic.Lib.Pipeline.ReadBack
public import Idealize.ShloMosaic.Lib.VecWindow
public import proofs.«01_k».proof.Proof.Gen.InKernelIdeal.Points
public import Idealize.ShloMosaic.Lib.Ring
public import Idealize.ShloMosaic.Lib.Tactic
public import Idealize.ShloMosaic.Lib.WordCmp
public import Idealize.ShloMosaic.Lib.Pipeline.FrameBody
public import Idealize.ShloMosaic.Lib.Pipeline.Frame

@[expose] public section

set_option maxRecDepth 16384

noncomputable section

namespace Cert.InKernelIdeal.Load

open Cert.InKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

/-- The weight rounded: row `k` of the buffer is row `k % 512` of the array's plane `k / 512`. -/
def wq (X : Vec F S4x512x6144 .f32) : Vec F S2048x6144 .bf16 := fun y =>
  FloatOps.truncf .bf16 bitsLt_bf16_f32 (X (ValueIdx.ix3 ⟨(y 0).val / 512, by have h : (y 0).val < 2048 := (y 0).isLt; omega⟩ ⟨(y 0).val % 512, Nat.mod_lt _ (by decide)⟩ (y 1)))

/-- The rows of a block of tokens, normalised, scaled and rounded. -/
def hb (x : Vec F S512x2048 .f32) (g : Vec F S1x2048 .f32) : Vec F S512x2048 .bf16 :=
  truncf .bf16 (mulf (mulf (shapeCast S512x2048 x shapeCasts_S512x2048_S512x2048) (broadcastTo S512x2048 (rsqrt (addf (divf (shapeCast S512x1 (multiReduction .add [1] S512 (mulf (shapeCast S512x2048 x shapeCasts_S512x2048_S512x2048) (shapeCast S512x2048 x shapeCasts_S512x2048_S512x2048)) 0x00000000#32 reduces_S512x2048_S512 (.inl rfl) rfl) shapeCasts_S512_S512x1) (broadcast S512x1 (Scalar.ofBits .f32 0x45000000#32))) (broadcast S512x1 (Scalar.ofBits .f32 0x358637BD#32)))) broadcasts_S512x1_S512x2048)) (broadcastTo S512x2048 (shapeCast S1x2048 g shapeCasts_S1x2048_S1x2048) broadcasts_S1x2048_S512x2048)) bitsLt_bf16_f32

/-- A tile the load stores, read at its own index, is the buffer's at the element it lands on. -/
theorem piece (c : Dev nD) (X : Buf (Elt F) ((Memref.whole main_v3).view.loc (c : Thread nD τ))) (v : View sig .tc .vmem S4x512x128 .f32) (k r o : ℕ) (hr : r = 512 * k)
    (hk : ∀ a, (![k, 0, 0] : Fin 3 → ℕ) a + S1x512x128.size a ≤ S4x512x128.size a)
    (ho : ∀ a, (![0, 0, o] : Fin 3 → ℕ) a + S4x512x128.size a ≤ S4x512x6144.size a)
    (hd : ∀ a, (![r, o] : Fin 2 → ℕ) a + S512x128.size a ≤ S2048x6144.size a)
    (h0 : ∀ a, (fun _ => 0 : Fin 3 → ℕ) a + S4x512x128.size a ≤ S4x512x128.size a)
    (hs : ∀ a, (Rect.unit (s := S4x512x6144) ![0, 0, o] S4x512x128.size ho).stride a = 1)
    (T : List (View.Piece (Elt F) S4x512x128 .f32)) (h1 : S1x512x128.ShapeCasts S512x128) (h2 : S512x128.ShapeCasts S512x128)
    (x : S512x128.Idx) :
    shapeCast S512x128 (truncf .bf16 (shapeCast S512x128 (v.readCov (⟨Rect.unit (fun _ => 0) S4x512x128.size h0, ReadAs.same.apply (View.read (Elt F) ((Memref.whole main_v3).slice (Rect.unit (s := S4x512x6144) ![0, 0, o] S4x512x128.size ho) hs).view X)⟩ :: T) (Rect.unit (s := S4x512x128) ![k, 0, 0] S1x512x128.size hk).toLoadRect) h1) bitsLt_bf16_f32) h2 x
      = wq X ((Rect.unit (s := S2048x6144) ![r, o] S512x128.size hd).emb x) := by
  subst hr
  rw [shapeCast_self, View.readCov_fill _ _ _ _ _ (fun _ => rfl)]
  obtain ⟨i, j, rfl⟩ : ∃ (i : Fin 512) (j : Fin 128), x = ValueIdx.ix2 i j := ⟨x 0, x 1, funext fun a => by fin_cases a <;> rfl⟩
  unfold truncf wq
  refine congrArg (FloatOps.truncf .bf16 bitsLt_bf16_f32) ?_
  show _ = (X : Vec F S4x512x6144 .f32) _
  refine (ValueIdx.shapeCast_1ab_ab_apply _ h1 i j).trans (congrArg X (funext fun a => Fin.ext ?_))
  have hi := i.isLt
  fin_cases a
  · show 0 + 1 * (k + 1 * 0) = (512 * k + 1 * i.val) / 512
    omega
  · show 0 + 1 * (0 + 1 * i.val) = (512 * k + 1 * i.val) % 512
    omega
  · show o + 1 * (0 + 1 * j.val) = o + 1 * j.val
    omega

end Cert.InKernelIdeal.Load

end
-- ==== Proof.InLoadIdeal.lean ====
/-
  The in-projection call's weight load: at the first point of the grid the kernel copies its weight, a tile at a time,
  through six views of two scratch buffers, and rounds it into a third. The two buffers are taken apart into those views
  before it, and put together again after.
-/
module

public import proofs.«01_k».proof.Proof.InWeight
public import proofs.«01_k».proof.Proof.Gen.InKernelIdeal.Launch
public import proofs.«01_k».proof.Proof.Gen.InKernelIdeal.Points
public import Idealize.ShloMosaic.Lib.Ring
public import Idealize.ShloMosaic.Lib.Tactic
public import Idealize.ShloMosaic.Lib.WordCmp
public import Idealize.ShloMosaic.Lib.Pipeline.FrameBody
public import Idealize.ShloMosaic.Lib.Pipeline.Frame

@[expose] public section

set_option maxRecDepth 16384

noncomputable section

namespace Cert.InKernelIdeal.Load

open Cert.InKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

/-- A memref's elements held on core `c`. -/
abbrev own (c : Dev nD) {sp : Space} {s : Shape} {e : EltTy} (m : Memref sig .tc sp s e) (f : Buf (Elt F) (m.view.loc (c : Thread nD τ))) : sProp 𝕄 :=
  m.view.loc (c : Thread nD τ) ↦[m.view.set]{fullShare} f

/-- A buffer held whole on core `c`. -/
abbrev pt (c : Dev nD) {sp : Space} {s : Shape} {e : EltTy} (m : Memref sig .tc sp s e) (f : Buf (Elt F) (m.view.loc (c : Thread nD τ))) : sProp 𝕄 :=
  m.view.loc (c : Thread nD τ) ↦{fullShare} f

abbrev st0 : Memref sig .tc .vmem S4x512x128 .f32 := ((Memref.whole cc0_scratch2).slice (Rect.unit (s := S2x5x512x256) ![0, 0, 0, 0] S1x4x512x128.size inb_S2x5x512x256_S1x4x512x128_0_0_0_0) (fun _ => rfl)).squeeze S4x512x128 squeezes_S1x4x512x128_S4x512x128
abbrev st1 : Memref sig .tc .vmem S4x512x128 .f32 := ((Memref.whole cc0_scratch2).slice (Rect.unit (s := S2x5x512x256) ![0, 0, 0, 128] S1x4x512x128.size inb_S2x5x512x256_S1x4x512x128_0_0_0_128) (fun _ => rfl)).squeeze S4x512x128 squeezes_S1x4x512x128_S4x512x128
abbrev st2 : Memref sig .tc .vmem S4x512x128 .f32 := ((Memref.whole cc0_scratch2).slice (Rect.unit (s := S2x5x512x256) ![1, 0, 0, 0] S1x4x512x128.size inb_S2x5x512x256_S1x4x512x128_1_0_0_0) (fun _ => rfl)).squeeze S4x512x128 squeezes_S1x4x512x128_S4x512x128
abbrev st3 : Memref sig .tc .vmem S4x512x128 .f32 := ((Memref.whole cc0_scratch2).slice (Rect.unit (s := S2x5x512x256) ![1, 0, 0, 128] S1x4x512x128.size inb_S2x5x512x256_S1x4x512x128_1_0_0_128) (fun _ => rfl)).squeeze S4x512x128 squeezes_S1x4x512x128_S4x512x128
abbrev st4 : Memref sig .tc .vmem S4x512x128 .f32 := (Memref.whole cc0_scratch1).slice (Rect.unit (s := S8x512x128) ![0, 0, 0] S4x512x128.size inb_S8x512x128_S4x512x128_0_0_0) (fun _ => rfl)
abbrev st5 : Memref sig .tc .vmem S4x512x128 .f32 := (Memref.whole cc0_scratch1).slice (Rect.unit (s := S8x512x128) ![4, 0, 0] S4x512x128.size inb_S8x512x128_S4x512x128_4_0_0) (fun _ => rfl)

/-- The six cells at zero. -/
abbrev cells (c : Dev nD) : sProp 𝕄 :=
  iprop(semVal ((c : Thread nD τ), .dma 19) 0 ∗ semVal ((c : Thread nD τ), .dma 20) 0 ∗ semVal ((c : Thread nD τ), .dma 21) 0 ∗ semVal ((c : Thread nD τ), .dma 22) 0 ∗ semVal ((c : Thread nD τ), .dma 23) 0 ∗ semVal ((c : Thread nD τ), .dma 24) 0)

/-- The grid's first point: the weight is loaded. -/
abbrev cond0_0 (i : grid0.Coords) : Prop := (Scalar.cmpi .ne (Scalar.extui (Scalar.cmpi .eq (BitVec.ofNat 32 (i 0).val) 0#32)) 0#32) = 1#1

/-- A sequence's first point: the carry is reset. -/
abbrev cond0_1 (i : grid0.Coords) : Prop := (Scalar.cmpi .ne (Scalar.extui (Scalar.cmpi .eq (Scalar.select (Scalar.andi (Scalar.xori (Scalar.cmpi .slt (Scalar.remsi (BitVec.ofNat 32 (i 0).val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 (i 0).val) (Scalar.select (Scalar.cmpi .eq 8#32 0#32) 1#32 8#32)) 0#32)) (Scalar.addi (Scalar.remsi (BitVec.ofNat 32 (i 0).val) (Scalar.select (Scalar.cmpi .eq 8#32 0#32) 1#32 8#32)) (Scalar.select (Scalar.cmpi .eq 8#32 0#32) 1#32 8#32)) (Scalar.remsi (BitVec.ofNat 32 (i 0).val) (Scalar.select (Scalar.cmpi .eq 8#32 0#32) 1#32 8#32))) 0#32)) 0#32) = 1#1

section
variable {ℓ : Loc nD τ sig} {I S : Finset (Idx ℓ)}

/-- Elements held at some contents, taken apart. -/
theorem any_split (h : I ⊆ S) (f : Buf (Elt F) ℓ) :
    (ℓ ↦[S]{fullShare} f : sProp 𝕄) ⊢ iprop((ℓ ↦[I]{fullShare} f) ∗ ℓ ↦[S \ I]{fullShare} f) :=
  (pointsTo_split_subset h).1

/-- Elements held apart at some contents each, put together. -/
theorem any_join (h : I ⊆ S) :
    iprop((∃ f, ℓ ↦[I]{fullShare} f) ∗ (∃ f, ℓ ↦[S \ I]{fullShare} f)) ⊢ (iprop(∃ f : Buf (Elt F) ℓ, ℓ ↦[S]{fullShare} f) : sProp 𝕄) := by
  iintro ⟨⟨%f, H⟩, ⟨%g, R⟩⟩
  iexists _
  iapply (pointsTo_join_subset h)
  isplitl [H]; · iexact H
  iexact R
end

abbrev sa : Memref sig .tc .vmem S8x512x128 .f32 := Memref.whole cc0_scratch1
abbrev sb : Memref sig .tc .vmem S2x5x512x256 .f32 := Memref.whole cc0_scratch2
abbrev sw : Memref sig .tc .vmem S2048x6144 .bf16 := Memref.whole cc0_scratch3

/-- The elements of a view's rectangle lie in what is left of the whole after another's, the two rectangles apart. -/
theorem sub1 : st1.view.set ⊆ Finset.univ \ st0.view.set := by
  rw [Memref.set_view_squeeze, Memref.set_view_squeeze]
  exact Finset.subset_sdiff.mpr ⟨Finset.subset_univ _, (View.disjoint_slice_of_disj _ _ _ (by decide))⟩
theorem sub2 : st2.view.set ⊆ (Finset.univ \ st0.view.set) \ st1.view.set := by
  rw [Memref.set_view_squeeze, Memref.set_view_squeeze, Memref.set_view_squeeze]
  exact Finset.subset_sdiff.mpr ⟨Finset.subset_sdiff.mpr ⟨Finset.subset_univ _, (View.disjoint_slice_of_disj _ _ _ (by decide))⟩, (View.disjoint_slice_of_disj _ _ _ (by decide))⟩
theorem sub3 : st3.view.set ⊆ ((Finset.univ \ st0.view.set) \ st1.view.set) \ st2.view.set := by
  rw [Memref.set_view_squeeze, Memref.set_view_squeeze, Memref.set_view_squeeze, Memref.set_view_squeeze]
  exact Finset.subset_sdiff.mpr ⟨Finset.subset_sdiff.mpr ⟨Finset.subset_sdiff.mpr ⟨Finset.subset_univ _, (View.disjoint_slice_of_disj _ _ _ (by decide))⟩, (View.disjoint_slice_of_disj _ _ _ (by decide))⟩, (View.disjoint_slice_of_disj _ _ _ (by decide))⟩
theorem sub5 : st5.view.set ⊆ Finset.univ \ st4.view.set :=
  Finset.subset_sdiff.mpr ⟨Finset.subset_univ _, (View.disjoint_slice_of_disj _ _ _ (by decide))⟩

/-- What no view takes of the buffer of four views. -/
abbrev restB (c : Dev nD) (f : Buf (Elt F) (sb.view.loc (c : Thread nD τ))) : sProp 𝕄 :=
  sb.view.loc (c : Thread nD τ) ↦[(((Finset.univ \ st0.view.set) \ st1.view.set) \ st2.view.set) \ st3.view.set]{fullShare} f
/-- What no view takes of the buffer of two views. -/
abbrev restA (c : Dev nD) (f : Buf (Elt F) (sa.view.loc (c : Thread nD τ))) : sProp 𝕄 :=
  sa.view.loc (c : Thread nD τ) ↦[(Finset.univ \ st4.view.set) \ st5.view.set]{fullShare} f

theorem split_b (c : Dev nD) (f : Buf (Elt F) (sb.view.loc (c : Thread nD τ))) :
    own c sb f ⊢ iprop((∃ f, own c st0 f) ∗ (∃ f, own c st1 f) ∗ (∃ f, own c st2 f) ∗ (∃ f, own c st3 f) ∗ ∃ f, restB c f) := by
  unfold own
  rw [show sb.view.set = Finset.univ from View.set_whole _]
  iintro HB
  ihave HB := (any_split (Finset.subset_univ st0.view.set) f) $$ HB
  icases HB with ⟨B0, HB⟩
  ihave HB := (any_split sub1 f) $$ HB
  icases HB with ⟨B1, HB⟩
  ihave HB := (any_split sub2 f) $$ HB
  icases HB with ⟨B2, HB⟩
  ihave HB := (any_split sub3 f) $$ HB
  icases HB with ⟨B3, HB⟩
  isplitl [B0]; · iexists f; iexact B0
  isplitl [B1]; · iexists f; iexact B1
  isplitl [B2]; · iexists f; iexact B2
  isplitl [B3]; · iexists f; iexact B3
  iexists f; iexact HB

theorem join_b (c : Dev nD) :
    iprop((∃ f, own c st0 f) ∗ (∃ f, own c st1 f) ∗ (∃ f, own c st2 f) ∗ (∃ f, own c st3 f) ∗ ∃ f, restB c f)
      ⊢ (iprop(∃ f : Buf (Elt F) (sb.view.loc (c : Thread nD τ)), own c sb f) : sProp 𝕄) := by
  unfold own
  rw [show sb.view.set = Finset.univ from View.set_whole _]
  iintro ⟨B0, B1, B2, B3, HB⟩
  iapply (any_join (Finset.subset_univ st0.view.set))
  isplitl [B0]; · iexact B0
  iapply (any_join sub1)
  isplitl [B1]; · iexact B1
  iapply (any_join sub2)
  isplitl [B2]; · iexact B2
  iapply (any_join sub3)
  isplitl [B3]; · iexact B3
  iexact HB

theorem split_a (c : Dev nD) (f : Buf (Elt F) (sa.view.loc (c : Thread nD τ))) :
    own c sa f ⊢ iprop((∃ f, own c st4 f) ∗ (∃ f, own c st5 f) ∗ ∃ f, restA c f) := by
  unfold own
  rw [show sa.view.set = Finset.univ from View.set_whole _]
  iintro HB
  ihave HB := (any_split (Finset.subset_univ st4.view.set) f) $$ HB
  icases HB with ⟨B0, HB⟩
  ihave HB := (any_split sub5 f) $$ HB
  icases HB with ⟨B1, HB⟩
  isplitl [B0]; · iexists f; iexact B0
  isplitl [B1]; · iexists f; iexact B1
  iexists f; iexact HB

theorem join_a (c : Dev nD) :
    iprop((∃ f, own c st4 f) ∗ (∃ f, own c st5 f) ∗ ∃ f, restA c f)
      ⊢ (iprop(∃ f : Buf (Elt F) (sa.view.loc (c : Thread nD τ)), own c sa f) : sProp 𝕄) := by
  unfold own
  rw [show sa.view.set = Finset.univ from View.set_whole _]
  iintro ⟨B0, B1, HB⟩
  iapply (any_join (Finset.subset_univ st4.view.set))
  isplitl [B0]; · iexact B0
  iapply (any_join sub5)
  isplitl [B1]; · iexact B1
  iexact HB

/-- What the body's first part is given and gives back, the scratch buffers and the cells. -/
abbrev room (c : Dev nD) : sProp 𝕄 :=
  iprop((∃ f, own c sa f) ∗ (∃ f, own c sb f) ∗ cells c ∗ (∃ W, owes (c : Thread nD τ) 0 W))

/-- The loaded weight, as the buffer's contents. -/
abbrev wbuf (c : Dev nD) (X : Vec F S4x512x6144 .f32) : Buf (Elt F) (sw.view.loc (c : Thread nD τ)) := (Memref.isWhole_whole cc0_scratch3).unread (wq X)

/-- Stores that leave the rounded weight. -/
theorem leaves_w (c : Dev nD) (X : Buf (Elt F) ((Memref.whole main_v3).view.loc (c : Thread nD τ))) (f : Buf (Elt F) (sw.view.loc (c : Thread nD τ))) (L : List (View.Piece (Elt F) S2048x6144 .bf16))
    (h : View.PiecesOf (wq (F := F) X) L) (ht : View.Piece.tiledL L S512x128.size = true) :
    (own c sw (sw.view.writes (Elt F) f L) : sProp 𝕄) ⊢ own c sw (wbuf c X) := by
  rw [(Memref.isWhole_whole cc0_scratch3).eq_unread (funext fun y => View.read_writes_apply_of_pieces _ _ (wq (F := F) X) L h.mem y (View.cover_of_tiledL L S512x128.size ht y))]

/-- At the grid's first point a sequence begins. -/
theorem cond_imp : ∀ i : grid0.Coords, cond0_0 i → cond0_1 i := by
  intro i; obtain ⟨k, hk⟩ : ∃ k : Fin 16, i 0 = k := ⟨i 0, rfl⟩
  simp only [cond0_0, cond0_1, hk]; clear hk; revert k; decide

open Classical in
/-- The rows carried into a block: zeros where a sequence starts. -/
def start (i : grid0.Coords) (p : Vec F S8x1024 .f32) : Vec F S8x1024 .f32 := if cond0_1 i then (fun _ => Scalar.ofBits .f32 0x00000000#32) else p

theorem leaves_start (c : Dev nD) (i : grid0.Coords) (arg13 : Memref sig .tc .vmem S8x1024 .f32) (harg13 : arg13.IsWhole) (f f' : Buf (Elt F) (arg13.view.loc (c : Thread nD τ)))
    (h : arg13.view.read (Elt F) f' = start i (arg13.view.read (Elt F) f)) :
    own c arg13 f' ⊢ (own c arg13 (harg13.unread (start i (arg13.view.read (Elt F) f))) : sProp 𝕄) := by
  rw [← harg13.eq_unread h]

set_option maxHeartbeats 40000000 in
theorem part79 (c : Dev nD) (i : grid0.Coords) (arg1 : Memref sig .tc .vmem S512x2048 .f32) (harg1 : arg1.IsWhole) (arg2 : Memref sig .tc .vmem S1x2048 .f32) (harg2 : arg2.IsWhole) (arg4 : Memref sig .tc .vmem S3x1024 .f32) (harg4 : arg4.IsWhole) (arg5 : Memref sig .tc .vmem S1x1024 .f32) (harg5 : arg5.IsWhole) (arg6 : Memref sig .tc .vmem S64x1024 .f32) (harg6 : arg6.IsWhole) (arg7 : Memref sig .tc .vmem S128x2048 .f32) (harg7 : arg7.IsWhole) (arg8 : Memref sig .tc .vmem S512x1024 .bf16) (harg8 : arg8.IsWhole) (arg9 : Memref sig .tc .vmem S64x64x128 .f32) (harg9 : arg9.IsWhole) (arg10 : Memref sig .tc .vmem S512x1024 .bf16) (harg10 : arg10.IsWhole) (arg11 : Memref sig .tc .vmem S64x1024 .bf16) (harg11 : arg11.IsWhole) (arg12 : Memref sig .tc .vmem S128x2048 .bf16) (harg12 : arg12.IsWhole) (arg13 : Memref sig .tc .vmem S8x1024 .f32) (harg13 : arg13.IsWhole)
    (X : Buf (Elt F) ((Memref.whole main_v3).view.loc (c : Thread nD τ)))
    (f1 : Buf (Elt F) (arg1.view.loc (c : Thread nD τ))) (f2 : Buf (Elt F) (arg2.view.loc (c : Thread nD τ))) (f6 : Buf (Elt F) (arg6.view.loc (c : Thread nD τ))) (f13 : Buf (Elt F) (arg13.view.loc (c : Thread nD τ)))
    (f11 : Buf (Elt F) (arg11.view.loc (c : Thread nD τ)))
    (fa : Buf (Elt F) (sa.view.loc (c : Thread nD τ))) (fb : Buf (Elt F) (sb.view.loc (c : Thread nD τ))) (fw : Buf (Elt F) (sw.view.loc (c : Thread nD τ))) (W : Waits sig Unit) (hfw : ¬ cond0_0 i → fw = wbuf c X) :
    iprop(pt c (Memref.whole main_v3) X ∗ own c arg1 f1 ∗ own c arg2 f2 ∗ own c arg6 f6 ∗ own c arg13 f13 ∗ own c arg11 f11 ∗ own c sa fa ∗ own c sb fb ∗ own c sw fw ∗ cells c ∗ owes (c : Thread nD τ) 0 W)
      ⊢ wp frame (wpE (defs₀ (F := F)) Variants.none c none) Set.univ (k0_part79 i arg1 harg1 arg2 harg2 (Memref.whole main_v3) (Memref.isWhole_whole _) arg4 harg4 arg5 harg5 arg6 harg6 arg7 harg7 arg8 harg8 arg9 harg9 arg10 harg10 arg11 harg11 arg12 harg12 arg13 harg13 (Memref.whole cc0_scratch1) (Memref.isWhole_whole _) (Memref.whole cc0_scratch2) (Memref.isWhole_whole _) (Memref.whole cc0_scratch3) (Memref.isWhole_whole _) cc0_scratch4)
        (fun r => iprop(⌜r.1 = hb (arg1.view.read (Elt F) f1) (arg2.view.read (Elt F) f2)⌝ ∗ own c sw (wbuf c X) ∗ pt c (Memref.whole main_v3) X ∗ own c arg1 f1 ∗ own c arg2 f2 ∗ own c arg6 f6 ∗ own c arg13 (harg13.unread (start i (arg13.view.read (Elt F) f13))) ∗ own c arg11 f11 ∗ room c)) := by
  iintro ⟨HX, H1, H2, H6, H13, H11, HA, HB, HW, ⟨C0, C1, C2, C3, C4, C5⟩, HO⟩
  ihave HB := (split_b c fb) $$ HB
  icases HB with ⟨⟨%g0, B0⟩, ⟨%g1, B1⟩, ⟨%g2, B2⟩, ⟨%g3, B3⟩, HB⟩
  ihave HA := (split_a c fa) $$ HA
  icases HA with ⟨⟨%g4, B4⟩, ⟨%g5, B5⟩, HA⟩
  by_cases hc0 : cond0_0 i
  · have hc1 : cond0_1 i := cond_imp i hc0
    unfold k0_part79
    sl_exec (disch := first | exact hc0 | exact hc1)
    sl_step
    unfold room
    isplitr
    · ipureintro; exact (congrArg₂ hb (View.readAt_full arg1.view f1 _).symm (View.readAt_full arg2.view f2 _).symm).symm
    isplitl [HW]
    · refine leaves_w c X fw _ ?_ (by sl_kernel_rfl)
      iterate 192 refine ⟨fun x => piece c X _ _ _ _ (by decide) _ _ (by decide) _ _ _ _ _ x, ?_⟩
      exact trivial
    isplitl [HX]; · iexact HX
    isplitl [H1]; · iexact H1
    isplitl [H2]; · iexact H2
    isplitl [H6]; · iexact H6
    isplitl [H13]
    · refine leaves_start c i arg13 harg13 f13 _ ?_
      unfold start
      rw [if_pos hc1]
      exact View.read_writes_full _ _ _ _ _
    isplitl [H11]; · iexact H11
    isplitl [HA B4 B5]
    · iapply (join_a c)
      isplitl [B4]; · iexists _; iexact B4
      isplitl [B5]; · iexists _; iexact B5
      iexact HA
    isplitl [HB B0 B1 B2 B3]
    · iapply (join_b c)
      isplitl [B0]; · iexists _; iexact B0
      isplitl [B1]; · iexists _; iexact B1
      isplitl [B2]; · iexists _; iexact B2
      isplitl [B3]; · iexists _; iexact B3
      iexact HB
    isplitl [C0 C1 C2 C3 C4 C5]
    · isplitl [C0]; · iexact C0
      isplitl [C1]; · iexact C1
      isplitl [C2]; · iexact C2
      isplitl [C3]; · iexact C3
      isplitl [C4]; · iexact C4
      iexact C5
    iexists _; iexact HO

  · obtain rfl := hfw hc0
    by_cases hc1 : cond0_1 i
    all_goals
      unfold k0_part79
      sl_exec (disch := first | exact hc0 | exact hc1)
      sl_step
      unfold room
      isplitr
      · ipureintro; exact (congrArg₂ hb (View.readAt_full arg1.view f1 _).symm (View.readAt_full arg2.view f2 _).symm).symm
      isplitl [HW]
      · iexact HW
      isplitl [HX]; · iexact HX
      isplitl [H1]; · iexact H1
      isplitl [H2]; · iexact H2
      isplitl [H6]; · iexact H6
      isplitl [H13]
      · refine leaves_start c i arg13 harg13 f13 _ ?_
        unfold start
        first | (rw [if_pos hc1]; exact View.read_writes_full _ _ _ _ _) | rw [if_neg hc1]
      isplitl [H11]; · iexact H11
      isplitl [HA B4 B5]
      · iapply (join_a c)
        isplitl [B4]; · iexists _; iexact B4
        isplitl [B5]; · iexists _; iexact B5
        iexact HA
      isplitl [HB B0 B1 B2 B3]
      · iapply (join_b c)
        isplitl [B0]; · iexists _; iexact B0
        isplitl [B1]; · iexists _; iexact B1
        isplitl [B2]; · iexists _; iexact B2
        isplitl [B3]; · iexists _; iexact B3
        iexact HB
      isplitl [C0 C1 C2 C3 C4 C5]
      · isplitl [C0]; · iexact C0
        isplitl [C1]; · iexact C1
        isplitl [C2]; · iexact C2
        isplitl [C3]; · iexact C3
        isplitl [C4]; · iexact C4
        iexact C5
      iexists _; iexact HO

end Cert.InKernelIdeal.Load

end
-- ==== Proof.InTap.lean ====
/-
  The short convolution's part of the in-projection's body, 128 channels at a time: the block it leaves, the rows it
  carries to the next block, and that the body's stores are theirs.
-/
module

public import proofs.«01_k».proof.Proof.InLoadIdeal
public import Idealize.ShloMosaic.Lib.WholeRead
public import Idealize.ShloMosaic.Lib.Tactic
public import Idealize.ShloMosaic.Lib.Pipeline.Value
public import Idealize.ShloMosaic.Lib.Pipeline.ReadBack
public import Idealize.ShloMosaic.Lib.Pipeline.FrameBody
public import Idealize.ShloMosaic.Lib.Pipeline.Frame

@[expose] public section

set_option maxRecDepth 16384

noncomputable section

namespace Cert.InKernelIdeal.Load

open Cert.InKernelIdeal.Gen
open Idealize.ShloMosaic Idealize.ShloMosaic.TcCoe Idealize.ShloMosaic.Tactic

variable {F : FTy → Type} [FloatOps F]

/-- 256 columns of the projection, from column `o` of the weight on. -/
def zcol (h : Vec F S512x2048 .bf16) (w : Vec F S2048x6144 .bf16) (o : ℕ) : FVec F S512x256 .f32 :=
  matmul dot_S512x2048_S2048x256_S512x256_1_0_0_1_n_n none h (fun j => w (ValueIdx.ix2 (j 0) ⟨(o + (j 1).val) % 6144, Nat.mod_lt _ (by decide)⟩)) (constant S512x256 .f32 0x00000000#32)

/-- Channels `128 q` to `128 q + 127` of the projection's group `j` of 1024. -/
def tap (h : Vec F S512x2048 .bf16) (w : Vec F S2048x6144 .bf16) (j q : ℕ) : FVec F S512x128 .f32 := fun x =>
  zcol h w (1024 * j + 256 * (q / 2)) (ValueIdx.ix2 (x 0) ⟨(128 * (q % 2) + (x 1).val) % 256, Nat.mod_lt _ (by decide)⟩)

/-- The convolution's input there. -/
def cvin (h : Vec F S512x2048 .bf16) (w : Vec F S2048x6144 .bf16) (q : ℕ) : FVec F S512x128 .f32 := mulf (tap h w 1 q) (tap h w 2 q)

/-- The last eight rows of the convolution's input, carried to the next block. -/
def carried (h : Vec F S512x2048 .bf16) (w : Vec F S2048x6144 .bf16) : Vec F S8x1024 .f32 := fun y =>
  cvin h w ((y 1).val / 128) (ValueIdx.ix2 ⟨504 + (y 0).val, by have h : (y 0).val < 8 := (y 0).isLt; omega⟩ ⟨(y 1).val % 128, Nat.mod_lt _ (by decide)⟩)

/-- 128 channels of row `r` of the convolution's weight. -/
def cwRow (cw : Vec F S3x1024 .f32) (r : Fin 3) (q : ℕ) : FVec F S1x128 .f32 := fun x =>
  cw (ValueIdx.ix2 r ⟨(128 * q + (x 1).val) % 1024, Nat.mod_lt _ (by decide)⟩)

/-- 128 channels of the convolution's bias. -/
def cbRow (cb : Vec F S1x1024 .f32) (q : ℕ) : FVec F S1x128 .f32 := fun x =>
  cb (ValueIdx.ix2 (0 : Fin 1) ⟨(128 * q + (x 1).val) % 1024, Nat.mod_lt _ (by decide)⟩)

/-- 128 channels of the carried rows. -/
def pRow (p : Vec F S8x1024 .f32) (q : ℕ) : FVec F S8x128 .f32 := fun x =>
  p (ValueIdx.ix2 (x 0) ⟨(128 * q + (x 1).val) % 1024, Nat.mod_lt _ (by decide)⟩)

/-- The carried rows, then the block's. -/
def ext (p : FVec F S8x128 .f32) (v : FVec F S512x128 .f32) : FVec F S520x128 .f32 :=
  concatenate S520x128 0 [⟨S8x128, p⟩, ⟨S512x128, v⟩] concatenates_S8x128_S512x128_S520x128_d0

/-- The gated convolution of 128 channels. -/
def gated (B V Z : FVec F S512x128 .f32) (P : FVec F S8x128 .f32) (R0 R1 R2 C : FVec F S1x128 .f32) : FVec F S512x128 .bf16 :=
  truncf .bf16 (mulf (mulf B (addf (addf (addf (broadcastTo S512x128 (shapeCast S1x128 C shapeCasts_S1x128_S1x128) broadcasts_S1x128_S512x128)
      (mulf (broadcastTo S512x128 R2 broadcasts_S1x128_S512x128) V))
      (mulf (broadcastTo S512x128 R1 broadcasts_S1x128_S512x128) (extractStridedSlice S512x128 ![7, 0] (ext P V) slices_S520x128_o7_0_S512x128)))
      (mulf (broadcastTo S512x128 R0 broadcasts_S1x128_S512x128) (extractStridedSlice S512x128 ![6, 0] (ext P V) slices_S520x128_o6_0_S512x128))))
    (mulf Z (logistic Z))) bitsLt_bf16_f32

/-- The gated convolution's block. -/
def ycblk (cw : Vec F S3x1024 .f32) (cb : Vec F S1x1024 .f32) (p : Vec F S8x1024 .f32) (h : Vec F S512x2048 .bf16) (w : Vec F S2048x6144 .bf16) : Vec F S512x1024 .bf16 := fun y =>
  gated (tap h w 0 ((y 1).val / 128)) (cvin h w ((y 1).val / 128)) (tap h w 3 ((y 1).val / 128)) (pRow p ((y 1).val / 128))
    (cwRow cw 0 ((y 1).val / 128)) (cwRow cw 1 ((y 1).val / 128)) (cwRow cw 2 ((y 1).val / 128)) (cbRow cb ((y 1).val / 128))
    (ValueIdx.ix2 (y 0) ⟨(y 1).val % 128, Nat.mod_lt _ (by decide)⟩)

/-- The projection's columns as the body reads the weight for them. -/
theorem zcol_read (c : Dev nD) (X : Vec F S4x512x6144 .f32) (h : Vec F S512x2048 .bf16) (o : ℕ) (ho : ∀ a, (![0, o] : Fin 2 → ℕ) a + S2048x256.size a ≤ S2048x6144.size a) :
    matmul dot_S512x2048_S2048x256_S512x256_1_0_0_1_n_n none h (sw.view.readAt (Elt F) (Rect.unit (s := S2048x6144) ![0, o] S2048x256.size ho).toLoadRect (wbuf c X)) (constant S512x256 .f32 0x00000000#32)
      = zcol h (wq X) o := by
  have e : sw.view.readAt (Elt F) (Rect.unit (s := S2048x6144) ![0, o] S2048x256.size ho).toLoadRect (wbuf c X)
      = fun j => wq X (ValueIdx.ix2 (j 0) ⟨(o + (j 1).val) % 6144, Nat.mod_lt _ (by decide)⟩) := by
    funext j
    rw [(Memref.isWhole_whole cc0_scratch3).readAt_unread]
    have h1 : (j 1).val < 256 := (j 1).isLt
    have h2 : o + 256 ≤ 6144 := ho 1
    refine congrArg (wq X) (funext fun a => Fin.ext ?_)
    fin_cases a
    · show 0 + 1 * (j 0).val = (j 0).val; omega
    · show o + 1 * (j 1).val = (o + (j 1).val) % 6144
      rw [Nat.mod_eq_of_lt (by omega), Nat.one_mul]
  rw [e]; rfl

/-- A read below a store elsewhere. -/
theorem tap_skip {t : FVec F S512x128 .f32} (v : View sig .tc .vmem S2x5x512x256 .f32) (R : Rect S2x5x512x256) (w : R.shape.Idx → Elt F .f32) (L : List (View.Piece (Elt F) S2x5x512x256 .f32))
    (B : Rect S2x5x512x256) (hB : B.shape.ShapeCasts S512x128) (hd : LoadRect.disj R B.toLoadRect = true)
    (h : shapeCast S512x128 (v.readCov L B.toLoadRect) hB = t) : shapeCast S512x128 (v.readCov (⟨R, w⟩ :: L) B.toLoadRect) hB = t := by
  rw [View.readCov_skip _ _ _ _ _ hd]; exact h

/-- A read of half of a store of 256 columns. -/
theorem tap_hit (c : Dev nD) (X : Vec F S4x512x6144 .f32) (h : Vec F S512x2048 .bf16) (v : View sig .tc .vmem S2x5x512x256 .f32) (j q s j' d o : ℕ)
    (hj : j' = j) (hq : d = 128 * (q % 2)) (ho' : o = 1024 * j + 256 * (q / 2))
    (ho : ∀ a, (![0, o] : Fin 2 → ℕ) a + S2048x256.size a ≤ S2048x6144.size a)
    (hR : ∀ a, (![s, j', 0, 0] : Fin 4 → ℕ) a + S1x1x512x256.size a ≤ S2x5x512x256.size a)
    (hB : ∀ a, (![s, j', 0, d] : Fin 4 → ℕ) a + S1x1x512x128.size a ≤ S2x5x512x256.size a)
    (L : List (View.Piece (Elt F) S2x5x512x256 .f32)) (h1 : S512x256.ShapeCasts S1x1x512x256) (h2 : S1x1x512x128.ShapeCasts S512x128) :
    shapeCast S512x128 (v.readCov (⟨Rect.unit (s := S2x5x512x256) ![s, j', 0, 0] S1x1x512x256.size hR, shapeCast S1x1x512x256 (matmul dot_S512x2048_S2048x256_S512x256_1_0_0_1_n_n none h
        (sw.view.readAt (Elt F) (Rect.unit (s := S2048x6144) ![0, o] S2048x256.size ho).toLoadRect (wbuf c X)) (constant S512x256 .f32 0x00000000#32)) h1⟩ :: L)
      (Rect.unit (s := S2x5x512x256) ![s, j', 0, d] S1x1x512x128.size hB).toLoadRect) h2 = tap h (wq X) j q := by
  rw [zcol_read, View.readCov_eq_canon']
  subst hj hq ho'
  funext x
  have hx0 : (x 0).val < 512 := (x 0).isLt
  have hx1 : (x 1).val < 128 := (x 1).isLt
  have hx : x = (ValueIdx.ix2 (x 0) (x 1) : S512x128.Idx) := funext fun a => by fin_cases a <;> rfl
  refine (shapeCast_apply _ _ _ (ValueIdx.ix4 (0 : Fin 1) (0 : Fin 1) (x 0) (x 1) : S1x1x512x128.Idx) ?_).trans ?_
  · rw [hx]
    show (S1x1x512x128.rowMajor (ValueIdx.ix4 (0 : Fin 1) (0 : Fin 1) (x 0) (x 1))).val = (S512x128.rowMajor (ValueIdx.ix2 (x 0) (x 1))).val
    rw [Shape.rowMajor_val_two, Shape.rowMajor_val_four]
    show ((0 * 1 + 0) * 512 + (x 0).val) * 128 + (x 1).val = (x 0).val * 128 + (x 1).val
    omega
  have e : (Rect.unit (s := S2x5x512x256) ![s, j', 0, 128 * (q % 2)] S1x1x512x128.size hB).toLoadRect.idx (ValueIdx.ix4 (0 : Fin 1) (0 : Fin 1) (x 0) (x 1) : S1x1x512x128.Idx)
      = (Rect.unit (s := S2x5x512x256) ![s, j', 0, 0] S1x1x512x256.size hR).emb
        (ValueIdx.ix4 (0 : Fin 1) (0 : Fin 1) (x 0) (⟨(128 * (q % 2) + (x 1).val) % 256, Nat.mod_lt _ (by decide)⟩ : Fin 256) : S1x1x512x256.Idx) := by
    funext a
    apply Fin.ext
    fin_cases a
    · rfl
    · rfl
    · rfl
    · show 128 * (q % 2) + 1 * (x 1).val = 0 + 1 * ((128 * (q % 2) + (x 1).val) % 256)
      omega
  rw [e, View.canon_cons_emb]
  refine (shapeCast_apply _ _ _ (ValueIdx.ix2 (x 0) (⟨(128 * (q % 2) + (x 1).val) % 256, Nat.mod_lt _ (by decide)⟩ : Fin 256) : S512x256.Idx) ?_).trans rfl
  show (S512x256.rowMajor (ValueIdx.ix2 (x 0) _)).val = (S1x1x512x256.rowMajor (ValueIdx.ix4 (0 : Fin 1) (0 : Fin 1) (x 0) _)).val
  rw [Shape.rowMajor_val_two, Shape.rowMajor_val_four]
  show (x 0).val * 256 + (128 * (q % 2) + (x 1).val) % 256 = ((0 * 1 + 0) * 512 + (x 0).val) * 256 + (128 * (q % 2) + (x 1).val) % 256
  omega

/-- A read of a row of the convolution's weight. -/
theorem cw_read (M : Memref sig .tc .vmem S3x1024 .f32) (hM : M.IsWhole) (cw : Vec F S3x1024 .f32) (r : Fin 3) (q r' o : ℕ) (hr : r' = r.val) (ho : o = 128 * q)
    (hi : ∀ a, (![r', o] : Fin 2 → ℕ) a + S1x128.size a ≤ S3x1024.size a) :
    View.readAt (Elt F) M.view (Rect.unit (s := S3x1024) ![r', o] S1x128.size hi).toLoadRect (hM.unread cw) = cwRow cw r q := by
  subst hr ho
  funext x
  rw [hM.readAt_unread]
  have h0 : (x 0).val < 1 := (x 0).isLt
  have h1 : (x 1).val < 128 := (x 1).isLt
  have h2 : 128 * q + 128 ≤ 1024 := hi 1
  refine congrArg cw (funext fun a => Fin.ext ?_)
  fin_cases a
  · show r.val + 1 * (x 0).val = r.val; omega
  · show 128 * q + 1 * (x 1).val = (128 * q + (x 1).val) % 1024; omega

/-- A read of the convolution's bias. -/
theorem cb_read (M : Memref sig .tc .vmem S1x1024 .f32) (hM : M.IsWhole) (cb : Vec F S1x1024 .f32) (q o : ℕ) (ho : o = 128 * q)
    (hi : ∀ a, (![0, o] : Fin 2 → ℕ) a + S1x128.size a ≤ S1x1024.size a) :
    View.readAt (Elt F) M.view (Rect.unit (s := S1x1024) ![0, o] S1x128.size hi).toLoadRect (hM.unread cb) = cbRow cb q := by
  subst ho
  funext x
  rw [hM.readAt_unread]
  have h0 : (x 0).val < 1 := (x 0).isLt
  have h1 : (x 1).val < 128 := (x 1).isLt
  have h2 : 128 * q + 128 ≤ 1024 := hi 1
  refine congrArg cb (funext fun a => Fin.ext ?_)
  fin_cases a
  · show 0 + 1 * (x 0).val = 0; omega
  · show 128 * q + 1 * (x 1).val = (128 * q + (x 1).val) % 1024; omega

/-- A read of the carried rows. -/
theorem p_read (M : Memref sig .tc .vmem S8x1024 .f32) (hM : M.IsWhole) (p : Vec F S8x1024 .f32) (q o : ℕ) (ho : o = 128 * q)
    (hi : ∀ a, (![0, o] : Fin 2 → ℕ) a + S8x128.size a ≤ S8x1024.size a) :
    View.readAt (Elt F) M.view (Rect.unit (s := S8x1024) ![0, o] S8x128.size hi).toLoadRect (hM.unread p) = pRow p q := by
  subst ho
  funext x
  rw [hM.readAt_unread]
  have h1 : (x 1).val < 128 := (x 1).isLt
  have h2 : 128 * q + 128 ≤ 1024 := hi 1
  refine congrArg p (funext fun a => Fin.ext ?_)
  fin_cases a
  · show 0 + 1 * (x 0).val = (x 0).val; omega
  · show 128 * q + 1 * (x 1).val = (128 * q + (x 1).val) % 1024; omega

/-- A store of 128 of the gated convolution's channels is its block's there. -/
theorem ypiece (cw : Vec F S3x1024 .f32) (cb : Vec F S1x1024 .f32) (p : Vec F S8x1024 .f32) (h : Vec F S512x2048 .bf16) (w : Vec F S2048x6144 .bf16) (q o : ℕ) (ho : o = 128 * q)
    (hd : ∀ a, (![0, o] : Fin 2 → ℕ) a + S512x128.size a ≤ S512x1024.size a)
    (B C V Z : FVec F S512x128 .f32) (P : FVec F S8x128 .f32) (R0 R1 R2 D : FVec F S1x128 .f32)
    (hP : P = pRow p q) (h0 : R0 = cwRow cw 0 q) (h1 : R1 = cwRow cw 1 q) (h2 : R2 = cwRow cw 2 q) (hD : D = cbRow cb q)
    (hB : B = tap h w 0 q) (hC : C = tap h w 1 q) (hV : V = tap h w 2 q) (hZ : Z = tap h w 3 q) (x : S512x128.Idx) :
    gated B (mulf C V) Z P R0 R1 R2 D x = ycblk cw cb p h w ((Rect.unit (s := S512x1024) ![0, o] S512x128.size hd).emb x) := by
  subst hP h0 h1 h2 hD hB hC hV hZ ho
  have hx1 : (x 1).val < 128 := (x 1).isLt
  have e1 : ((Rect.unit (s := S512x1024) ![0, 128 * q] S512x128.size hd).emb x 1).val / 128 = q := by
    show (128 * q + 1 * (x 1).val) / 128 = q; omega
  unfold ycblk
  rw [e1]
  refine congrArg (gated (tap h w 0 q) (cvin h w q) (tap h w 3 q) (pRow p q) (cwRow cw 0 q) (cwRow cw 1 q) (cwRow cw 2 q) (cbRow cb q)) (funext fun a => Fin.ext ?_)
  fin_cases a
  · show (x 0).val = 0 + 1 * (x 0).val; omega
  · show (x 1).val = (128 * q + 1 * (x 1).val) % 128; omega

/-- A store of 128 of the carried channels is the carried rows' there. -/
theorem cpiece (h : Vec F S512x2048 .bf16) (w : Vec F S2048x6144 .bf16) (q o : ℕ) (ho : o = 128 * q)
    (hd : ∀ a, (![0, o] : Fin 2 → ℕ) a + S8x128.size a ≤ S8x1024.size a) (C V : FVec F S512x128 .f32)
    (hC : C = tap h w 1 q) (hV : V = tap h w 2 q) (h1 : S8x128.ShapeCasts S8x128) (x : S8x128.Idx) :
    shapeCast S8x128 (extractStridedSlice S8x128 ![504, 0] (mulf C V) slices_S512x128_o504_0_S8x128) h1 x
      = carried h w ((Rect.unit (s := S8x1024) ![0, o] S8x128.size hd).emb x) := by
  subst hC hV ho
  rw [shapeCast_self]
  have hx1 : (x 1).val < 128 := (x 1).isLt
  have e1 : ((Rect.unit (s := S8x1024) ![0, 128 * q] S8x128.size hd).emb x 1).val / 128 = q := by
    show (128 * q + 1 * (x 1).val) / 128 = q; omega
  unfold carried
  rw [e1]
  refine congrArg (cvin h w q) (funext fun a => Fin.ext ?_)
  fin_cases a
  · show 504 + (x 0).val = 504 + (0 + 1 * (x 0).val); omega
  · show 0 + (x 1).val = (128 * q + 1 * (x 1).val) % 128; omega

/-- Stores that leave one block. -/
theorem leaves_y (v : View sig .tc .vmem S512x1024 .bf16) (f : v.ty.Contents (Elt F)) (G : S512x1024.Idx → Elt F .bf16) (L : List (View.Piece (Elt F) S512x1024 .bf16))
    (h : View.PiecesOf G L) (ht : View.Piece.tiledL L S512x128.size = true) : v.read (Elt F) (v.writes (Elt F) f L) = G :=
  funext fun y => View.read_writes_apply_of_pieces _ _ G L h.mem y (View.cover_of_tiledL L S512x128.size ht y)

theorem leaves_c (v : View sig .tc .vmem S8x1024 .f32) (f : v.ty.Contents (Elt F)) (G : S8x1024.Idx → Elt F .f32) (L : List (View.Piece (Elt F) S8x1024 .f32))
    (h : View.PiecesOf G L) (ht : View.Piece.tiledL L S8x128.size = true) : v.read (Elt F) (v.writes (Elt F) f L) = G :=
  funext fun y => View.read_writes_apply_of_pieces _ _ G L h.mem y (View.cover_of_tiledL L S8x128.size ht y)

end Cert.InKernelIdeal.Load

end
-- ==== Proof.InRunIdeal.lean ====
/-
  The in-projection call's body at a point of its grid: from its windows and scratch buffers held it runs to the end,
  leaves the inputs and the weight's array as they were, the rounded weight in its buffer, the gate's rows in their
  window, and everything else at some contents.
-/
module

public import proofs.«01_k».proof.Proof.InTap
public import Idealize.ShloMosaic.Lib.WholeRead
public import proofs.«01_k».proof.Proof.Gen.InKernelIdeal.Launch
public import proofs.«01_k».proof.Proof.Gen.InKernelIdeal.Points
public import Idealize.ShloMosaic.Lib.Ring
public import Idealize.ShloMosaic.Lib.Tactic
public import Idealize.ShloMosaic.Lib.WordCmp
public import Idealize.ShloMosaic.Lib.Pipeline.FrameBody
public import Idealize.ShloMosaic.Lib.Pipeline.Frame

@[expose] public section

set_option maxRecDepth 16384

noncomputable section

namespace Cert.InKernelIdeal.Load

open Cert.InKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

/-- The gate's block: the projection's last 1024 columns, each times its logistic. -/
def zblk (h : Vec F S512x2048 .bf16) (w : Vec F S2048x6144 .bf16) : Vec F S512x1024 .bf16 := fun y =>
  (truncf .bf16 (mulf (zcol h w (5120 + 256 * ((y 1).val / 256))) (logistic (zcol h w (5120 + 256 * ((y 1).val / 256))))) bitsLt_bf16_f32 : FVec F S512x256 .bf16)
    (ValueIdx.ix2 (y 0) ⟨(y 1).val % 256, Nat.mod_lt _ (by decide)⟩)

/-- Stores that leave one block. -/
theorem leaves_z (v : View sig .tc .vmem S512x1024 .bf16) (f : v.ty.Contents (Elt F)) (G : S512x1024.Idx → Elt F .bf16) (L : List (View.Piece (Elt F) S512x1024 .bf16))
    (h : View.PiecesOf G L) (ht : View.Piece.tiledL L S512x256.size = true) : v.read (Elt F) (v.writes (Elt F) f L) = G :=
  funext fun y => View.read_writes_apply_of_pieces _ _ G L h.mem y (View.cover_of_tiledL L S512x256.size ht y)

/-- A store of 256 of the gate's columns is its block's there. -/
theorem zpiece (c : Dev nD) (X : Vec F S4x512x6144 .f32) (h : Vec F S512x2048 .bf16) (v : View sig .tc .vmem S2x5x512x256 .f32) (R : Rect S2x5x512x256) (b q o : ℕ) (hq : q = 256 * b) (ho' : o = 5120 + 256 * b) (hb4 : b < 4)
    (ho : ∀ a, (![0, o] : Fin 2 → ℕ) a + S2048x256.size a ≤ S2048x6144.size a)
    (hd : ∀ a, (![0, q] : Fin 2 → ℕ) a + S512x256.size a ≤ S512x1024.size a)
    (hR : R.shape = S1x1x512x256)
    (T : List (View.Piece (Elt F) S2x5x512x256 .f32)) (h1 : S512x256.ShapeCasts R.shape) (h2 : R.shape.ShapeCasts S512x256)
    (x : S512x256.Idx) :
    (truncf .bf16 (mulf (shapeCast S512x256 (v.readCov (⟨R, shapeCast R.shape (matmul dot_S512x2048_S2048x256_S512x256_1_0_0_1_n_n none h (sw.view.readAt (Elt F) (Rect.unit (s := S2048x6144) ![0, o] S2048x256.size ho).toLoadRect (wbuf c X)) (constant S512x256 .f32 0x00000000#32)) h1⟩ :: T) R.toLoadRect) h2)
        (logistic (shapeCast S512x256 (v.readCov (⟨R, shapeCast R.shape (matmul dot_S512x2048_S2048x256_S512x256_1_0_0_1_n_n none h (sw.view.readAt (Elt F) (Rect.unit (s := S2048x6144) ![0, o] S2048x256.size ho).toLoadRect (wbuf c X)) (constant S512x256 .f32 0x00000000#32)) h1⟩ :: T) R.toLoadRect) h2))) bitsLt_bf16_f32 : FVec F S512x256 .bf16) x
      = zblk h (wq X) ((Rect.unit (s := S512x1024) ![0, q] S512x256.size hd).emb x) := by
  rw [View.readCov_cons_toLoadRect, shapeCast_shapeCast]
  subst hq ho'
  have e : sw.view.readAt (Elt F) (Rect.unit (s := S2048x6144) ![0, 5120 + 256 * b] S2048x256.size ho).toLoadRect (wbuf c X)
      = fun j => wq X (ValueIdx.ix2 (j 0) ⟨((5120 + 256 * b) + (j 1).val) % 6144, Nat.mod_lt _ (by decide)⟩) := by
    funext j
    rw [(Memref.isWhole_whole cc0_scratch3).readAt_unread]
    have h1 : (j 1).val < 256 := (j 1).isLt
    refine congrArg (wq X) (funext fun a => Fin.ext ?_)
    fin_cases a
    · show 0 + 1 * (j 0).val = (j 0).val; omega
    · show (5120 + 256 * b) + 1 * (j 1).val = ((5120 + 256 * b) + (j 1).val) % 6144
      omega
  rw [e]
  obtain ⟨n, k, rfl⟩ : ∃ (n : Fin 512) (k : Fin 256), x = ValueIdx.ix2 n k := ⟨x 0, x 1, funext fun a => by fin_cases a <;> rfl⟩
  have hk := k.isLt
  have e1 : ((Rect.unit (s := S512x1024) ![0, 256 * b] S512x256.size hd).emb (ValueIdx.ix2 n k) 1).val / 256 = b := by
    show (256 * b + 1 * k.val) / 256 = b; omega
  unfold zblk
  rw [e1]
  refine congrArg (truncf .bf16 (mulf (zcol h (wq X) (5120 + 256 * b)) (logistic (zcol h (wq X) (5120 + 256 * b)))) bitsLt_bf16_f32 : FVec F S512x256 .bf16) (funext fun a => Fin.ext ?_)
  fin_cases a
  · show n.val = 0 + 1 * n.val; omega
  · show k.val = (256 * b + 1 * k.val) % 256; omega

set_option maxHeartbeats 40000000 in
/-- The body's run. -/
theorem conv_run (c : Dev nD) (i : grid0.Coords) (arg1 : Memref sig .tc .vmem S512x2048 .f32) (harg1 : arg1.IsWhole) (arg2 : Memref sig .tc .vmem S1x2048 .f32) (harg2 : arg2.IsWhole) (arg4 : Memref sig .tc .vmem S3x1024 .f32) (harg4 : arg4.IsWhole) (arg5 : Memref sig .tc .vmem S1x1024 .f32) (harg5 : arg5.IsWhole) (arg6 : Memref sig .tc .vmem S64x1024 .f32) (harg6 : arg6.IsWhole) (arg7 : Memref sig .tc .vmem S128x2048 .f32) (harg7 : arg7.IsWhole) (arg8 : Memref sig .tc .vmem S512x1024 .bf16) (harg8 : arg8.IsWhole) (arg9 : Memref sig .tc .vmem S64x64x128 .f32) (harg9 : arg9.IsWhole) (arg10 : Memref sig .tc .vmem S512x1024 .bf16) (harg10 : arg10.IsWhole) (arg11 : Memref sig .tc .vmem S64x1024 .bf16) (harg11 : arg11.IsWhole) (arg12 : Memref sig .tc .vmem S128x2048 .bf16) (harg12 : arg12.IsWhole) (arg13 : Memref sig .tc .vmem S8x1024 .f32) (harg13 : arg13.IsWhole)
    (X : Buf (Elt F) ((Memref.whole main_v3).view.loc (c : Thread nD τ))) (x0 : Vec F S512x2048 .f32) (x1 : Vec F S1x2048 .f32) (x2 : Vec F S3x1024 .f32) (x3 : Vec F S1x1024 .f32) (x4 : Vec F S64x1024 .f32) (x5 : Vec F S128x2048 .f32) (p : Vec F S8x1024 .f32) (fw : Buf (Elt F) (sw.view.loc (c : Thread nD τ))) (hfw : ¬ cond0_0 i → fw = wbuf c X) (W : Waits sig Unit) (K : PUnit → sProp 𝕄) :
    iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare p ∗ (∃ d, owns (c : Thread nD τ) sa fullShare d) ∗ (∃ d, owns (c : Thread nD τ) sb fullShare d) ∗ own c sw fw ∗ cells c ∗ pt c (Memref.whole main_v3) X ∗ owes (c : Thread nD τ) 0 W
        ∗ (iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (ycblk x2 x3 (start i p) (hb x0 x1) (wq X)) ∗ (∃ d, owns (c : Thread nD τ) arg9 fullShare d) ∗ owns (c : Thread nD τ) arg10 fullShare (zblk (hb x0 x1) (wq X)) ∗ (∃ d, owns (c : Thread nD τ) arg11 fullShare d) ∗ (∃ d, owns (c : Thread nD τ) arg12 fullShare d) ∗ owns (c : Thread nD τ) arg13 fullShare (carried (hb x0 x1) (wq X)) ∗ (∃ d, owns (c : Thread nD τ) sa fullShare d) ∗ (∃ d, owns (c : Thread nD τ) sb fullShare d) ∗ own c sw (wbuf c X) ∗ cells c ∗ pt c (Memref.whole main_v3) X ∗ (∃ W', owes (c : Thread nD τ) 0 W')) -∗ K ⟨⟩))
      ⊢ wp frame (wpE (defs₀ (F := F)) Variants.none c none) Set.univ (cc0_inproj_conv i arg1 harg1 arg2 harg2 (Memref.whole main_v3) (Memref.isWhole_whole _) arg4 harg4 arg5 harg5 arg6 harg6 arg7 harg7 arg8 harg8 arg9 harg9 arg10 harg10 arg11 harg11 arg12 harg12 arg13 harg13 (Memref.whole cc0_scratch1) (Memref.isWhole_whole _) (Memref.whole cc0_scratch2) (Memref.isWhole_whole _) (Memref.whole cc0_scratch3) (Memref.isWhole_whole _) cc0_scratch4) K := by
  have hcut := fun f1 f2 f6 f13 f11 fa fb W => part79 (F := F) c i arg1 harg1 arg2 harg2 arg4 harg4 arg5 harg5 arg6 harg6 arg7 harg7 arg8 harg8 arg9 harg9 arg10 harg10 arg11 harg11 arg12 harg12 arg13 harg13 X f1 f2 f6 f13 f11 fa fb fw W hfw
  unfold owns
  iintro ⟨⟨%f1, %hf1, H1⟩, ⟨%f2, %hf2, H2⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%f13, %hf13, H13⟩, ⟨%da, %fa, -, HA⟩, ⟨%db, %fb, -, HB⟩, HW, ⟨C0, C1, C2, C3, C4, C5⟩, HX, HO, Hk⟩
  obtain rfl := harg1.eq_unread hf1
  obtain rfl := harg2.eq_unread hf2
  obtain rfl := harg4.eq_unread hf4
  obtain rfl := harg5.eq_unread hf5
  obtain rfl := harg6.eq_unread hf6
  obtain rfl := harg7.eq_unread hf7
  obtain rfl := harg13.eq_unread hf13
  unfold cc0_inproj_conv
  sl_exec
  sl_step
  iapply Hk
  have e0 : v32 = hb (arg1.view.read (Elt F) (harg1.unread x0)) (arg2.view.read (Elt F) (harg2.unread x1)) := by assumption
  rw [harg1.read_unread, harg2.read_unread] at e0
  subst e0
  have eP : arg13.view.read (Elt F) (harg13.unread p) = p := harg13.read_unread p
  isplitl [Hk0_part79_3]
  · iexists _; isplitr; · ipureintro; exact harg1.read_unread _
    iexact Hk0_part79_3
  isplitl [Hk0_part79_4]
  · iexists _; isplitr; · ipureintro; exact harg2.read_unread _
    iexact Hk0_part79_4
  isplitl [H4]
  · iexists _; isplitr; · ipureintro; exact harg4.read_unread _
    iexact H4
  isplitl [H5]
  · iexists _; isplitr; · ipureintro; exact harg5.read_unread _
    iexact H5
  isplitl [Hk0_part79_5]
  · iexists _; isplitr; · ipureintro; exact harg6.read_unread _
    iexact Hk0_part79_5
  isplitl [H7]
  · iexists _; isplitr; · ipureintro; exact harg7.read_unread _
    iexact H7
  isplitl [H8]
  · iexists _; isplitr; swap; · iexact H8
    ipureintro
    refine leaves_y _ _ _ _ ?_ (by sl_kernel_rfl)
    exact ⟨fun x => ypiece x2 x3 (start i p) (hb x0 x1) (wq X) 7 _ rfl (by decide) _ _ _ _ _ _ _ _ _ ((p_read _ _ _ 7 _ rfl _).trans (congrArg (fun p => pRow (start i p) 7) eP)) (cw_read _ _ _ 0 7 _ _ rfl rfl _) (cw_read _ _ _ 1 7 _ _ rfl rfl _) (cw_read _ _ _ 2 7 _ _ rfl rfl _) (cb_read _ _ _ 7 _ rfl _)
      (by (iterate 4 refine tap_skip _ _ _ _ _ _ rfl ?_); exact tap_hit c X (hb x0 x1) _ 0 7 _ _ _ _ rfl rfl rfl _ _ _ _ _ _)
      (by (iterate 3 refine tap_skip _ _ _ _ _ _ rfl ?_); exact tap_hit c X (hb x0 x1) _ 1 7 _ _ _ _ rfl rfl rfl _ _ _ _ _ _)
      (by (iterate 2 refine tap_skip _ _ _ _ _ _ rfl ?_); exact tap_hit c X (hb x0 x1) _ 2 7 _ _ _ _ rfl rfl rfl _ _ _ _ _ _)
      (by (iterate 1 refine tap_skip _ _ _ _ _ _ rfl ?_); exact tap_hit c X (hb x0 x1) _ 3 7 _ _ _ _ rfl rfl rfl _ _ _ _ _ _) x,
      fun x => ypiece x2 x3 (start i p) (hb x0 x1) (wq X) 6 _ rfl (by decide) _ _ _ _ _ _ _ _ _ ((p_read _ _ _ 6 _ rfl _).trans (congrArg (fun p => pRow (start i p) 6) eP)) (cw_read _ _ _ 0 6 _ _ rfl rfl _) (cw_read _ _ _ 1 6 _ _ rfl rfl _) (cw_read _ _ _ 2 6 _ _ rfl rfl _) (cb_read _ _ _ 6 _ rfl _)
      (by (iterate 4 refine tap_skip _ _ _ _ _ _ rfl ?_); exact tap_hit c X (hb x0 x1) _ 0 6 _ _ _ _ rfl rfl rfl _ _ _ _ _ _)
      (by (iterate 3 refine tap_skip _ _ _ _ _ _ rfl ?_); exact tap_hit c X (hb x0 x1) _ 1 6 _ _ _ _ rfl rfl rfl _ _ _ _ _ _)
      (by (iterate 2 refine tap_skip _ _ _ _ _ _ rfl ?_); exact tap_hit c X (hb x0 x1) _ 2 6 _ _ _ _ rfl rfl rfl _ _ _ _ _ _)
      (by (iterate 1 refine tap_skip _ _ _ _ _ _ rfl ?_); exact tap_hit c X (hb x0 x1) _ 3 6 _ _ _ _ rfl rfl rfl _ _ _ _ _ _) x,
      fun x => ypiece x2 x3 (start i p) (hb x0 x1) (wq X) 5 _ rfl (by decide) _ _ _ _ _ _ _ _ _ ((p_read _ _ _ 5 _ rfl _).trans (congrArg (fun p => pRow (start i p) 5) eP)) (cw_read _ _ _ 0 5 _ _ rfl rfl _) (cw_read _ _ _ 1 5 _ _ rfl rfl _) (cw_read _ _ _ 2 5 _ _ rfl rfl _) (cb_read _ _ _ 5 _ rfl _)
      (by (iterate 8 refine tap_skip _ _ _ _ _ _ rfl ?_); exact tap_hit c X (hb x0 x1) _ 0 5 _ _ _ _ rfl rfl rfl _ _ _ _ _ _)
      (by (iterate 7 refine tap_skip _ _ _ _ _ _ rfl ?_); exact tap_hit c X (hb x0 x1) _ 1 5 _ _ _ _ rfl rfl rfl _ _ _ _ _ _)
      (by (iterate 6 refine tap_skip _ _ _ _ _ _ rfl ?_); exact tap_hit c X (hb x0 x1) _ 2 5 _ _ _ _ rfl rfl rfl _ _ _ _ _ _)
      (by (iterate 5 refine tap_skip _ _ _ _ _ _ rfl ?_); exact tap_hit c X (hb x0 x1) _ 3 5 _ _ _ _ rfl rfl rfl _ _ _ _ _ _) x,
      fun x => ypiece x2 x3 (start i p) (hb x0 x1) (wq X) 4 _ rfl (by decide) _ _ _ _ _ _ _ _ _ ((p_read _ _ _ 4 _ rfl _).trans (congrArg (fun p => pRow (start i p) 4) eP)) (cw_read _ _ _ 0 4 _ _ rfl rfl _) (cw_read _ _ _ 1 4 _ _ rfl rfl _) (cw_read _ _ _ 2 4 _ _ rfl rfl _) (cb_read _ _ _ 4 _ rfl _)
      (by (iterate 7 refine tap_skip _ _ _ _ _ _ rfl ?_); exact tap_hit c X (hb x0 x1) _ 0 4 _ _ _ _ rfl rfl rfl _ _ _ _ _ _)
      (by (iterate 6 refine tap_skip _ _ _ _ _ _ rfl ?_); exact tap_hit c X (hb x0 x1) _ 1 4 _ _ _ _ rfl rfl rfl _ _ _ _ _ _)
      (by (iterate 5 refine tap_skip _ _ _ _ _ _ rfl ?_); exact tap_hit c X (hb x0 x1) _ 2 4 _ _ _ _ rfl rfl rfl _ _ _ _ _ _)
      (by (iterate 4 refine tap_skip _ _ _ _ _ _ rfl ?_); exact tap_hit c X (hb x0 x1) _ 3 4 _ _ _ _ rfl rfl rfl _ _ _ _ _ _) x,
      fun x => ypiece x2 x3 (start i p) (hb x0 x1) (wq X) 3 _ rfl (by decide) _ _ _ _ _ _ _ _ _ ((p_read _ _ _ 3 _ rfl _).trans (congrArg (fun p => pRow (start i p) 3) eP)) (cw_read _ _ _ 0 3 _ _ rfl rfl _) (cw_read _ _ _ 1 3 _ _ rfl rfl _) (cw_read _ _ _ 2 3 _ _ rfl rfl _) (cb_read _ _ _ 3 _ rfl _)
      (by (iterate 8 refine tap_skip _ _ _ _ _ _ rfl ?_); exact tap_hit c X (hb x0 x1) _ 0 3 _ _ _ _ rfl rfl rfl _ _ _ _ _ _)
      (by (iterate 7 refine tap_skip _ _ _ _ _ _ rfl ?_); exact tap_hit c X (hb x0 x1) _ 1 3 _ _ _ _ rfl rfl rfl _ _ _ _ _ _)
      (by (iterate 6 refine tap_skip _ _ _ _ _ _ rfl ?_); exact tap_hit c X (hb x0 x1) _ 2 3 _ _ _ _ rfl rfl rfl _ _ _ _ _ _)
      (by (iterate 5 refine tap_skip _ _ _ _ _ _ rfl ?_); exact tap_hit c X (hb x0 x1) _ 3 3 _ _ _ _ rfl rfl rfl _ _ _ _ _ _) x,
      fun x => ypiece x2 x3 (start i p) (hb x0 x1) (wq X) 2 _ rfl (by decide) _ _ _ _ _ _ _ _ _ ((p_read _ _ _ 2 _ rfl _).trans (congrArg (fun p => pRow (start i p) 2) eP)) (cw_read _ _ _ 0 2 _ _ rfl rfl _) (cw_read _ _ _ 1 2 _ _ rfl rfl _) (cw_read _ _ _ 2 2 _ _ rfl rfl _) (cb_read _ _ _ 2 _ rfl _)
      (by (iterate 7 refine tap_skip _ _ _ _ _ _ rfl ?_); exact tap_hit c X (hb x0 x1) _ 0 2 _ _ _ _ rfl rfl rfl _ _ _ _ _ _)
      (by (iterate 6 refine tap_skip _ _ _ _ _ _ rfl ?_); exact tap_hit c X (hb x0 x1) _ 1 2 _ _ _ _ rfl rfl rfl _ _ _ _ _ _)
      (by (iterate 5 refine tap_skip _ _ _ _ _ _ rfl ?_); exact tap_hit c X (hb x0 x1) _ 2 2 _ _ _ _ rfl rfl rfl _ _ _ _ _ _)
      (by (iterate 4 refine tap_skip _ _ _ _ _ _ rfl ?_); exact tap_hit c X (hb x0 x1) _ 3 2 _ _ _ _ rfl rfl rfl _ _ _ _ _ _) x,
      fun x => ypiece x2 x3 (start i p) (hb x0 x1) (wq X) 1 _ rfl (by decide) _ _ _ _ _ _ _ _ _ ((p_read _ _ _ 1 _ rfl _).trans (congrArg (fun p => pRow (start i p) 1) eP)) (cw_read _ _ _ 0 1 _ _ rfl rfl _) (cw_read _ _ _ 1 1 _ _ rfl rfl _) (cw_read _ _ _ 2 1 _ _ rfl rfl _) (cb_read _ _ _ 1 _ rfl _)
      (by (iterate 8 refine tap_skip _ _ _ _ _ _ rfl ?_); exact tap_hit c X (hb x0 x1) _ 0 1 _ _ _ _ rfl rfl rfl _ _ _ _ _ _)
      (by (iterate 7 refine tap_skip _ _ _ _ _ _ rfl ?_); exact tap_hit c X (hb x0 x1) _ 1 1 _ _ _ _ rfl rfl rfl _ _ _ _ _ _)
      (by (iterate 6 refine tap_skip _ _ _ _ _ _ rfl ?_); exact tap_hit c X (hb x0 x1) _ 2 1 _ _ _ _ rfl rfl rfl _ _ _ _ _ _)
      (by (iterate 5 refine tap_skip _ _ _ _ _ _ rfl ?_); exact tap_hit c X (hb x0 x1) _ 3 1 _ _ _ _ rfl rfl rfl _ _ _ _ _ _) x,
      fun x => ypiece x2 x3 (start i p) (hb x0 x1) (wq X) 0 _ rfl (by decide) _ _ _ _ _ _ _ _ _ ((p_read _ _ _ 0 _ rfl _).trans (congrArg (fun p => pRow (start i p) 0) eP)) (cw_read _ _ _ 0 0 _ _ rfl rfl _) (cw_read _ _ _ 1 0 _ _ rfl rfl _) (cw_read _ _ _ 2 0 _ _ rfl rfl _) (cb_read _ _ _ 0 _ rfl _)
      (by (iterate 7 refine tap_skip _ _ _ _ _ _ rfl ?_); exact tap_hit c X (hb x0 x1) _ 0 0 _ _ _ _ rfl rfl rfl _ _ _ _ _ _)
      (by (iterate 6 refine tap_skip _ _ _ _ _ _ rfl ?_); exact tap_hit c X (hb x0 x1) _ 1 0 _ _ _ _ rfl rfl rfl _ _ _ _ _ _)
      (by (iterate 5 refine tap_skip _ _ _ _ _ _ rfl ?_); exact tap_hit c X (hb x0 x1) _ 2 0 _ _ _ _ rfl rfl rfl _ _ _ _ _ _)
      (by (iterate 4 refine tap_skip _ _ _ _ _ _ rfl ?_); exact tap_hit c X (hb x0 x1) _ 3 0 _ _ _ _ rfl rfl rfl _ _ _ _ _ _) x, trivial⟩
  isplitl [H9]
  · iexists _, _; isplitr; swap; · iexact H9
    ipureintro; rfl
  isplitl [H10]
  · iexists _; isplitr; swap; · iexact H10
    ipureintro
    refine leaves_z _ _ _ _ ?_ (by sl_kernel_rfl)
    exact ⟨fun x => zpiece c X (hb x0 x1) _ _ 3 _ _ (by decide) (by decide) (by decide) (by decide) (by decide) rfl _ _ _ x,
      fun x => zpiece c X (hb x0 x1) _ _ 2 _ _ (by decide) (by decide) (by decide) (by decide) (by decide) rfl _ _ _ x,
      fun x => zpiece c X (hb x0 x1) _ _ 1 _ _ (by decide) (by decide) (by decide) (by decide) (by decide) rfl _ _ _ x,
      fun x => zpiece c X (hb x0 x1) _ _ 0 _ _ (by decide) (by decide) (by decide) (by decide) (by decide) rfl _ _ _ x, trivial⟩
  isplitl [Hk0_part79_7]
  · iexists _, _; isplitr; swap; · iexact Hk0_part79_7
    ipureintro; rfl
  isplitl [H12]
  · iexists _, _; isplitr; swap; · iexact H12
    ipureintro; rfl
  isplitl [Hk0_part79_6]
  · iexists _; isplitr; swap; · iexact Hk0_part79_6
    ipureintro
    refine leaves_c _ _ _ _ ?_ (by sl_kernel_rfl)
    exact ⟨fun x => cpiece (hb x0 x1) (wq X) 7 _ rfl (by decide) _ _
      (by (iterate 3 refine tap_skip _ _ _ _ _ _ rfl ?_); exact tap_hit c X (hb x0 x1) _ 1 7 _ _ _ _ rfl rfl rfl _ _ _ _ _ _)
      (by (iterate 2 refine tap_skip _ _ _ _ _ _ rfl ?_); exact tap_hit c X (hb x0 x1) _ 2 7 _ _ _ _ rfl rfl rfl _ _ _ _ _ _) _ x,
      fun x => cpiece (hb x0 x1) (wq X) 6 _ rfl (by decide) _ _
      (by (iterate 3 refine tap_skip _ _ _ _ _ _ rfl ?_); exact tap_hit c X (hb x0 x1) _ 1 6 _ _ _ _ rfl rfl rfl _ _ _ _ _ _)
      (by (iterate 2 refine tap_skip _ _ _ _ _ _ rfl ?_); exact tap_hit c X (hb x0 x1) _ 2 6 _ _ _ _ rfl rfl rfl _ _ _ _ _ _) _ x,
      fun x => cpiece (hb x0 x1) (wq X) 5 _ rfl (by decide) _ _
      (by (iterate 7 refine tap_skip _ _ _ _ _ _ rfl ?_); exact tap_hit c X (hb x0 x1) _ 1 5 _ _ _ _ rfl rfl rfl _ _ _ _ _ _)
      (by (iterate 6 refine tap_skip _ _ _ _ _ _ rfl ?_); exact tap_hit c X (hb x0 x1) _ 2 5 _ _ _ _ rfl rfl rfl _ _ _ _ _ _) _ x,
      fun x => cpiece (hb x0 x1) (wq X) 4 _ rfl (by decide) _ _
      (by (iterate 6 refine tap_skip _ _ _ _ _ _ rfl ?_); exact tap_hit c X (hb x0 x1) _ 1 4 _ _ _ _ rfl rfl rfl _ _ _ _ _ _)
      (by (iterate 5 refine tap_skip _ _ _ _ _ _ rfl ?_); exact tap_hit c X (hb x0 x1) _ 2 4 _ _ _ _ rfl rfl rfl _ _ _ _ _ _) _ x,
      fun x => cpiece (hb x0 x1) (wq X) 3 _ rfl (by decide) _ _
      (by (iterate 7 refine tap_skip _ _ _ _ _ _ rfl ?_); exact tap_hit c X (hb x0 x1) _ 1 3 _ _ _ _ rfl rfl rfl _ _ _ _ _ _)
      (by (iterate 6 refine tap_skip _ _ _ _ _ _ rfl ?_); exact tap_hit c X (hb x0 x1) _ 2 3 _ _ _ _ rfl rfl rfl _ _ _ _ _ _) _ x,
      fun x => cpiece (hb x0 x1) (wq X) 2 _ rfl (by decide) _ _
      (by (iterate 6 refine tap_skip _ _ _ _ _ _ rfl ?_); exact tap_hit c X (hb x0 x1) _ 1 2 _ _ _ _ rfl rfl rfl _ _ _ _ _ _)
      (by (iterate 5 refine tap_skip _ _ _ _ _ _ rfl ?_); exact tap_hit c X (hb x0 x1) _ 2 2 _ _ _ _ rfl rfl rfl _ _ _ _ _ _) _ x,
      fun x => cpiece (hb x0 x1) (wq X) 1 _ rfl (by decide) _ _
      (by (iterate 7 refine tap_skip _ _ _ _ _ _ rfl ?_); exact tap_hit c X (hb x0 x1) _ 1 1 _ _ _ _ rfl rfl rfl _ _ _ _ _ _)
      (by (iterate 6 refine tap_skip _ _ _ _ _ _ rfl ?_); exact tap_hit c X (hb x0 x1) _ 2 1 _ _ _ _ rfl rfl rfl _ _ _ _ _ _) _ x,
      fun x => cpiece (hb x0 x1) (wq X) 0 _ rfl (by decide) _ _
      (by (iterate 6 refine tap_skip _ _ _ _ _ _ rfl ?_); exact tap_hit c X (hb x0 x1) _ 1 0 _ _ _ _ rfl rfl rfl _ _ _ _ _ _)
      (by (iterate 5 refine tap_skip _ _ _ _ _ _ rfl ?_); exact tap_hit c X (hb x0 x1) _ 2 0 _ _ _ _ rfl rfl rfl _ _ _ _ _ _) _ x, trivial⟩
  isplitl [Hk0_part79_8]
  · iexists _, _; isplitr; swap; · iexact Hk0_part79_8
    ipureintro; rfl
  isplitl [Hk0_part79_9]
  · iexists _, _; isplitr; swap; · iexact Hk0_part79_9
    ipureintro; rfl
  isplitl [Hk0_part79_1]; · iexact Hk0_part79_1
  isplitl [Hk0_part79_10 Hk0_part79_11 Hk0_part79_12 Hk0_part79_13 Hk0_part79_14 Hk0_part79_15]
  · isplitl [Hk0_part79_10]; · iexact Hk0_part79_10
    isplitl [Hk0_part79_11]; · iexact Hk0_part79_11
    isplitl [Hk0_part79_12]; · iexact Hk0_part79_12
    isplitl [Hk0_part79_13]; · iexact Hk0_part79_13
    isplitl [Hk0_part79_14]; · iexact Hk0_part79_14
    iexact Hk0_part79_15
  isplitl [Hk0_part79_2]; · iexact Hk0_part79_2
  iexists _; iexact Hk0_part79_16

end Cert.InKernelIdeal.Load

end
-- ==== Proof.InFrameIdeal.lean ====
/-
  The in-projection call's frame: the pipeline over its sixteen blocks of tokens, each point with the transfers its body
  makes itself, terminates; every argument array ends as it was launched and every semaphore counter at zero. Of the
  output arrays the convolution's and the gate's are named, block by block; nothing is said of the others. Between two
  points the scratch buffers hold the loaded weight and the rows the convolution carries.
-/
module

public import proofs.«01_k».proof.Proof.InRunIdeal
public import Idealize.ShloMosaic.Lib.Claim
public import proofs.«01_k».proof.Proof.Gen.InKernelIdeal.Frame
public import proofs.«01_k».proof.Proof.Gen.InKernelIdeal.Launch
public import proofs.«01_k».proof.Proof.Gen.InKernelIdeal.Points
public import Idealize.ShloMosaic.Lib.Ring
public import Idealize.ShloMosaic.Lib.Tactic
public import Idealize.ShloMosaic.Lib.WordCmp
public import Idealize.ShloMosaic.Lib.Pipeline.FrameBody
public import Idealize.ShloMosaic.Lib.Pipeline.Frame

@[expose] public section

set_option maxRecDepth 16384

noncomputable section

namespace Cert.InKernelIdeal.Load

open Cert.InKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD Dat Cfg Window BodyObligation cellOf)

variable {F : FTy → Type} [FloatOps F]

local notation "𝕄" => MT nD τ sig Unit (Elt F) ℕ (UD sig nD τ) ℕ

variable (m : (ℓ : Loc nD τ sig) → Buf (Elt F) ℓ) (ρ : Dev nD → PrngReg)

/-- @main up to the region. -/
theorem main_reaches (𝒱₀ : Variants) : Pipeline.HMain (Ix := Unit) (Name := ℕ) (U := UD sig nD τ) (Lvl := ℕ) cfgs 0 defs₀ 𝒱₀ m (main (F := F)) (V m) :=
  Pipeline.hmain_prefix cfgs 0 defs₀ 𝒱₀ m main hostOps0 hostOps0_sub hostOps0_fresh main_chain

/-- The carry's scratch buffer, whole. -/
abbrev sc : Memref sig .tc .vmem S8x1024 .f32 := Memref.whole cc0_scratch0
/-- Window 0's staging buffer at point `t`. -/
abbrev ms0 (t : Fin cfg0.N) : Memref sig .tc .vmem S512x2048 .f32 := win0_0.stage (cfg0.slots t 0)
/-- Window 1's staging buffer at point `t`. -/
abbrev ms1 (t : Fin cfg0.N) : Memref sig .tc .vmem S1x2048 .f32 := win0_1.stage (cfg0.slots t 1)
/-- Window 2's staging buffer at point `t`. -/
abbrev ms2 (t : Fin cfg0.N) : Memref sig .tc .vmem S3x1024 .f32 := win0_2.stage (cfg0.slots t 2)
/-- Window 3's staging buffer at point `t`. -/
abbrev ms3 (t : Fin cfg0.N) : Memref sig .tc .vmem S1x1024 .f32 := win0_3.stage (cfg0.slots t 3)
/-- Window 4's staging buffer at point `t`. -/
abbrev ms4 (t : Fin cfg0.N) : Memref sig .tc .vmem S64x1024 .f32 := win0_4.stage (cfg0.slots t 4)
/-- Window 5's staging buffer at point `t`. -/
abbrev ms5 (t : Fin cfg0.N) : Memref sig .tc .vmem S128x2048 .f32 := win0_5.stage (cfg0.slots t 5)
/-- Window 6's staging buffer at point `t`. -/
abbrev ms6 (t : Fin cfg0.N) : Memref sig .tc .vmem S512x1024 .bf16 := win0_6.stage (cfg0.slots t 6)
/-- Window 7's staging buffer at point `t`. -/
abbrev ms7 (t : Fin cfg0.N) : Memref sig .tc .vmem S64x64x128 .f32 := win0_7.stage (cfg0.slots t 7)
/-- Window 8's staging buffer at point `t`. -/
abbrev ms8 (t : Fin cfg0.N) : Memref sig .tc .vmem S512x1024 .bf16 := win0_8.stage (cfg0.slots t 8)
/-- Window 9's staging buffer at point `t`. -/
abbrev ms9 (t : Fin cfg0.N) : Memref sig .tc .vmem S64x1024 .bf16 := win0_9.stage (cfg0.slots t 9)
/-- Window 10's staging buffer at point `t`. -/
abbrev ms10 (t : Fin cfg0.N) : Memref sig .tc .vmem S128x2048 .bf16 := win0_10.stage (cfg0.slots t 10)

/-- The body's own semaphores. -/
abbrev osem : Fin 6 → SemLoc sig := fun j => (![SemLoc.dma 19, SemLoc.dma 20, SemLoc.dma 21, SemLoc.dma 22, SemLoc.dma 23, SemLoc.dma 24] : Fin 6 → SemLoc sig) j
theorem osem_facts : Pipeline.OwnSemFacts spec0 osem := by decide

theorem cells_eq (c : Dev nD) :
    (Pipeline.ownSems0 (Ix := Unit) (Name := ℕ) (U := UD sig nD τ) (Lvl := ℕ) (Val := Elt F) (τ := τ) osem c : sProp 𝕄) = cells c := by
  rw [Pipeline.ownSems0_eq_of_list c osem [0, 1, 2, 3, 4, 5] (by decide) (by decide)]; rfl

/-- The array the body copies from itself. -/
def far : Finset (Ref sig .tc) := {main_v3}
theorem far_sub : far ⊆ Pipeline.restRefs sig spec0 := by decide

theorem far_eq (c : Dev nD) :
    (bigSep far (fun b => ((c : Thread nD τ).loc b) ↦{fullShare} V m c b) : sProp 𝕄) = pt c (Memref.whole main_v3) (V m c main_v3) := by
  rw [BI.bigSep_eq_bigSepL_of_eq [main_v3] (by decide) (by decide)]; rfl

/-- The region's invariant, conjunct by conjunct. -/
theorem inv_eq (c : Dev nD) :
    (Pipeline.ΦD osem spec0 far (V m) c : sProp 𝕄)
      = iprop(iprop((∃ d, owns (c : Thread nD τ) sc fullShare d) ∗ (∃ d, owns (c : Thread nD τ) sa fullShare d) ∗ (∃ d, owns (c : Thread nD τ) sb fullShare d) ∗ (∃ d, owns (c : Thread nD τ) sw fullShare d))
          ∗ (∃ r, prngReg c r) ∗ cells c ∗ pt c (Memref.whole main_v3) (V m c main_v3)) := by
  rw [Pipeline.ΦD_eq, scopedRest0_eq, cells_eq, far_eq]; simp only [sc, sa, sb, sw, owns_whole]; try rfl

/-- The outputs of which nothing is claimed. -/
def outOnly : Fin 11 → Bool := fun w => decide (7 ≤ w.val ∧ w.val ≠ 8)

/-- The rows the convolution carries into point `n`. -/
def prev (c : Dev nD) (n : ℕ) : Vec F S8x1024 .f32 :=
  if h : n - 1 < cfg0.N then carried (hb (iblk m c 0 ⟨n - 1, h⟩) (iblk m c 1 ⟨n - 1, h⟩)) (wq (F := F) (V m c main_v3)) else fun _ => Scalar.ofBits .f32 0x00000000#32

/-- The invariant before point `n` once the weight is loaded. -/
def loaded (c : Dev nD) (n : ℕ) : sProp 𝕄 :=
  iprop(iprop(owns (c : Thread nD τ) sc fullShare (prev m c n) ∗ (∃ d, owns (c : Thread nD τ) sa fullShare d) ∗ (∃ d, owns (c : Thread nD τ) sb fullShare d) ∗ own c sw (wbuf c (V m c main_v3)))
    ∗ (∃ r, prngReg c r) ∗ cells c ∗ pt c (Memref.whole main_v3) (V m c main_v3))

/-- The invariant before point `n`. -/
def inv (c : Dev nD) (n : ℕ) : sProp 𝕄 := if n = 0 then Pipeline.ΦD osem spec0 far (V m) c else loaded m c n

theorem loaded_forget (c : Dev nD) (n : ℕ) : loaded m c n ⊢ (Pipeline.ΦD osem spec0 far (V m) c : sProp 𝕄) := by
  rw [inv_eq]
  unfold loaded
  iintro ⟨⟨SC, SA, SB, SW⟩, R⟩
  isplitl [SC SA SB SW]
  · isplitl [SC]; · iexists _; iexact SC
    isplitl [SA]; · iexact SA
    isplitl [SB]; · iexact SB
    unfold owns
    iexists _, _; isplitr; swap; · iexact SW
    ipureintro; rfl
  iexact R

theorem cond_at (t : Fin cfg0.N) : cond0_0 (grid0.coords t) ↔ t.val % 16 = 0 := by
  have e0 : (grid0.coords t 0).val = t.val / 1 % 16 := Pipeline.Grid.coords_val t 0 (by decide) rfl
  simp only [cond0_0, e0]; word_cmp

theorem cond1_at (t : Fin cfg0.N) : cond0_1 (grid0.coords t) ↔ t.val % 8 = 0 := by
  have key : ∀ i : grid0.Coords, cond0_1 i ↔ (i 0).val % 8 = 0 := by
    intro i
    obtain ⟨k, hk⟩ : ∃ k : Fin 16, i 0 = k := ⟨i 0, rfl⟩
    simp only [cond0_1, hk]; clear hk; revert k; decide
  have e0 : (grid0.coords t 0).val = t.val / 1 % 16 := Pipeline.Grid.coords_val t 0 (by decide) rfl
  refine (key _).trans ?_
  rw [e0]; omega

/-- The rows carried into point `t` where no sequence starts. -/
def into (c : Dev nD) (t : Fin cfg0.N) : Vec F S8x1024 .f32 := start (grid0.coords t) (prev m c t.val)

/-- The invariant before a point, opened: the weight is there unless the point is the first, and the carried rows are the
    previous point's unless a sequence starts. -/
theorem inv_open (c : Dev nD) (t : Fin cfg0.N) : inv m c t.val ⊢ (iprop(∃ fw p, ⌜(¬ cond0_0 (grid0.coords t) → fw = wbuf c (V m c main_v3)) ∧ start (grid0.coords t) p = into m c t⌝
    ∗ iprop(owns (c : Thread nD τ) sc fullShare p ∗ (∃ d, owns (c : Thread nD τ) sa fullShare d) ∗ (∃ d, owns (c : Thread nD τ) sb fullShare d) ∗ own c sw fw)
    ∗ (∃ r, prngReg c r) ∗ cells c ∗ pt c (Memref.whole main_v3) (V m c main_v3)) : sProp 𝕄) := by
  unfold inv
  split_ifs with h
  · rw [inv_eq]
    have hc0 : cond0_0 (grid0.coords t) := (cond_at t).mpr (by rw [h])
    have hc1 : cond0_1 (grid0.coords t) := cond_imp _ hc0
    iintro ⟨⟨⟨%p, SC⟩, SA, SB, ⟨%d, SW⟩⟩, R⟩
    unfold owns
    icases SW with ⟨%fw, -, SW⟩
    iexists fw, p
    isplitr
    · ipureintro; exact ⟨fun hn => absurd hc0 hn, by unfold into start; rw [if_pos hc1, if_pos hc1]⟩
    isplitl [SC SA SB SW]
    · isplitl [SC]; · iexact SC
      isplitl [SA]; · iexact SA
      isplitl [SB]; · iexact SB
      iexact SW
    iexact R
  · unfold loaded
    iintro ⟨SS, R⟩
    iexists _, _
    isplitr; swap
    · isplitl [SS]; · iexact SS
      iexact R
    ipureintro; exact ⟨fun _ => rfl, rfl⟩

/-- What the pipeline of core `c` holds: the arrays as the region finds them, each input's buffer at its block after
    every point, the convolution's and the gate's blocks named, the other outputs' at contents nothing names. -/
def dats (_ : Fin 1) (c : Dev nD) : Dat τ (Elt F) Unit ℕ (UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => ycblk (iblk m c 2 t) (iblk m c 3 t) (into m c t) (hb (iblk m c 0 t) (iblk m c 1 t)) (wq (F := F) (V m c main_v3))
    | ⟨7, h⟩ => Pipeline.Dat.unnamed (cfg := cfg0) ⟨7, h⟩ t
    | ⟨8, _⟩ => zblk (hb (iblk m c 0 t) (iblk m c 1 t)) (wq (F := F) (V m c main_v3))
    | ⟨9, h⟩ => Pipeline.Dat.unnamed (cfg := cfg0) ⟨9, h⟩ t
    | ⟨10, h⟩ => Pipeline.Dat.unnamed (cfg := cfg0) ⟨10, h⟩ t
  Φ t := inv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]

theorem after_6 (c : Dev nD) (t : Fin cfg0.N) : (dats m 0 c).after 6 t = ycblk (iblk m c 2 t) (iblk m c 3 t) (into m c t) (hb (iblk m c 0 t) (iblk m c 1 t)) (wq (F := F) (V m c main_v3)) := by dsimp only [dats]
theorem after_8 (c : Dev nD) (t : Fin cfg0.N) : (dats m 0 c).after 8 t = zblk (hb (iblk m c 0 t) (iblk m c 1 t)) (wq (F := F) (V m c main_v3)) := by dsimp only [dats]

/-- An input window's buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

theorem phi_succ (c : Dev nD) (t : Fin cfg0.N) : (dats m 0 c).Φ t.succ = loaded m c (t.val + 1) := by
  show inv m c (t.val + 1) = loaded m c (t.val + 1)
  unfold inv
  exact if_neg (Nat.succ_ne_zero _)

theorem prev_succ (c : Dev nD) (t : Fin cfg0.N) : prev m c (t.val + 1) = carried (hb (iblk m c 0 t) (iblk m c 1 t)) (wq (F := F) (V m c main_v3)) := by
  unfold prev
  exact dif_pos (show t.val + 1 - 1 < cfg0.N from t.isLt)

/-- What the body is given at point `t`. -/
def pre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare d)
    ∗ (∃ d, owns (c : Thread nD τ) (ms8 t) fullShare ((dats m 0 c).before 8 t d))
    ∗ (∃ d, owns (c : Thread nD τ) (ms9 t) fullShare d)
    ∗ (∃ d, owns (c : Thread nD τ) (ms10 t) fullShare d))

/-- What it gives back. -/
def post (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ (∃ d, owns (c : Thread nD τ) (ms7 t) fullShare d)
    ∗ owns (c : Thread nD τ) (ms8 t) fullShare ((dats m 0 c).after 8 t)
    ∗ (∃ d, owns (c : Thread nD τ) (ms9 t) fullShare d)
    ∗ (∃ d, owns (c : Thread nD τ) (ms10 t) fullShare d))

set_option maxHeartbeats 1600000 in
/-- The body at any point of the grid. -/
theorem body_ok (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5]
  rw [phi_succ,
    after_0, after_1, after_2, after_3, after_4, after_5, after_6, after_8]
  unfold Dat.owesAt Pipeline.owesWithin
  rw [show (dats m 0 c).owed t.castSucc = 0 from rfl, show (dats m 0 c).owed t.succ = 0 from rfl]
  rw [show (dats m 0 c).Φ t.castSucc = inv m c t.val from rfl]
  unfold loaded
  rw [prev_succ]
  iintro ⟨HI, ⟨%W, -, Ho⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  ihave HI := (inv_open m c t) $$ HI
  icases HI with ⟨%fw, %p, %hfp, ⟨SC, SA, SB, SW⟩, Hg, HC, HX⟩
  obtain ⟨hfw, hp⟩ := hfp
  rw [← hp]
  iapply (conv_run c (grid0.coords t) _ _ _ _ _ _ _ _ _ _ _ _ _ _ _ _ _ _ _ _ _ _ _ _ (V m c main_v3) (iblk m c 0 t) (iblk m c 1 t) (iblk m c 2 t) (iblk m c 3 t) (iblk m c 4 t) (iblk m c 5 t) p fw hfw W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [SC]; · iexact SC
  isplitl [SA]; · iexact SA
  isplitl [SB]; · iexact SB
  isplitl [SW]; · iexact SW
  isplitl [HC]; · iexact HC
  isplitl [HX]; · iexact HX
  isplitl [Ho]; · iexact Ho
  iintro ⟨H0, H1, H2, H3, H4, H5, H6, H7, H8, H9, H10, SC, SA, SB, SW, HC, HX, ⟨%W', Ho⟩⟩
  isplitl [SC SA SB SW Hg HC HX]
  · isplitl [SC SA SB SW]
    · isplitl [SC]; · iexact SC
      isplitl [SA]; · iexact SA
      isplitl [SB]; · iexact SB
      iexact SW
    isplitl [Hg]; · iexact Hg
    isplitl [HC]; · iexact HC
    iexact HX
  isplitl [Ho]
  · iexists W'; isplitr; · ipureintro; exact fun _ _ => Or.inl trivial
    iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row is the body as `bodyAt0` spells it. -/
theorem row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ outOnly := fun t => by
  rw [bigSep_W0, bigSep_W0, row]
  exact triple_restated (body_ok m c t) rfl .rfl fun _ => .rfl

set_option backward.isDefEq.respectTransparency.types false in
/-- The launch: it terminates, with the inputs' arrays and every buffer outside the pipeline as the region found them. -/
theorem launched : θ_run defs (onTc (τ := τ) (main (F := F))) (s₀ m ρ) (fun r => (Pipeline.RDat.FramePost (cfgs 0) (fun c => (dats m 0 c).toRForget outOnly) (V m)) r ∧ r.2.sem = fun _ => 0) :=
  Pipeline.θ_run_frame_dma_forget (Q' := _) cfgs (dats m) (0 : Fin 1) launch0 osem defs₀ Variants.none outOnly osem_facts far far_sub m ρ main
    (hbody := fun c => (obligation m c).loose) (hshare := fun c => (dats m 0 c).share_full fun _ => rfl)
    (howed := fun _ _ => rfl) (V := V m) (hmain := main_reaches m Variants.none) (hA := A_eq m) (hin := fun _ => .rfl) (hout := fun c => loaded_forget m c _)

/-- The arguments kept, in every final state. -/
def kept (c : Dev nD) (s : (ℓ : Loc nD τ sig) → Buf (Elt F) ℓ) : Prop :=
  s ((c.tc : Thread nD τ).loc main_arg0) = m ((c.tc : Thread nD τ).loc main_arg0)
    ∧ s ((c.tc : Thread nD τ).loc main_arg1) = m ((c.tc : Thread nD τ).loc main_arg1)
    ∧ s ((c.tc : Thread nD τ).loc main_arg2) = m ((c.tc : Thread nD τ).loc main_arg2)
    ∧ s ((c.tc : Thread nD τ).loc main_arg3) = m ((c.tc : Thread nD τ).loc main_arg3)
    ∧ s ((c.tc : Thread nD τ).loc main_arg4) = m ((c.tc : Thread nD τ).loc main_arg4)
    ∧ s ((c.tc : Thread nD τ).loc main_arg5) = m ((c.tc : Thread nD τ).loc main_arg5)
    ∧ s ((c.tc : Thread nD τ).loc main_arg6) = m ((c.tc : Thread nD τ).loc main_arg6)

/-- A run: the convolution's and the gate's arrays as the proof data computes them, and the arguments kept. -/
theorem run : θ_run defs (onTc (τ := τ) (main (F := F))) ⟨m, fun _ => 0, ρ⟩ (fun r => ∀ c : Dev nD,
      r.2.mem ((cfg0.spec 6).arr.view.loc (c.tc : Thread nD τ)) = (dats m 0 c).arrAt 6 (cfgs 0).N ∧ r.2.mem ((cfg0.spec 8).arr.view.loc (c.tc : Thread nD τ)) = (dats m 0 c).arrAt 8 (cfgs 0).N ∧ kept m c r.2.mem) :=
  (θ_run defs _ _).mono (fun _ h c => by
    replace h := h.1
    exact ⟨((dats m 0 c).toRForget_arrAt_iff rfl (cfgs 0).N _).mp ((h c).1 6), ((dats m 0 c).toRForget_arrAt_iff rfl (cfgs 0).N _).mp ((h c).1 8),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 2 rfl).trans ((A_eq m c 2).trans (V_main_arg3 m c)),
      ((h c).2 main_arg4 (Pipeline.mem_restRefs_of main_arg4 (by decide) (by decide))).trans (V_main_arg4 m c),
      (Pipeline.RDat.FramePost.arr_in h c 4 rfl).trans ((A_eq m c 4).trans (V_main_arg5 m c)),
      (Pipeline.RDat.FramePost.arr_in h c 5 rfl).trans ((A_eq m c 5).trans (V_main_arg6 m c))⟩) (launched m ρ)

/-- The frame: every argument array unchanged, every counter at zero. -/
theorem frame : θ_run defs (onTc (τ := τ) (main (F := F))) ⟨m, fun _ => 0, ρ⟩ (fun r => (∀ c : Dev nD, kept m c r.2.mem) ∧ r.2.sem = fun _ => 0) :=
  θ_run_and ((θ_run defs _ _).mono (fun _ h c => (h c).2.2) (run m ρ)) ((θ_run defs _ _).mono (fun _ h => h.2) (launched m ρ))

/-- The same run with the result's array and the arguments one by one. -/
theorem run_result : θ_run defs (onTc (τ := τ) (main (F := F))) ⟨m, fun _ => 0, ρ⟩ (fun r => ∀ c : Dev nD,
      r.2.mem ((c.tc : Thread nD τ).loc main_v4_0) = (dats m 0 c).arrAt 6 (cfgs 0).N
        ∧ r.2.mem ((c.tc : Thread nD τ).loc main_v4_2) = (dats m 0 c).arrAt 8 (cfgs 0).N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)) :=
  (θ_run defs _ _).mono (fun _ h c => h c) (run m ρ)

end Cert.InKernelIdeal.Load

end
-- ==== Proof.InSpec.lean ====
/-
  The gate of the in-projection, one token at a time, and the reference read at a token and a channel: the token's row
  normalised and scaled, projected, and each product times its logistic.
-/
module

public import proofs.«01_k».proof.Proof.Gen.InReferenceIdeal.Run
public import Idealize.ShloMosaic.Lib.Pipeline.ValueKit

@[expose] public section

set_option maxRecDepth 16384

noncomputable section

namespace Cert.InSpec

open Idealize.ShloMosaic

/-- The token's row, normalised and scaled. -/
def row (x g : Fin 2048 → EReal) (k : Fin 2048) : EReal :=
  x k * Ideal.rsqrt (Ideal.div (∑ k, x k * x k) (Ideal.ofBits .f32 1157627904#32) + Ideal.ofBits .f32 897988541#32) * g k

/-- The projection at column `j` of the weight. -/
def proj (h : Fin 2048 → EReal) (w : Fin 2048 → Fin 6144 → EReal) (j : Fin 6144) : EReal := ∑ k, h k * w k j

/-- The gate at channel `e`. -/
def gate (h : Fin 2048 → EReal) (w : Fin 2048 → Fin 6144 → EReal) (e : Fin 1024) : EReal :=
  proj h w ⟨5120 + e.val, by omega⟩ * Ideal.logistic (proj h w ⟨5120 + e.val, by omega⟩)

end Cert.InSpec

namespace Cert.InReferenceIdeal.Gate

open Cert.InReferenceIdeal Cert.InReferenceIdeal.Gen Idealize.ShloMosaic Idealize.ShloMosaic.TcCoe Idealize.SL.Sem

/-- The tokens' rows, normalised and scaled. -/
def rowArr (x : FVec Ideal S2x4096x2048 .f32) (g : FVec Ideal S2048 .f32) : FVec Ideal S2x4096x2048 .f32 :=
  mulf (mulf x (broadcastInDim S2x4096x2048 ![0, 1, 2] bcast_S2x4096x1_S2x4096x2048_0_1_2
      (Host.rsqrt (addf (Host.divf (broadcastInDim S2x4096x1 ![0, 1] bcast_S2x4096_S2x4096x1_0_1
          (Host.reduceAdd (mulf x x) (constant S_ .f32 0x00000000#32) reducesTo_S2x4096x2048_S2x4096_d2 h_S_))
        (broadcastInDim S2x4096x1 ![] bcast_S_S2x4096x1 (constant S_ .f32 0x45000000#32)))
        (broadcastInDim S2x4096x1 ![] bcast_S_S2x4096x1 (constant S_ .f32 0x358637BD#32))))))
    (broadcastInDim S2x4096x2048 ![0, 1, 2] bcast_S1x1x2048_S2x4096x2048_0_1_2 (broadcastInDim S1x1x2048 ![2] bcast_S2048_S1x1x2048_2 g))

/-- The projection. -/
def projArr (h : FVec Ideal S2x4096x2048 .f32) (w : FVec Ideal S2048x6144 .f32) : FVec Ideal S2x4096x6144 .f32 :=
  Host.dotGeneral dot_S2x4096x2048_S2048x6144_S2x4096x6144_2_0_01_1_n_n none h w

/-- The projection's last 1024 columns. -/
def lastArr (p : FVec Ideal S2x4096x6144 .f32) : FVec Ideal S2x4096x1024 .f32 :=
  extractStridedSlice S2x4096x1024 ![0, 0, 1024] (extractStridedSlice S2x4096x2048 ![0, 0, 4096] p slices_S2x4096x6144_S2x4096x2048_0_0_4096)
    slices_S2x4096x2048_S2x4096x1024_0_0_1024

/-- One, broadcast. -/
abbrev one : FVec Ideal S2x4096x1024 .f32 := broadcastInDim S2x4096x1024 ![] bcast_S_S2x4096x1024 (constant S_ .f32 0x3F800000#32)

/-- The gate. -/
def gateArr (z : FVec Ideal S2x4096x1024 .f32) : FVec Ideal S8192x1024 .bf16 :=
  truncf .bf16 (shapeCast S8192x1024 (mulf z (Host.divf one (addf one (Host.exp (Host.negf z))))) shapeCasts_S2x4096x1024_S8192x1024 : FVec Ideal S8192x1024 .f32) bitsLt_bf16_f32

/-- The reference, stage by stage. -/
def refArr (x : FVec Ideal S2x4096x2048 .f32) (g : FVec Ideal S2048 .f32) (w : FVec Ideal S2048x6144 .f32) : FVec Ideal S8192x1024 .bf16 :=
  gateArr (lastArr (projArr (rowArr x g) w))

theorem rowArr_apply (x : FVec Ideal S2x4096x2048 .f32) (g : FVec Ideal S2048 .f32) (b : Fin 2) (n : Fin 4096) (k : Fin 2048) :
    rowArr x g (ix3 b n k) = Cert.InSpec.row (fun k => x (ix3 b n k)) (fun k => g (ix1 k)) k := by
  unfold Cert.InSpec.row
  pointwise [rowArr]

theorem projArr_apply (h : FVec Ideal S2x4096x2048 .f32) (w : FVec Ideal S2048x6144 .f32) (b : Fin 2) (n : Fin 4096) (j : Fin 6144) :
    projArr h w (ix3 b n j) = ∑ k, h (ix3 b n k) * w (ix2 k j) := by
  pointwise [projArr]

theorem lastArr_apply (p : FVec Ideal S2x4096x6144 .f32) (b : Fin 2) (n : Fin 4096) (e : Fin 1024) :
    lastArr p (ix3 b n e) = p (ix3 b n ⟨5120 + e.val, by omega⟩) := by
  pointwise [lastArr]
  exact congrArg (fun j : Fin 6144 => p (ix3 b n j)) (Fin.ext (by show 4096 + (1024 + e.val) = 5120 + e.val; omega))

theorem gateArr_apply (z : FVec Ideal S2x4096x1024 .f32) (n : Fin 8192) (e : Fin 1024) :
    gateArr z (ix2 n e) = z (ix3 ⟨n.val / 4096, by omega⟩ ⟨n.val % 4096, by omega⟩ e)
      * Ideal.logistic (z (ix3 ⟨n.val / 4096, by omega⟩ ⟨n.val % 4096, by omega⟩ e)) := by
  pointwise [gateArr, Ideal.logistic]

/-- The reference at token `n` and channel `e`. -/
theorem refArr_apply (x : FVec Ideal S2x4096x2048 .f32) (g : FVec Ideal S2048 .f32) (w : FVec Ideal S2048x6144 .f32) (n : Fin 8192) (e : Fin 1024) :
    refArr x g w (ix2 n e) = Cert.InSpec.gate (Cert.InSpec.row (fun k => x (ix3 ⟨n.val / 4096, by omega⟩ ⟨n.val % 4096, by omega⟩ k)) (fun k => g (ix1 k)))
      (fun k j => w (ix2 k j)) e := by
  refine (gateArr_apply _ n e).trans ?_
  rw [lastArr_apply, projArr_apply]
  simp only [rowArr_apply]
  rfl

end Cert.InReferenceIdeal.Gate

end
-- ==== Proof.InRow.lean ====
/-
  What the in-projection's body leaves in the gate's block, at a token of the block and a channel: the gate's function of
  the token's row.
-/
module

public import proofs.«01_k».proof.Proof.InFrameIdeal
public import proofs.«01_k».proof.Proof.InSpec

@[expose] public section

set_option maxRecDepth 16384

noncomputable section

namespace Cert.InKernelIdeal.Load

open Cert.InKernelIdeal Cert.InKernelIdeal.Gen Idealize.ShloMosaic.TcCoe Idealize.SL.Sem
open Idealize.ShloMosaic hiding ix2 ix3
open Idealize.ShloMosaic.ValueIdx (ix2 ix3)

theorem hb_apply (x : Vec Ideal S512x2048 .f32) (g : Vec Ideal S1x2048 .f32) (n : Fin 512) (k : Fin 2048) :
    hb (F := Ideal) x g (ix2 n k : S512x2048.Idx) = Cert.InSpec.row (fun k => x (ix2 n k : S512x2048.Idx)) (fun k => g (ix2 (0 : Fin 1) k : S1x2048.Idx)) k := by
  unfold Cert.InSpec.row hb
  rw [shapeCast_self, shapeCast_self]
  pointwise []
  rfl

theorem wq_apply (X : Vec Ideal S4x512x6144 .f32) (k : Fin 2048) (j : Fin 6144) :
    wq (F := Ideal) X (ix2 k j : S2048x6144.Idx) = X (ix3 ⟨k.val / 512, by omega⟩ ⟨k.val % 512, by omega⟩ j : S4x512x6144.Idx) := rfl

theorem zcol_apply (h : Vec Ideal S512x2048 .bf16) (w : Vec Ideal S2048x6144 .bf16) (o : ℕ) (n : Fin 512) (d : Fin 256) :
    zcol (F := Ideal) h w o (ix2 n d : S512x256.Idx) = ∑ k : Fin 2048, h (ix2 n k : S512x2048.Idx) * w (ix2 k ⟨(o + d.val) % 6144, Nat.mod_lt _ (by decide)⟩ : S2048x6144.Idx) := by
  pointwise [zcol]
  rfl

theorem gate_apply (z : FVec Ideal S512x256 .f32) (j : S512x256.Idx) :
    (truncf .bf16 (mulf z (logistic z)) bitsLt_bf16_f32 : FVec Ideal S512x256 .bf16) j = z j * Ideal.logistic (z j) := by
  pointwise []

theorem zblk_apply (h : Vec Ideal S512x2048 .bf16) (w : Vec Ideal S2048x6144 .bf16) (n : Fin 512) (e : Fin 1024) :
    zblk (F := Ideal) h w (ix2 n e : S512x1024.Idx) = Cert.InSpec.gate (fun k => h (ix2 n k : S512x2048.Idx)) (fun k j => w (ix2 k j : S2048x6144.Idx)) e := by
  have ej : (⟨(5120 + 256 * (e.val / 256) + e.val % 256) % 6144, Nat.mod_lt _ (by decide)⟩ : Fin 6144) = ⟨5120 + e.val, by omega⟩ :=
    Fin.ext (by show (5120 + 256 * (e.val / 256) + e.val % 256) % 6144 = 5120 + e.val; omega)
  have ez : zcol (F := Ideal) h w (5120 + 256 * (e.val / 256)) (ix2 n ⟨e.val % 256, Nat.mod_lt _ (by decide)⟩ : S512x256.Idx)
      = Cert.InSpec.proj (fun k => h (ix2 n k : S512x2048.Idx)) (fun k j => w (ix2 k j : S2048x6144.Idx)) ⟨5120 + e.val, by omega⟩ := by
    refine (zcol_apply h w _ n _).trans ?_
    show ∑ k : Fin 2048, _ = ∑ k : Fin 2048, _
    refine Finset.sum_congr rfl fun k _ => ?_
    exact congrArg (fun j : Fin 6144 => h (ix2 n k : S512x2048.Idx) * w (ix2 k j : S2048x6144.Idx)) ej
  refine (gate_apply _ _).trans ?_
  unfold Cert.InSpec.gate
  rw [← ez]

end Cert.InKernelIdeal.Load

end
-- ==== Proof.InFinal.lean ====
/-
  The gate's array after the whole grid: at every token and channel the gate's function of the token's row of the
  arguments, which is the reference's value there.
-/
module

public import proofs.«01_k».proof.Proof.InRow
public import Idealize.ShloMosaic.Lib.Claim

@[expose] public section

set_option maxRecDepth 16384

noncomputable section

namespace Cert.InKernelIdeal.Load

open Cert.InKernelIdeal Cert.InKernelIdeal.Gen Idealize.ShloMosaic.TcCoe Idealize.SL.Sem
open Idealize.ShloMosaic hiding ix2 ix3
open Idealize.ShloMosaic.ValueIdx (ix2 ix3)

variable (m : (ℓ : Loc nD τ sig) → Buf (Elt Ideal) ℓ)

theorem idx : ∀ t : Fin cfg0.N, win0_0.index t = ![t.val, 0] ∧ win0_1.index t = ![0, 0] ∧ win0_8.index t = ![t.val, 0] :=
  (by decide +kernel : ∀ t : Fin grid0.N, _)

/-- Token `n` of block `t`. -/
def tokOf (t : Fin cfg0.N) (n : Fin 512) : Fin 8192 := ⟨t.val * 512 + n.val, by have h : t.val < 16 := t.isLt; omega⟩

theorem blk0 (c : Dev nD) (t : Fin cfg0.N) (n : Fin 512) (k : Fin 2048) :
    (iblk m c 0 t : Vec Ideal S512x2048 .f32) (ix2 n k : S512x2048.Idx) = m ((c.tc : Thread nD τ).loc main_arg0)
      (ix3 ⟨(tokOf t n).val / 4096, by omega⟩ ⟨(tokOf t n).val % 4096, by omega⟩ k : S2x4096x2048.Idx) := by
  unfold tokOf
  blk_point [iblk, V, idx t]

theorem blk1 (c : Dev nD) (t : Fin cfg0.N) (k : Fin 2048) :
    (iblk m c 1 t : Vec Ideal S1x2048 .f32) (ix2 (0 : Fin 1) k : S1x2048.Idx) = m ((c.tc : Thread nD τ).loc main_arg1) (ix1 k : S2048.Idx) := by
  blk_point [iblk, V, idx t]

theorem weight (c : Dev nD) (k : Fin 2048) (j : Fin 6144) :
    (V m c main_v3 : Vec Ideal S4x512x6144 .f32) (ix3 ⟨k.val / 512, by omega⟩ ⟨k.val % 512, by omega⟩ j : S4x512x6144.Idx)
      = m ((c.tc : Thread nD τ).loc main_arg2) (ix2 k j : S2048x6144.Idx) := by
  have e : (V m c main_v3 : Vec Ideal S4x512x6144 .f32) = shapeCast S4x512x6144 (m ((c.tc : Thread nD τ).loc main_arg2) : Vec Ideal S2048x6144 .f32) shapeCasts_S2048x6144_S4x512x6144 := by
    unfold_abbrev_sides
    after_results
    rfl
  refine (congrFun e _).trans (shapeCast_apply _ _ _ _ ?_)
  show (S2048x6144.rowMajor (ix2 k j)).val = (S4x512x6144.rowMajor (ix3 ⟨k.val / 512, by omega⟩ ⟨k.val % 512, by omega⟩ j)).val
  rw [Shape.rowMajor_val_two, Shape.rowMajor_val_three]
  show k.val * 6144 + j.val = (k.val / 512 * 512 + k.val % 512) * 6144 + j.val
  rw [Nat.div_add_mod']

theorem gate_point (c : Dev nD) (t : Fin cfg0.N) (n : Fin 512) (e : Fin 1024) :
    zblk (F := Ideal) (hb (iblk m c 0 t) (iblk m c 1 t)) (wq (V m c main_v3)) (ix2 n e : S512x1024.Idx) =
    Cert.InReferenceIdeal.Gate.refArr (m ((c.tc : Thread nD τ).loc main_arg0)) (m ((c.tc : Thread nD τ).loc main_arg1)) (m ((c.tc : Thread nD τ).loc main_arg2))
      (Idealize.ShloMosaic.ix2 (tokOf t n) e) := by
  refine (zblk_apply _ _ n e).trans ?_
  refine Eq.trans ?_ (Cert.InReferenceIdeal.Gate.refArr_apply _ _ _ (tokOf t n) e).symm
  simp only [hb_apply, wq_apply, blk0 m, blk1 m, weight m]
  rfl

theorem final (c : Dev nD) : (dats m 0 c).arrAt 8 (cfgs 0).N =
    Cert.InReferenceIdeal.Gate.refArr (m ((c.tc : Thread nD τ).loc main_arg0)) (m ((c.tc : Thread nD τ).loc main_arg1)) (m ((c.tc : Thread nD τ).loc main_arg2)) := by
  refine (dats m 0 c).arrAt_eq_of_covers 8 _ (by decide +kernel) fun t _ y => ?_
  blk_simp
  rw [after_8]
  have ey : y = (ix2 (y 0) (y 1) : S512x1024.Idx) := by
    funext a
    match a with
    | ⟨0, _⟩ => rfl
    | ⟨1, _⟩ => rfl
  refine (congrArg (zblk (F := Ideal) (hb (iblk m c 0 t) (iblk m c 1 t)) (wq (V m c main_v3))) ey).trans ((gate_point m c t (y 0) (y 1)).trans ?_)
  unfold tokOf
  blk_ext [idx t]

end Cert.InKernelIdeal.Load

end
-- ==== Proof.InConvSpec.lean ====
/-
  The layer's short convolution, one token at a time, and the reference read at a token and a channel: the products of
  the projection's second and third groups at the token and at the two before it in its sequence, weighted and summed
  with the bias, times the first group and the gate of the fourth.
-/
module

public import proofs.«01_k».proof.Proof.InSpec
public import Idealize.ShloMosaic.Lib.KernelVsHost

@[expose] public section

set_option maxRecDepth 16384

noncomputable section

namespace Cert.InSpec

open Idealize.ShloMosaic

/-- The convolution's input at channel `e`. -/
def convIn (h : Fin 2048 → EReal) (w : Fin 2048 → Fin 6144 → EReal) (e : Fin 1024) : EReal :=
  proj h w ⟨1024 + e.val, by omega⟩ * proj h w ⟨2048 + e.val, by omega⟩

/-- The tokens' values `d` tokens back in the sequence, zero before its start. -/
def back (f : Fin 8192 → EReal) (d : ℕ) (n : Fin 8192) : EReal := if n.val % 4096 < d then 0 else f ⟨n.val - d, by omega⟩

/-- The gated convolution at channel `e`, from the convolution's input one and two tokens back. -/
def gatedConv (h : Fin 2048 → EReal) (w : Fin 2048 → Fin 6144 → EReal) (cw : Fin 3 → EReal) (cb c1 c2 : EReal) (e : Fin 1024) : EReal :=
  proj h w ⟨e.val, by omega⟩ * (cb + cw 2 * convIn h w e + cw 1 * c1 + cw 0 * c2)
    * (proj h w ⟨3072 + e.val, by omega⟩ * Ideal.logistic (proj h w ⟨3072 + e.val, by omega⟩))

end Cert.InSpec

namespace Cert.InReferenceIdeal.Gate

open Cert.InReferenceIdeal Cert.InReferenceIdeal.Gen Idealize.ShloMosaic Idealize.ShloMosaic.TcCoe Idealize.SL.Sem

/-- The projection's first 4096 columns. -/
def headArr (p : FVec Ideal S2x4096x6144 .f32) : FVec Ideal S2x4096x4096 .f32 := extractStridedSlice S2x4096x4096 ![0, 0, 0] p slices_S2x4096x6144_S2x4096x4096_0_0_0

/-- Their four groups. -/
def g0 (p : FVec Ideal S2x4096x6144 .f32) : FVec Ideal S2x4096x1024 .f32 := extractStridedSlice S2x4096x1024 ![0, 0, 0] (headArr p) slices_S2x4096x4096_S2x4096x1024_0_0_0
@[inherit_doc g0] def g1 (p : FVec Ideal S2x4096x6144 .f32) : FVec Ideal S2x4096x1024 .f32 := extractStridedSlice S2x4096x1024 ![0, 0, 1024] (headArr p) slices_S2x4096x4096_S2x4096x1024_0_0_1024
@[inherit_doc g0] def g2 (p : FVec Ideal S2x4096x6144 .f32) : FVec Ideal S2x4096x1024 .f32 := extractStridedSlice S2x4096x1024 ![0, 0, 2048] (headArr p) slices_S2x4096x4096_S2x4096x1024_0_0_2048
@[inherit_doc g0] def g3 (p : FVec Ideal S2x4096x6144 .f32) : FVec Ideal S2x4096x1024 .f32 := extractStridedSlice S2x4096x1024 ![0, 0, 3072] (headArr p) slices_S2x4096x4096_S2x4096x1024_0_0_3072

/-- The convolution's input, two zero tokens before each sequence. -/
def padArr (v : FVec Ideal S2x4096x1024 .f32) : FVec Ideal S2x4098x1024 .f32 :=
  pad S2x4098x1024 ![0, 2, 0] ![0, 0, 0] ![0, 0, 0] v (constant S_ .f32 0x00000000#32 : FVec Ideal S_ .f32) pads_S2x4096x1024_S2x4098x1024_000_200_000 h_S_

/-- A row of 1024 channels at every token. -/
def every (r : FVec Ideal S1024 .f32) : FVec Ideal S2x4096x1024 .f32 :=
  broadcastInDim S2x4096x1024 ![0, 1, 2] bcast_S1x1x1024_S2x4096x1024_0_1_2 (broadcastInDim S1x1x1024 ![2] bcast_S1024_S1x1x1024_2 r)

/-- The rows of the convolution's weight. -/
def r0 (cw : FVec Ideal S3x1024 .f32) : FVec Ideal S1024 .f32 := shapeCast S1024 (extractStridedSlice S1x1024 ![0, 0] cw slices_S3x1024_S1x1024_0_0) shapeCasts_S1x1024_S1024
@[inherit_doc r0] def r1 (cw : FVec Ideal S3x1024 .f32) : FVec Ideal S1024 .f32 := shapeCast S1024 (extractStridedSlice S1x1024 ![1, 0] cw slices_S3x1024_S1x1024_1_0) shapeCasts_S1x1024_S1024
@[inherit_doc r0] def r2 (cw : FVec Ideal S3x1024 .f32) : FVec Ideal S1024 .f32 := shapeCast S1024 (extractStridedSlice S1x1024 ![2, 0] cw slices_S3x1024_S1x1024_2_0) shapeCasts_S1x1024_S1024

/-- The convolution's input shifted by two, one and no tokens. -/
def s2 (v : FVec Ideal S2x4096x1024 .f32) : FVec Ideal S2x4096x1024 .f32 := extractStridedSlice S2x4096x1024 ![0, 0, 0] (padArr v) slices_S2x4098x1024_S2x4096x1024_0_0_0
@[inherit_doc s2] def s1 (v : FVec Ideal S2x4096x1024 .f32) : FVec Ideal S2x4096x1024 .f32 := extractStridedSlice S2x4096x1024 ![0, 1, 0] (padArr v) slices_S2x4098x1024_S2x4096x1024_0_1_0
@[inherit_doc s2] def s0 (v : FVec Ideal S2x4096x1024 .f32) : FVec Ideal S2x4096x1024 .f32 := extractStridedSlice S2x4096x1024 ![0, 2, 0] (padArr v) slices_S2x4098x1024_S2x4096x1024_0_2_0

/-- The convolution. -/
def convArr (v : FVec Ideal S2x4096x1024 .f32) (cw : FVec Ideal S3x1024 .f32) (cb : FVec Ideal S1024 .f32) : FVec Ideal S2x4096x1024 .f32 :=
  addf (addf (addf (every cb) (mulf (every (r0 cw)) (s2 v))) (mulf (every (r1 cw)) (s1 v))) (mulf (every (r2 cw)) (s0 v))

/-- The gated convolution. -/
def ycArr (b c z : FVec Ideal S2x4096x1024 .f32) : FVec Ideal S8192x1024 .bf16 :=
  truncf .bf16 (shapeCast S8192x1024 (mulf (mulf b c) (mulf z (Host.divf one (addf one (Host.exp (Host.negf z)))))) shapeCasts_S2x4096x1024_S8192x1024 : FVec Ideal S8192x1024 .f32) bitsLt_bf16_f32

/-- The reference, stage by stage. -/
def convRef (x : FVec Ideal S2x4096x2048 .f32) (g : FVec Ideal S2048 .f32) (w : FVec Ideal S2048x6144 .f32) (cw : FVec Ideal S3x1024 .f32) (cb : FVec Ideal S1024 .f32) : FVec Ideal S8192x1024 .bf16 :=
  ycArr (g0 (projArr (rowArr x g) w)) (convArr (mulf (g1 (projArr (rowArr x g) w)) (g2 (projArr (rowArr x g) w))) cw cb) (g3 (projArr (rowArr x g) w))

section
variable (p : FVec Ideal S2x4096x6144 .f32) (b : Fin 2) (n : Fin 4096) (e : Fin 1024)

theorem g0_apply : g0 p (ix3 b n e) = p (ix3 b n ⟨e.val, by omega⟩) := by
  pointwise [g0, headArr]
theorem g1_apply : g1 p (ix3 b n e) = p (ix3 b n ⟨1024 + e.val, by omega⟩) := by
  pointwise [g1, headArr]
theorem g2_apply : g2 p (ix3 b n e) = p (ix3 b n ⟨2048 + e.val, by omega⟩) := by
  pointwise [g2, headArr]
theorem g3_apply : g3 p (ix3 b n e) = p (ix3 b n ⟨3072 + e.val, by omega⟩) := by
  pointwise [g3, headArr]
end

section
variable (v : FVec Ideal S2x4096x1024 .f32) (cw : FVec Ideal S3x1024 .f32) (cb : FVec Ideal S1024 .f32) (b : Fin 2) (n : Fin 4096) (e : Fin 1024)

theorem padArr_in (k : Fin 4098) (hk : 2 ≤ k.val) : padArr v (ix3 b k e) = v (ix3 b ⟨k.val - 2, by omega⟩ e) := by
  refine pad_apply_of_inside _ _ _ v _ _ _ _ (ix3 b ⟨k.val - 2, by omega⟩ e) fun a => ?_
  fin_cases a
  · show b.val = 0 + b.val * (0 + 1); omega
  · show k.val = 2 + (k.val - 2) * (0 + 1); omega
  · show e.val = 0 + e.val * (0 + 1); omega

theorem padArr_out (k : Fin 4098) (hk : k.val < 2) : padArr v (ix3 b k e) = 0 := by
  refine (pad_apply_of_not_inside _ _ _ v _ _ _ _ (1 : Fin 3) fun h => ?_).trans Ideal.ofBits_zero_f32
  have h1 : 2 ≤ k.val := h.1
  omega

/-- The shifted input: `d` tokens back, or zero. -/
def shifted (d : ℕ) : EReal := if n.val < d then 0 else v (ix3 b ⟨n.val - d, by omega⟩ e)

theorem pad_shifted (k : Fin 4098) (d : ℕ) (hd : d ≤ 2) (hk : k.val + d = n.val + 2) : padArr v (ix3 b k e) = shifted v b n e d := by
  unfold shifted
  split_ifs with h
  · exact padArr_out v b e k (by omega)
  · refine (padArr_in v b e k (by omega)).trans ?_
    exact congrArg (fun j : Fin 4096 => v (ix3 b j e)) (Fin.ext (by show k.val - 2 = n.val - d; omega))

theorem s2_apply : s2 v (ix3 b n e) = shifted v b n e 2 :=
  (extractStridedSlice_apply _ _ _ _ (ix3 b ⟨n.val, by omega⟩ e) fun a => by fin_cases a <;> (show _ = 0 + _; exact (Nat.zero_add _).symm)).trans
    (pad_shifted v b n e _ 2 (by decide) rfl)
theorem s1_apply : s1 v (ix3 b n e) = shifted v b n e 1 :=
  (extractStridedSlice_apply _ _ _ _ (ix3 b ⟨1 + n.val, by omega⟩ e) fun a => by
    fin_cases a
    · exact (Nat.zero_add _).symm
    · rfl
    · exact (Nat.zero_add _).symm).trans (pad_shifted v b n e _ 1 (by decide) (by show 1 + n.val + 1 = n.val + 2; omega))
theorem s0_apply : s0 v (ix3 b n e) = v (ix3 b n e) :=
  ((extractStridedSlice_apply _ _ _ _ (ix3 b ⟨2 + n.val, by omega⟩ e) fun a => by
    fin_cases a
    · exact (Nat.zero_add _).symm
    · rfl
    · exact (Nat.zero_add _).symm).trans (pad_shifted v b n e _ 0 (by decide) (by show 2 + n.val + 0 = n.val + 2; omega))).trans
    (if_neg (Nat.not_lt_zero _))

theorem every_apply (r : FVec Ideal S1024 .f32) : every r (ix3 b n e) = r (ix1 e) := by
  pointwise [every]
theorem r0_apply : r0 cw (ix1 e) = cw (ix2 0 e) := by
  pointwise [r0]
theorem r1_apply : r1 cw (ix1 e) = cw (ix2 1 e) := by
  pointwise [r1]
theorem r2_apply : r2 cw (ix1 e) = cw (ix2 2 e) := by
  pointwise [r2]

theorem convArr_apply : convArr v cw cb (ix3 b n e)
    = cb (ix1 e) + cw (ix2 2 e) * v (ix3 b n e) + cw (ix2 1 e) * shifted v b n e 1 + cw (ix2 0 e) * shifted v b n e 2 := by
  have h : convArr v cw cb (ix3 b n e) = every cb (ix3 b n e) + every (r0 cw) (ix3 b n e) * s2 v (ix3 b n e)
      + every (r1 cw) (ix3 b n e) * s1 v (ix3 b n e) + every (r2 cw) (ix3 b n e) * s0 v (ix3 b n e) := rfl
  rw [h, every_apply, every_apply, every_apply, every_apply, r0_apply, r1_apply, r2_apply, s0_apply, s1_apply, s2_apply]
  have ac : ∀ a b c d : EReal, a + b + c + d = a + d + c + b := fun a b c d => by ac_rfl
  exact ac _ _ _ _
end

theorem ycArr_apply (b c z : FVec Ideal S2x4096x1024 .f32) (n : Fin 8192) (e : Fin 1024) :
    ycArr b c z (ix2 n e) = b (ix3 ⟨n.val / 4096, by omega⟩ ⟨n.val % 4096, by omega⟩ e) * c (ix3 ⟨n.val / 4096, by omega⟩ ⟨n.val % 4096, by omega⟩ e)
      * (z (ix3 ⟨n.val / 4096, by omega⟩ ⟨n.val % 4096, by omega⟩ e) * Ideal.logistic (z (ix3 ⟨n.val / 4096, by omega⟩ ⟨n.val % 4096, by omega⟩ e))) := by
  pointwise [ycArr, Ideal.logistic]

/-- A token's row of the arguments, normalised and scaled. -/
def tokRow (x : FVec Ideal S2x4096x2048 .f32) (g : FVec Ideal S2048 .f32) (n : Fin 8192) : Fin 2048 → EReal :=
  Cert.InSpec.row (fun k => x (ix3 ⟨n.val / 4096, by omega⟩ ⟨n.val % 4096, by omega⟩ k)) (fun k => g (ix1 k))

/-- The convolution's input at a token and a channel. -/
def tokIn (x : FVec Ideal S2x4096x2048 .f32) (g : FVec Ideal S2048 .f32) (w : FVec Ideal S2048x6144 .f32) (e : Fin 1024) (n : Fin 8192) : EReal :=
  Cert.InSpec.convIn (tokRow x g n) (fun k j => w (ix2 k j)) e

theorem proj_tok (x : FVec Ideal S2x4096x2048 .f32) (g : FVec Ideal S2048 .f32) (w : FVec Ideal S2048x6144 .f32) (n : Fin 8192) (j : Fin 6144) :
    projArr (rowArr x g) w (ix3 ⟨n.val / 4096, by omega⟩ ⟨n.val % 4096, by omega⟩ j) = Cert.InSpec.proj (tokRow x g n) (fun k j => w (ix2 k j)) j := by
  rw [projArr_apply]
  simp only [rowArr_apply]
  rfl

theorem in_tok (x : FVec Ideal S2x4096x2048 .f32) (g : FVec Ideal S2048 .f32) (w : FVec Ideal S2048x6144 .f32) (n : Fin 8192) (e : Fin 1024) :
    (mulf (g1 (projArr (rowArr x g) w)) (g2 (projArr (rowArr x g) w)) : FVec Ideal S2x4096x1024 .f32) (ix3 ⟨n.val / 4096, by omega⟩ ⟨n.val % 4096, by omega⟩ e)
      = tokIn x g w e n := by
  refine (show _ = g1 (projArr (rowArr x g) w) _ * g2 (projArr (rowArr x g) w) _ from rfl).trans ?_
  rw [g1_apply, g2_apply, proj_tok, proj_tok]
  rfl

theorem shifted_tok (x : FVec Ideal S2x4096x2048 .f32) (g : FVec Ideal S2048 .f32) (w : FVec Ideal S2048x6144 .f32) (n : Fin 8192) (e : Fin 1024) (d : ℕ) :
    shifted (mulf (g1 (projArr (rowArr x g) w)) (g2 (projArr (rowArr x g) w))) ⟨n.val / 4096, by omega⟩ ⟨n.val % 4096, by omega⟩ e d
      = Cert.InSpec.back (tokIn x g w e) d n := by
  unfold shifted Cert.InSpec.back
  split_ifs with h
  · rfl
  · rw [← in_tok]
    have h0 : d ≤ n.val % 4096 := Nat.le_of_not_lt h
    have e0 : (⟨n.val / 4096, by omega⟩ : Fin 2) = ⟨(n.val - d) / 4096, by omega⟩ := Fin.ext (by show n.val / 4096 = (n.val - d) / 4096; omega)
    have e1 : (⟨n.val % 4096 - d, by omega⟩ : Fin 4096) = ⟨(n.val - d) % 4096, by omega⟩ := Fin.ext (by show n.val % 4096 - d = (n.val - d) % 4096; omega)
    exact congrArg₂ (fun (b : Fin 2) (k : Fin 4096) => (mulf (g1 (projArr (rowArr x g) w)) (g2 (projArr (rowArr x g) w)) : FVec Ideal S2x4096x1024 .f32) (ix3 b k e)) e0 e1

/-- The reference at token `n` and channel `e`. -/
theorem convRef_apply (x : FVec Ideal S2x4096x2048 .f32) (g : FVec Ideal S2048 .f32) (w : FVec Ideal S2048x6144 .f32) (cw : FVec Ideal S3x1024 .f32) (cb : FVec Ideal S1024 .f32)
    (n : Fin 8192) (e : Fin 1024) :
    convRef x g w cw cb (ix2 n e) = Cert.InSpec.gatedConv (tokRow x g n) (fun k j => w (ix2 k j)) (fun r => cw (ix2 r e)) (cb (ix1 e))
      (Cert.InSpec.back (tokIn x g w e) 1 n) (Cert.InSpec.back (tokIn x g w e) 2 n) e := by
  refine (ycArr_apply _ _ _ n e).trans ?_
  rw [convArr_apply, g0_apply, g3_apply, in_tok, shifted_tok, shifted_tok, proj_tok, proj_tok]
  rfl

end Cert.InReferenceIdeal.Gate

end
-- ==== Proof.InConvRow.lean ====
/-
  What the in-projection's body leaves in the convolution's block, at a token of the block and a channel: the gated
  convolution of the token's row and of the convolution's input one and two tokens back, which are the block's own or,
  for its first tokens, the carried rows'.
-/
module

public import proofs.«01_k».proof.Proof.InRow
public import proofs.«01_k».proof.Proof.InConvSpec

@[expose] public section

set_option maxRecDepth 16384

noncomputable section

namespace Cert.InKernelIdeal.Load

open Cert.InKernelIdeal Cert.InKernelIdeal.Gen Idealize.ShloMosaic.TcCoe Idealize.SL.Sem
open Idealize.ShloMosaic hiding ix2 ix3
open Idealize.ShloMosaic.ValueIdx (ix2 ix3)

section
variable (h : Vec Ideal S512x2048 .bf16) (w : Vec Ideal S2048x6144 .bf16)

theorem tap_apply (j q : ℕ) (hj : j < 4) (hq : q < 8) (n : Fin 512) (d : Fin 128) :
    tap (F := Ideal) h w j q (ix2 n d : S512x128.Idx)
      = Cert.InSpec.proj (fun k => h (ix2 n k : S512x2048.Idx)) (fun k j => w (ix2 k j : S2048x6144.Idx)) ⟨1024 * j + 128 * q + d.val, by omega⟩ := by
  have ej : (⟨(1024 * j + 256 * (q / 2) + (128 * (q % 2) + d.val) % 256) % 6144, Nat.mod_lt _ (by decide)⟩ : Fin 6144) = ⟨1024 * j + 128 * q + d.val, by omega⟩ :=
    Fin.ext (by show (1024 * j + 256 * (q / 2) + (128 * (q % 2) + d.val) % 256) % 6144 = 1024 * j + 128 * q + d.val; omega)
  refine (zcol_apply h w (1024 * j + 256 * (q / 2)) n ⟨(128 * (q % 2) + d.val) % 256, Nat.mod_lt _ (by decide)⟩).trans ?_
  unfold Cert.InSpec.proj
  exact Finset.sum_congr rfl fun k _ => congrArg (fun j : Fin 6144 => h (ix2 n k : S512x2048.Idx) * w (ix2 k j : S2048x6144.Idx)) ej

/-- The same with the channel given whole. -/
theorem tap_chan (j : ℕ) (hj : j < 4) (n : Fin 512) (e : Fin 1024) :
    tap (F := Ideal) h w j (e.val / 128) (ix2 n ⟨e.val % 128, Nat.mod_lt _ (by decide)⟩ : S512x128.Idx)
      = Cert.InSpec.proj (fun k => h (ix2 n k : S512x2048.Idx)) (fun k j => w (ix2 k j : S2048x6144.Idx)) ⟨1024 * j + e.val, by omega⟩ :=
  (tap_apply h w j (e.val / 128) hj (by omega) n _).trans
    (congrArg (Cert.InSpec.proj _ _) (Fin.ext (by show 1024 * j + 128 * (e.val / 128) + e.val % 128 = 1024 * j + e.val; omega)))

theorem cvin_apply (n : Fin 512) (e : Fin 1024) :
    cvin (F := Ideal) h w (e.val / 128) (ix2 n ⟨e.val % 128, Nat.mod_lt _ (by decide)⟩ : S512x128.Idx)
      = Cert.InSpec.convIn (fun k => h (ix2 n k : S512x2048.Idx)) (fun k j => w (ix2 k j : S2048x6144.Idx)) e :=
  congrArg₂ (fun a b : EReal => a * b) (tap_chan h w 1 (by decide) n e) (tap_chan h w 2 (by decide) n e)

theorem carried_apply (r : Fin 8) (e : Fin 1024) :
    carried (F := Ideal) h w (ix2 r e : S8x1024.Idx)
      = Cert.InSpec.convIn (fun k => h (ix2 (⟨504 + r.val, by omega⟩ : Fin 512) k : S512x2048.Idx)) (fun k j => w (ix2 k j : S2048x6144.Idx)) e :=
  cvin_apply h w ⟨504 + r.val, by omega⟩ e
end

theorem ext_apply (P : FVec Ideal S8x128 .f32) (V : FVec Ideal S512x128 .f32) (k : ℕ) (hk : k ≤ 8) (hs : S520x128.Slices ![8 - k, 0] S512x128) (n : Fin 512) (d : Fin 128) :
    (extractStridedSlice S512x128 ![8 - k, 0] (ext P V) hs) (ix2 n d : S512x128.Idx)
      = if hn : n.val < k then P (ix2 (⟨8 - k + n.val, by omega⟩ : Fin 8) d : S8x128.Idx) else V (ix2 (⟨n.val - k, by omega⟩ : Fin 512) d : S512x128.Idx) := by
  refine (extractStridedSlice_apply _ _ _ _ (ix2 (⟨8 - k + n.val, by omega⟩ : Fin 520) d : S520x128.Idx) fun a => ?_).trans ?_
  · fin_cases a
    · rfl
    · show d.val = 0 + d.val; omega
  unfold ext
  split_ifs with hn
  · refine concatenate_pair_apply_left (t := S520x128) (0 : Fin 2) P V _ _ rfl (ix2 (⟨8 - k + n.val, by omega⟩ : Fin 8) d : S8x128.Idx) fun b => ?_
    fin_cases b <;> rfl
  · refine concatenate_pair_apply_right (t := S520x128) (0 : Fin 2) P V _ _ rfl rfl (ix2 (⟨n.val - k, by omega⟩ : Fin 512) d : S512x128.Idx) (fun b hb => ?_) ?_
    · fin_cases b
      · exact absurd rfl hb
      · rfl
    · show n.val - k + 8 = 8 - k + n.val; omega

theorem spread_apply (R : FVec Ideal S1x128 .f32) (n : Fin 512) (d : Fin 128) :
    (broadcastTo S512x128 R broadcasts_S1x128_S512x128) (ix2 n d : S512x128.Idx) = R (ix2 (0 : Fin 1) d : S1x128.Idx) := by
  pointwise []
  rfl

theorem gated_apply (B V Z : FVec Ideal S512x128 .f32) (P : FVec Ideal S8x128 .f32) (R0 R1 R2 C : FVec Ideal S1x128 .f32) (n : Fin 512) (d : Fin 128) :
    gated (F := Ideal) B V Z P R0 R1 R2 C (ix2 n d : S512x128.Idx)
      = B (ix2 n d : S512x128.Idx) * (C (ix2 (0 : Fin 1) d : S1x128.Idx) + R2 (ix2 (0 : Fin 1) d : S1x128.Idx) * V (ix2 n d : S512x128.Idx)
          + R1 (ix2 (0 : Fin 1) d : S1x128.Idx) * (if hn : n.val < 1 then P (ix2 (⟨8 - 1 + n.val, by omega⟩ : Fin 8) d : S8x128.Idx) else V (ix2 (⟨n.val - 1, by omega⟩ : Fin 512) d : S512x128.Idx))
          + R0 (ix2 (0 : Fin 1) d : S1x128.Idx) * (if hn : n.val < 2 then P (ix2 (⟨8 - 2 + n.val, by omega⟩ : Fin 8) d : S8x128.Idx) else V (ix2 (⟨n.val - 2, by omega⟩ : Fin 512) d : S512x128.Idx)))
        * (Z (ix2 n d : S512x128.Idx) * Ideal.logistic (Z (ix2 n d : S512x128.Idx))) := by
  unfold gated
  rw [shapeCast_self]
  have h : ∀ (x7 x6 : FVec Ideal S512x128 .f32), (truncf .bf16 (mulf (mulf B (addf (addf (addf (broadcastTo S512x128 C broadcasts_S1x128_S512x128)
      (mulf (broadcastTo S512x128 R2 broadcasts_S1x128_S512x128) V)) (mulf (broadcastTo S512x128 R1 broadcasts_S1x128_S512x128) x7))
      (mulf (broadcastTo S512x128 R0 broadcasts_S1x128_S512x128) x6))) (mulf Z (logistic Z))) bitsLt_bf16_f32 : FVec Ideal S512x128 .bf16) (ix2 n d : S512x128.Idx)
      = B (ix2 n d : S512x128.Idx) * ((broadcastTo S512x128 C broadcasts_S1x128_S512x128) (ix2 n d : S512x128.Idx)
          + (broadcastTo S512x128 R2 broadcasts_S1x128_S512x128) (ix2 n d : S512x128.Idx) * V (ix2 n d : S512x128.Idx)
          + (broadcastTo S512x128 R1 broadcasts_S1x128_S512x128) (ix2 n d : S512x128.Idx) * x7 (ix2 n d : S512x128.Idx)
          + (broadcastTo S512x128 R0 broadcasts_S1x128_S512x128) (ix2 n d : S512x128.Idx) * x6 (ix2 n d : S512x128.Idx))
        * (Z (ix2 n d : S512x128.Idx) * Ideal.logistic (Z (ix2 n d : S512x128.Idx))) := fun _ _ => rfl
  refine (h _ _).trans ?_
  rw [spread_apply, spread_apply, spread_apply, spread_apply]
  rw [show (extractStridedSlice S512x128 ![7, 0] (ext P V) slices_S520x128_o7_0_S512x128) (ix2 n d : S512x128.Idx) = _ from ext_apply P V 1 (by decide) slices_S520x128_o7_0_S512x128 n d]
  rw [show (extractStridedSlice S512x128 ![6, 0] (ext P V) slices_S520x128_o6_0_S512x128) (ix2 n d : S512x128.Idx) = _ from ext_apply P V 2 (by decide) slices_S520x128_o6_0_S512x128 n d]

/-- The convolution's input `k` tokens back from token `n` of a block. -/
def backIn (p : Vec Ideal S8x1024 .f32) (h : Vec Ideal S512x2048 .bf16) (w : Vec Ideal S2048x6144 .bf16) (k : ℕ) (hk : k ≤ 8) (n : Fin 512) (e : Fin 1024) : EReal :=
  if hn : n.val < k then p (ix2 (⟨8 - k + n.val, by omega⟩ : Fin 8) e : S8x1024.Idx)
  else Cert.InSpec.convIn (fun j => h (ix2 (⟨n.val - k, by omega⟩ : Fin 512) j : S512x2048.Idx)) (fun k j => w (ix2 k j : S2048x6144.Idx)) e

theorem chan (e : Fin 1024) : (⟨(128 * (e.val / 128) + e.val % 128) % 1024, Nat.mod_lt _ (by decide)⟩ : Fin 1024) = e :=
  Fin.ext (by show (128 * (e.val / 128) + e.val % 128) % 1024 = e.val; omega)

theorem ycblk_apply (cw : Vec Ideal S3x1024 .f32) (cb : Vec Ideal S1x1024 .f32) (p : Vec Ideal S8x1024 .f32) (h : Vec Ideal S512x2048 .bf16) (w : Vec Ideal S2048x6144 .bf16) (n : Fin 512) (e : Fin 1024) :
    ycblk (F := Ideal) cw cb p h w (ix2 n e : S512x1024.Idx)
      = Cert.InSpec.gatedConv (fun k => h (ix2 n k : S512x2048.Idx)) (fun k j => w (ix2 k j : S2048x6144.Idx)) (fun r => cw (ix2 r e : S3x1024.Idx)) (cb (ix2 (0 : Fin 1) e : S1x1024.Idx))
        (backIn p h w 1 (by decide) n e) (backIn p h w 2 (by decide) n e) e := by
  have eP : ∀ r : Fin 8, pRow (F := Ideal) p (e.val / 128) (ix2 r ⟨e.val % 128, Nat.mod_lt _ (by decide)⟩ : S8x128.Idx) = p (ix2 r e : S8x1024.Idx) :=
    fun r => congrArg (fun j : Fin 1024 => p (ix2 r j : S8x1024.Idx)) (chan e)
  have eW : ∀ r : Fin 3, cwRow (F := Ideal) cw r (e.val / 128) (ix2 (0 : Fin 1) ⟨e.val % 128, Nat.mod_lt _ (by decide)⟩ : S1x128.Idx) = cw (ix2 r e : S3x1024.Idx) :=
    fun r => congrArg (fun j : Fin 1024 => cw (ix2 r j : S3x1024.Idx)) (chan e)
  have eB : cbRow (F := Ideal) cb (e.val / 128) (ix2 (0 : Fin 1) ⟨e.val % 128, Nat.mod_lt _ (by decide)⟩ : S1x128.Idx) = cb (ix2 (0 : Fin 1) e : S1x1024.Idx) :=
    congrArg (fun j : Fin 1024 => cb (ix2 (0 : Fin 1) j : S1x1024.Idx)) (chan e)
  have e0 : (⟨1024 * 0 + e.val, by omega⟩ : Fin 6144) = ⟨e.val, by omega⟩ := Fin.ext (by show 1024 * 0 + e.val = e.val; omega)
  refine (gated_apply _ _ _ _ _ _ _ _ n ⟨e.val % 128, Nat.mod_lt _ (by decide)⟩).trans ?_
  unfold Cert.InSpec.gatedConv backIn
  simp only [eP]
  rw [← e0, ← tap_chan h w 0 (by decide) n e]
  rw [show (⟨3072 + e.val, by omega⟩ : Fin 6144) = ⟨1024 * 3 + e.val, by omega⟩ from rfl, ← tap_chan h w 3 (by decide) n e]
  simp only [← cvin_apply, ← eW, ← eB]

end Cert.InKernelIdeal.Load

end
-- ==== Proof.InConvFinal.lean ====
/-
  The convolution's array after the whole grid: at every token and channel the gated convolution of the token's row of the
  arguments and of the two tokens before it in its sequence, which is the reference's value there.
-/
module

public import proofs.«01_k».proof.Proof.InFinal
public import proofs.«01_k».proof.Proof.InConvRow

@[expose] public section

set_option maxRecDepth 16384

noncomputable section

namespace Cert.InKernelIdeal.Load

open Cert.InKernelIdeal Cert.InKernelIdeal.Gen Idealize.ShloMosaic.TcCoe Idealize.SL.Sem
open Idealize.ShloMosaic hiding ix2 ix3
open Idealize.ShloMosaic.ValueIdx (ix2 ix3)

variable (m : (ℓ : Loc nD τ sig) → Buf (Elt Ideal) ℓ)

theorem conv_idx : ∀ t : Fin cfg0.N, win0_2.index t = ![0, 0] ∧ win0_3.index t = ![0, 0] ∧ win0_6.index t = ![t.val, 0] :=
  (by decide +kernel : ∀ t : Fin grid0.N, _)

theorem blk2 (c : Dev nD) (t : Fin cfg0.N) (r : Fin 3) (e : Fin 1024) :
    (iblk m c 2 t : Vec Ideal S3x1024 .f32) (ix2 r e : S3x1024.Idx) = m ((c.tc : Thread nD τ).loc main_arg3) (ix2 r e : S3x1024.Idx) := by
  blk_point [iblk, V, conv_idx t]

theorem blk3 (c : Dev nD) (t : Fin cfg0.N) (e : Fin 1024) :
    (iblk m c 3 t : Vec Ideal S1x1024 .f32) (ix2 (0 : Fin 1) e : S1x1024.Idx) = m ((c.tc : Thread nD τ).loc main_arg4) (ix1 e : S1024.Idx) := by
  blk_point [iblk, V, conv_idx t]

theorem row_at (c : Dev nD) (t : Fin cfg0.N) (n : Fin 512) :
    (fun k : Fin 2048 => hb (F := Ideal) (iblk m c 0 t) (iblk m c 1 t) (ix2 n k : S512x2048.Idx))
      = Cert.InReferenceIdeal.Gate.tokRow (m ((c.tc : Thread nD τ).loc main_arg0)) (m ((c.tc : Thread nD τ).loc main_arg1)) (tokOf t n) := by
  funext k
  rw [hb_apply]
  simp only [blk0 m, blk1 m]
  rfl

theorem weight_at (c : Dev nD) :
    (fun (k : Fin 2048) (j : Fin 6144) => wq (F := Ideal) (V m c main_v3) (ix2 k j : S2048x6144.Idx)) = fun k j => m ((c.tc : Thread nD τ).loc main_arg2) (ix2 k j : S2048x6144.Idx) := by
  funext k j
  rw [wq_apply]
  exact weight m c k j

/-- The convolution's input at token `n` of block `t`. -/
theorem in_at (c : Dev nD) (t : Fin cfg0.N) (n : Fin 512) (e : Fin 1024) :
    Cert.InSpec.convIn (fun k => hb (F := Ideal) (iblk m c 0 t) (iblk m c 1 t) (ix2 n k : S512x2048.Idx)) (fun k j => wq (F := Ideal) (V m c main_v3) (ix2 k j : S2048x6144.Idx)) e
      = Cert.InReferenceIdeal.Gate.tokIn (m ((c.tc : Thread nD τ).loc main_arg0)) (m ((c.tc : Thread nD τ).loc main_arg1)) (m ((c.tc : Thread nD τ).loc main_arg2)) e (tokOf t n) := by
  rw [row_at, weight_at]
  rfl

/-- The input one or two tokens back is the sequence's, across blocks too. -/
theorem back_at (c : Dev nD) (t : Fin cfg0.N) (n : Fin 512) (e : Fin 1024) (k : ℕ) (hk : k ≤ 8) :
    backIn (into m c t) (hb (iblk m c 0 t) (iblk m c 1 t)) (wq (V m c main_v3)) k hk n e
      = Cert.InSpec.back (Cert.InReferenceIdeal.Gate.tokIn (m ((c.tc : Thread nD τ).loc main_arg0)) (m ((c.tc : Thread nD τ).loc main_arg1)) (m ((c.tc : Thread nD τ).loc main_arg2)) e) k (tokOf t n) := by
  have ht : t.val < 16 := t.isLt
  have hn := n.isLt
  have etok : (tokOf t n).val = t.val * 512 + n.val := rfl
  unfold backIn Cert.InSpec.back
  by_cases h : n.val < k
  · rw [dif_pos h]
    unfold into start
    by_cases h1 : cond0_1 (grid0.coords t)
    · have h8 := (cond1_at t).mp h1
      rw [if_pos h1, if_pos (by omega)]
      exact Ideal.ofBits_zero_f32
    · have h8 : ¬ t.val % 8 = 0 := fun h0 => h1 ((cond1_at t).mpr h0)
      rw [if_neg h1, if_neg (by omega)]
      unfold prev
      have hN : t.val - 1 < cfg0.N := by have : cfg0.N = 16 := rfl; omega
      rw [dif_pos hN]
      refine (carried_apply _ _ (⟨8 - k + n.val, by omega⟩ : Fin 8) e).trans ((in_at m c ⟨t.val - 1, hN⟩ _ e).trans ?_)
      refine congrArg (Cert.InReferenceIdeal.Gate.tokIn _ _ _ e) (Fin.ext ?_)
      show (t.val - 1) * 512 + (504 + (8 - k + n.val)) = t.val * 512 + n.val - k
      omega
  · rw [dif_neg h, if_neg (by omega)]
    refine (in_at m c t _ e).trans ?_
    refine congrArg (Cert.InReferenceIdeal.Gate.tokIn _ _ _ e) (Fin.ext ?_)
    show t.val * 512 + (n.val - k) = t.val * 512 + n.val - k
    omega

theorem conv_point (c : Dev nD) (t : Fin cfg0.N) (n : Fin 512) (e : Fin 1024) :
    ycblk (F := Ideal) (iblk m c 2 t) (iblk m c 3 t) (into m c t) (hb (iblk m c 0 t) (iblk m c 1 t)) (wq (V m c main_v3)) (ix2 n e : S512x1024.Idx) =
    Cert.InReferenceIdeal.Gate.convRef (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (Idealize.ShloMosaic.ix2 (tokOf t n) e) := by
  refine (ycblk_apply _ _ _ _ _ n e).trans ?_
  refine Eq.trans ?_ (Cert.InReferenceIdeal.Gate.convRef_apply _ _ _ _ _ (tokOf t n) e).symm
  rw [row_at, weight_at, back_at, back_at]
  simp only [blk2 m, blk3 m]
  rfl

theorem conv_final (c : Dev nD) : (dats m 0 c).arrAt 6 (cfgs 0).N =
    Cert.InReferenceIdeal.Gate.convRef (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  refine (dats m 0 c).arrAt_eq_of_covers 6 _ (by decide +kernel) fun t _ y => ?_
  blk_simp
  rw [after_6]
  have ey : y = (ix2 (y 0) (y 1) : S512x1024.Idx) := by
    funext a
    match a with
    | ⟨0, _⟩ => rfl
    | ⟨1, _⟩ => rfl
  refine (congrArg (ycblk (F := Ideal) (iblk m c 2 t) (iblk m c 3 t) (into m c t) (hb (iblk m c 0 t) (iblk m c 1 t)) (wq (V m c main_v3))) ey).trans ((conv_point m c t (y 0) (y 1)).trans ?_)
  unfold tokOf
  blk_ext [conv_idx t]

end Cert.InKernelIdeal.Load

end
-- ==== Proof.InAlgebraic.lean ====
/- The claim that the in-projection's kernel computes its reference's gated convolution and gate. -/
module

public import proofs.«01_k».proof.Defs
public import proofs.«01_k».proof.Proof.InConvFinal
public import Idealize.ShloMosaic.Lib.Claim
public import Idealize.ShloMosaic.Lib.Quiescent

@[expose] public section

set_option maxRecDepth 16384

noncomputable section

namespace Cert.InReferenceIdeal.Gate

open Cert.InReferenceIdeal Idealize.ShloMosaic Idealize.ShloMosaic.TcCoe Idealize.SL.Sem

/-- The reference's run, its two results stage by stage. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v64) = convRef (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))
      ∧ r.2.mem ((c.tc : Thread nD τ).loc main_v66) = refArr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans (by unfold Cert.InReferenceIdeal.Value.res_main_v64; rfl), (h c).2.1, (h c).2.2⟩)
    (Cert.InReferenceIdeal.Value.run (F := Ideal) m ρ)

end Cert.InReferenceIdeal.Gate

namespace Cert.Proof

open Idealize.ShloMosaic Idealize.SL.Sem

/-- The reference keeps its arguments and ends with every semaphore as it was. -/
theorem inReference_frame : Cert.quiescent_InReferenceIdeal (hInReferenceIdeal := Cert.InReferenceIdeal.Gen.facts) := by
  intro m g _
  exact (θ_run Cert.InReferenceIdeal.defs _ _).mono
    (fun r h => ⟨fun c => (h c).2.2, sem_eq_zero_of_no_sems (sig := Cert.InReferenceIdeal.sig) rfl r.2⟩)
    (Cert.InReferenceIdeal.Value.run (F := Ideal) m g)

theorem in_algebraic : Cert.algebraic_InKernelIdeal_InReferenceIdeal
    (hInKernelIdeal := Cert.InKernelIdeal.Gen.facts) (hInReferenceIdeal := Cert.InReferenceIdeal.Gen.facts) := by
  pair_intro
  · run_from Cert.InKernelIdeal.Load.run_result m g
  · run_from Cert.InReferenceIdeal.Gate.run m' g'
    · exact (Cert.InKernelIdeal.Load.conv_final m c).symm
    · exact (Cert.InKernelIdeal.Load.final m c).symm

end Cert.Proof

end
-- ==== Proof.lean ====
module

public import proofs.«01_k».proof.Defs
public import proofs.«01_k».proof.Proof.ScanFrame
public import proofs.«01_k».proof.Proof.ScanFrameIdeal
public import proofs.«01_k».proof.Proof.Gen.Kernel
public import proofs.«01_k».proof.Proof.Gen.KernelIdeal
public import proofs.«01_k».proof.Proof.Gen.OutKernel.Frame
public import proofs.«01_k».proof.Proof.Gen.OutKernelIdeal.Frame
public import proofs.«01_k».proof.Proof.Gen.OutKernelIdeal.Value
public import proofs.«01_k».proof.Proof.Gen.OutReferenceIdeal.Run
public import proofs.«01_k».proof.Proof.OutAlgebraic
public import proofs.«01_k».proof.Proof.InFrame
public import proofs.«01_k».proof.Proof.InFrameIdeal
public import proofs.«01_k».proof.Proof.InAlgebraic
public import proofs.«01_k».proof.Proof.Gen.InKernel
public import proofs.«01_k».proof.Proof.Gen.InKernelIdeal
public import proofs.«01_k».proof.Proof.Gen.InKernel.Skeleton
public import proofs.«01_k».proof.Proof.Gen.InKernel.Launch
public import proofs.«01_k».proof.Proof.Gen.InKernel.Points
public import proofs.«01_k».proof.Proof.Gen.InKernel.Frame
public import proofs.«01_k».proof.Proof.Gen.InKernelIdeal.Skeleton
public import proofs.«01_k».proof.Proof.Gen.InKernelIdeal.Launch
public import proofs.«01_k».proof.Proof.Gen.InKernelIdeal.Points
public import proofs.«01_k».proof.Proof.Gen.InKernelIdeal.Frame
public import proofs.«01_k».proof.Proof.Gen.InReferenceIdeal.Run
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.OutKernel.Gen.facts, Cert.OutKernelIdeal.Gen.facts, Cert.OutReferenceIdeal.Gen.facts,
    Cert.InKernel.Gen.facts, Cert.InKernelIdeal.Gen.facts, Cert.InReferenceIdeal.Gen.facts,
    fun m ρ _ => Cert.Kernel.Scan.frame m ρ, fun m ρ _ => Cert.KernelIdeal.Scan.frame m ρ,
    fun m ρ _ => Cert.OutKernel.Gen.frame m ρ, fun m ρ _ => Cert.OutKernelIdeal.Gen.frame m ρ, outReference_frame,
    fun m ρ _ => Cert.InKernel.Load.frame m ρ, fun m ρ _ => Cert.InKernelIdeal.Load.frame m ρ, inReference_frame,
    trivial, trivial, out_algebraic, trivial, in_algebraic⟩

end Cert.Proof

end
